-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_name_classes [hPre_labels_name_classes : Cert.Pre_labels_name_classes.Facts] (m : (ℓ : Loc Cert.KernelIdeal.nD Cert.KernelIdeal.τ Cert.KernelIdeal.sig) → Buf (Elt Ideal) ℓ) : Prop :=
  ∀ c : Dev Cert.KernelIdeal.nD,
    (Cert.Pre_labels_name_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_name_classes [hPre_labels_name_classes : Cert.Pre_labels_name_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_name_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_name_classes [hKernelIdeal : Cert.KernelIdeal.Facts] [hPre_labels_name_classes : Cert.Pre_labels_name_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_name_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_name_classes [hReferenceIdeal : Cert.ReferenceIdeal.Facts] [hPre_labels_name_classes : Cert.Pre_labels_name_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_name_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_name_classes [hKernelIdeal : Cert.KernelIdeal.Facts] [hReferenceIdeal : Cert.ReferenceIdeal.Facts] [hPre_labels_name_classes : Cert.Pre_labels_name_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_name_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_name_classes : Cert.Pre_labels_name_classes.Facts),
    quiescent_Kernel (hKernel := hKernel)
    ∧ quiescent_KernelIdeal (hKernelIdeal := hKernelIdeal)
    ∧ quiescent_KernelIdeal_pre_labels_name_classes (hKernelIdeal := hKernelIdeal) (hPre_labels_name_classes := hPre_labels_name_classes)
    ∧ quiescent_ReferenceIdeal (hReferenceIdeal := hReferenceIdeal)
    ∧ quiescent_ReferenceIdeal_pre_labels_name_classes (hReferenceIdeal := hReferenceIdeal) (hPre_labels_name_classes := hPre_labels_name_classes)
    ∧ preserves_Kernel_KernelIdeal
    ∧ algebraic_KernelIdeal_ReferenceIdeal_pre_labels_name_classes (hKernelIdeal := hKernelIdeal) (hReferenceIdeal := hReferenceIdeal) (hPre_labels_name_classes := hPre_labels_name_classes)
-- ==== Pre_labels_name_classes.lean ====
abbrev S8x256x128x128 : Shape := ⟨4, ![8, 256, 128, 128]⟩
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)

variable [Facts]

def fn {F : FTy → Type} [FloatOps F] (main_arg0 : FVec F S8x256x128x128 .f32) (main_arg1 : FVec F S8x256x128x128 .f32) (main_arg2 : IVec S8x512x512 32) : IVec S8x512x512 1 :=
  let main_c : IVec S_ 32 := constantI S_ 32 0#32
  let main_v0 : IVec S8x512x512 32 := broadcastInDim S8x512x512 ![] bcast_S_S8x512x512 main_c
  let main_v1 : IVec S8x512x512 1 := cmpi .sge main_arg2 main_v0
  let main_c_0 : IVec S_ 32 := constantI S_ 32 19#32
  let main_v2 : IVec S8x512x512 32 := broadcastInDim S8x512x512 ![] bcast_S_S8x512x512 main_c_0
  let main_v3 : IVec S8x512x512 1 := cmpi .slt main_arg2 main_v2
  let main_v4 : IVec S8x512x512 1 := andi main_v1 main_v3
  main_v4
-- ==== Kernel.lean ====
abbrev S8x256x128x128 : Shape := ⟨4, ![8, 256, 128, 128]⟩
abbrev S8x512x512 : Shape := ⟨3, ![8, 512, 512]⟩
abbrev S1x1 : Shape := ⟨2, ![1, 1]⟩
abbrev S1x512x512 : Shape := ⟨3, ![1, 512, 512]⟩
abbrev S3x8x256x128 : Shape := ⟨4, ![3, 8, 256, 128]⟩
abbrev S3x8x2 : Shape := ⟨3, ![3, 8, 2]⟩
abbrev S128x128 : Shape := ⟨2, ![128, 128]⟩
abbrev S256x32 : Shape := ⟨2, ![256, 32]⟩
abbrev S32x128 : Shape := ⟨2, ![32, 128]⟩
abbrev S1x1x1 : Shape := ⟨3, ![1, 1, 1]⟩
abbrev S_ : Shape := ⟨0, ![]⟩
abbrev S1x1x256x128 : Shape := ⟨4, ![1, 1, 256, 128]⟩
abbrev S256x128 : Shape := ⟨2, ![256, 128]⟩
abbrev S1x256x1x128 : Shape := ⟨4, ![1, 256, 1, 128]⟩
abbrev S512x512 : Shape := ⟨2, ![512, 512]⟩
abbrev S512x128 : Shape := ⟨2, ![512, 128]⟩
abbrev S128x512 : Shape := ⟨2, ![128, 512]⟩
abbrev S1x128 : Shape := ⟨2, ![1, 128]⟩
abbrev S32 : Shape := ⟨1, ![32]⟩
abbrev S1x32 : Shape := ⟨2, ![1, 32]⟩
abbrev S32x32 : Shape := ⟨2, ![32, 32]⟩
abbrev S1 : Shape := ⟨1, ![1]⟩

abbrev nBuf : Space → Nat
  | .hbm => 4
  | .vmem => 9
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S8x512x512, .i32⟩
  | .hbm, ⟨3, _⟩ => ⟨S1x1, .f32⟩
  | .local _ .vmem, ⟨0, _⟩ => ⟨S1x512x512, .i32⟩
  | .local _ .vmem, ⟨1, _⟩ => ⟨S1x512x512, .i32⟩
  | .local _ .vmem, ⟨2, _⟩ => ⟨S1x1, .f32⟩
  | .local _ .vmem, ⟨3, _⟩ => ⟨S3x8x256x128, .f32⟩
  | .local _ .vmem, ⟨4, _⟩ => ⟨S3x8x256x128, .f32⟩
  | .local _ .vmem, ⟨5, _⟩ => ⟨S128x128, .f32⟩
  | .local _ .vmem, ⟨6, _⟩ => ⟨S256x32, .f32⟩
  | .local _ .vmem, ⟨7, _⟩ => ⟨S256x32, .f32⟩
  | .local _ .vmem, ⟨8, _⟩ => ⟨S32x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c128_i32 : BitVec 32 := 128#32
  let v43 : BitVec 1 := Scalar.cmpi .slt v42 c128_i32
  let v44 : BitVec 32 := Scalar.extui v43
  let c0_i32_19 : BitVec 32 := 0#32
  let v45 : BitVec 1 := Scalar.cmpi .ne v44 c0_i32_19
  v45

def k0_off1 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c0_i32_273 : BitVec 32 := 0#32
  let c0_i32_274 : BitVec 32 := 0#32
  ![v453.toNat, 0, 0]
def k0_off2 (i : grid0.Coords) : Fin 4 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c0_i32_272 : BitVec 32 := 0#32
  let c0_i32_275 : BitVec 32 := 0#32
  let c0_i32_276 : BitVec 32 := 0#32
  ![v453.toNat, 0, 0, 0]
def k0_off3 (i : grid0.Coords) (c0_i32_271 : BitVec 32) : Fin 4 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c0_i32_265 : BitVec 32 := 0#32
  let v466 : BitVec 1 := Scalar.cmpi .sgt v42 c0_i32_265
  let v467 : BitVec 32 := Scalar.extui v466
  let c0_i32_266 : BitVec 32 := 0#32
  let v468 : BitVec 1 := Scalar.cmpi .slt v42 c0_i32_266
  let v469 : BitVec 32 := Scalar.extui v468
  let v470 : BitVec 32 := Scalar.subi v467 v469
  let c16_i32_264 : BitVec 32 := 16#32
  let c0_i32_267 : BitVec 32 := 0#32
  let v471 : BitVec 1 := Scalar.cmpi .sgt c16_i32_264 c0_i32_267
  let v472 : BitVec 32 := Scalar.extui v471
  let c0_i32_268 : BitVec 32 := 0#32
  let v473 : BitVec 1 := Scalar.cmpi .slt c16_i32_264 c0_i32_268
  let v474 : BitVec 32 := Scalar.extui v473
  let v475 : BitVec 32 := Scalar.subi v472 v474
  let v476 : BitVec 1 := Scalar.cmpi .ne v470 v475
  let v477 : BitVec 32 := Scalar.remsi v42 c16_i32_264
  let c0_i32_269 : BitVec 32 := 0#32
  let v478 : BitVec 1 := Scalar.cmpi .ne v477 c0_i32_269
  let v479 : BitVec 1 := Scalar.andi v476 v478
  let v465 : BitVec 32 := Scalar.divsi v42 c16_i32_264
  let c1_i32_270 : BitVec 32 := 1#32
  let v480 : BitVec 32 := Scalar.subi v465 c1_i32_270
  let v481 : BitVec 32 := Scalar.select v479 v480 v465
  let c0_i32_277 : BitVec 32 := 0#32
  let c16_i32_257 : BitVec 32 := 16#32
  let c0_i32_258 : BitVec 32 := 0#32
  let v454 : BitVec 1 := Scalar.cmpi .eq c16_i32_257 c0_i32_258
  let c1_i32_259 : BitVec 32 := 1#32
  let v455 : BitVec 32 := Scalar.select v454 c1_i32_259 c16_i32_257
  let v456 : BitVec 32 := Scalar.remsi v42 v455
  let c0_i32_261 : BitVec 32 := 0#32
  let v458 : BitVec 1 := Scalar.cmpi .slt v456 c0_i32_261
  let c0_i32_262 : BitVec 32 := 0#32
  let v459 : BitVec 1 := Scalar.cmpi .slt v455 c0_i32_262
  let v460 : BitVec 1 := Scalar.xori v458 v459
  let c0_i32_260 : BitVec 32 := 0#32
  let v457 : BitVec 1 := Scalar.cmpi .ne v456 c0_i32_260
  let v461 : BitVec 1 := Scalar.andi v460 v457
  let v462 : BitVec 32 := Scalar.addi v456 v455
  let v463 : BitVec 32 := Scalar.select v461 v462 v456
  let c8_i32_263 : BitVec 32 := 8#32
  let v464 : BitVec 32 := Scalar.muli v463 c8_i32_263
  let v482 : BitVec 32 := Scalar.addi v464 c0_i32_271
  let c0_i32_278 : BitVec 32 := 0#32
  ![v481.toNat, 0, v482.toNat, 0]
def k0_off4 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c0_i32_281 : BitVec 32 := 0#32
  let c1_i32_282 : BitVec 32 := 1#32
  ![v453.toNat, 0, 1]
def k0_off5 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c1_i32_289 : BitVec 32 := 1#32
  let c0_i32_290 : BitVec 32 := 0#32
  ![v453.toNat, 1, 0]
def k0_off6 (i : grid0.Coords) : Fin 4 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c1_i32_288 : BitVec 32 := 1#32
  let c0_i32_291 : BitVec 32 := 0#32
  let c0_i32_292 : BitVec 32 := 0#32
  ![v453.toNat, 1, 0, 0]
def k0_off7 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c1_i32_297 : BitVec 32 := 1#32
  let c1_i32_298 : BitVec 32 := 1#32
  ![v453.toNat, 1, 1]
def k0_off8 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c2_i32_305 : BitVec 32 := 2#32
  let c0_i32_306 : BitVec 32 := 0#32
  ![v453.toNat, 2, 0]
def k0_off9 (i : grid0.Coords) : Fin 4 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c2_i32_304 : BitVec 32 := 2#32
  let c0_i32_307 : BitVec 32 := 0#32
  let c0_i32_308 : BitVec 32 := 0#32
  ![v453.toNat, 2, 0, 0]
def k0_off10 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c2_i32_313 : BitVec 32 := 2#32
  let c1_i32_314 : BitVec 32 := 1#32
  ![v453.toNat, 2, 1]
def k0_off11 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c3_i32_321 : BitVec 32 := 3#32
  let c0_i32_322 : BitVec 32 := 0#32
  ![v453.toNat, 3, 0]
def k0_off12 (i : grid0.Coords) : Fin 4 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c3_i32_320 : BitVec 32 := 3#32
  let c0_i32_323 : BitVec 32 := 0#32
  let c0_i32_324 : BitVec 32 := 0#32
  ![v453.toNat, 3, 0, 0]
def k0_off13 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c3_i32_329 : BitVec 32 := 3#32
  let c1_i32_330 : BitVec 32 := 1#32
  ![v453.toNat, 3, 1]
def k0_off14 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c4_i32_337 : BitVec 32 := 4#32
  let c0_i32_338 : BitVec 32 := 0#32
  ![v453.toNat, 4, 0]
def k0_off15 (i : grid0.Coords) : Fin 4 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c4_i32_336 : BitVec 32 := 4#32
  let c0_i32_339 : BitVec 32 := 0#32
  let c0_i32_340 : BitVec 32 := 0#32
  ![v453.toNat, 4, 0, 0]
def k0_off16 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c4_i32_345 : BitVec 32 := 4#32
  let c1_i32_346 : BitVec 32 := 1#32
  ![v453.toNat, 4, 1]
def k0_off17 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c5_i32_353 : BitVec 32 := 5#32
  let c0_i32_354 : BitVec 32 := 0#32
  ![v453.toNat, 5, 0]
def k0_off18 (i : grid0.Coords) : Fin 4 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c5_i32_352 : BitVec 32 := 5#32
  let c0_i32_355 : BitVec 32 := 0#32
  let c0_i32_356 : BitVec 32 := 0#32
  ![v453.toNat, 5, 0, 0]
def k0_off19 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c5_i32_361 : BitVec 32 := 5#32
  let c1_i32_362 : BitVec 32 := 1#32
  ![v453.toNat, 5, 1]
def k0_off20 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c6_i32_369 : BitVec 32 := 6#32
  let c0_i32_370 : BitVec 32 := 0#32
  ![v453.toNat, 6, 0]
def k0_off21 (i : grid0.Coords) : Fin 4 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c6_i32_368 : BitVec 32 := 6#32
  let c0_i32_371 : BitVec 32 := 0#32
  let c0_i32_372 : BitVec 32 := 0#32
  ![v453.toNat, 6, 0, 0]
def k0_off22 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c6_i32_377 : BitVec 32 := 6#32
  let c1_i32_378 : BitVec 32 := 1#32
  ![v453.toNat, 6, 1]
def k0_off23 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c7_i32_385 : BitVec 32 := 7#32
  let c0_i32_386 : BitVec 32 := 0#32
  ![v453.toNat, 7, 0]
def k0_off24 (i : grid0.Coords) : Fin 4 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c7_i32_384 : BitVec 32 := 7#32
  let c0_i32_387 : BitVec 32 := 0#32
  let c0_i32_388 : BitVec 32 := 0#32
  ![v453.toNat, 7, 0, 0]
def k0_off25 (i : grid0.Coords) : Fin 3 → Nat :=
  let arg0 : BitVec 32 := BitVec.ofNat 32 (i 0).val
  let c3_i32_17 : BitVec 32 := 3#32
  let v41 : BitVec 32 := Scalar.addi arg0 c3_i32_17
  let c1_i32_18 : BitVec 32 := 1#32
  let v42 : BitVec 32 := Scalar.subi v41 c1_i32_18
  let c3_i32_251 : BitVec 32 := 3#32
  let c0_i32_252 : BitVec 32 := 0#32
  let v444 : BitVec 1 := Scalar.cmpi .eq c3_i32_251 c0_i32_252
  let c1_i32_253 : BitVec 32 := 1#32
  let v445 : BitVec 32 := Scalar.select v444 c1_i32_253 c3_i32_251
  let v446 : BitVec 32 := Scalar.remsi v42 v445
  let c0_i32_255 : BitVec 32 := 0#32
  let v448 : BitVec 1 := Scalar.cmpi .slt v446 c0_i32_255
  let c0_i32_256 : BitVec 32 := 0#32
  let v449 : BitVec 1 := Scalar.cmpi .slt v445 c0_i32_256
  let v450 : BitVec 1 := Scalar.xori v448 v449
  let c0_i32_254 : BitVec 32 := 0#32
  let v447 : BitVec 1 := Scalar.cmpi .ne v446 c0_i32_254
  let v451 : BitVec 1 := Scalar.andi v450 v447
  let v452 : BitVec 32 := Scalar.addi v446 v445
  let v453 : BitVec 32 := Scalar.select v451 v452 v446
  let c7_i32_393 : BitVec 32 := 7#32
  let c1_i32_394 : BitVec 32 := 1#32
  ![v453.toNat, 7, 1]
def k0_off26 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c0_i32_30 : BitVec 32 := 0#32
  let c0_i32_31 : BitVec 32 := 0#32
  ![v37.toNat, 0, 0]
def k0_off27 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c0_i32_29 : BitVec 32 := 0#32
  let c0_i32_32 : BitVec 32 := 0#32
  let c0_i32_33 : BitVec 32 := 0#32
  ![v37.toNat, 0, 0, 0]
def k0_off28 (i : grid0.Coords) (c0_i32_28 : BitVec 32) : Fin 4 → Nat :=
  let arg0 : BitVec 32 := BitVec.ofNat 32 (i 0).val
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c16_i32_3 : BitVec 32 := 16#32
  let c0_i32_6 : BitVec 32 := 0#32
  let v17 : BitVec 1 := Scalar.cmpi .sgt c16_i32_3 c0_i32_6
  let v18 : BitVec 32 := Scalar.extui v17
  let c0_i32_7 : BitVec 32 := 0#32
  let v19 : BitVec 1 := Scalar.cmpi .slt c16_i32_3 c0_i32_7
  let v20 : BitVec 32 := Scalar.extui v19
  let v21 : BitVec 32 := Scalar.subi v18 v20
  let v22 : BitVec 1 := Scalar.cmpi .ne v16 v21
  let v23 : BitVec 32 := Scalar.remsi arg0 c16_i32_3
  let c0_i32_8 : BitVec 32 := 0#32
  let v24 : BitVec 1 := Scalar.cmpi .ne v23 c0_i32_8
  let v25 : BitVec 1 := Scalar.andi v22 v24
  let v11 : BitVec 32 := Scalar.divsi arg0 c16_i32_3
  let c1_i32_9 : BitVec 32 := 1#32
  let v26 : BitVec 32 := Scalar.subi v11 c1_i32_9
  let v27 : BitVec 32 := Scalar.select v25 v26 v11
  let c0_i32_34 : BitVec 32 := 0#32
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v61 : BitVec 32 := Scalar.addi v10 c0_i32_28
  let c0_i32_35 : BitVec 32 := 0#32
  ![v27.toNat, 0, v61.toNat, 0]
def k0_off29 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c0_i32_38 : BitVec 32 := 0#32
  let c1_i32_39 : BitVec 32 := 1#32
  ![v37.toNat, 0, 1]
def k0_off30 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let v75 : Index := Scalar.indexCast v37
  let c0 : Index := 0#32
  let c0_44 : Index := 0#32
  let c0_45 : Index := 0#32
  ![v75.toNat, 0, 0, 0]
def k0_off31 (i : grid0.Coords) (c0_i32_49 : BitVec 32) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v81 : BitVec 32 := Scalar.addi v10 c0_i32_49
  let v82 : Index := Scalar.indexCast v81
  let c0_50 : Index := 0#32
  ![v82.toNat, 0]
def k0_off32 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c1_i32_56 : BitVec 32 := 1#32
  let c0_i32_57 : BitVec 32 := 0#32
  ![v37.toNat, 1, 0]
def k0_off33 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c1_i32_55 : BitVec 32 := 1#32
  let c0_i32_58 : BitVec 32 := 0#32
  let c0_i32_59 : BitVec 32 := 0#32
  ![v37.toNat, 1, 0, 0]
def k0_off34 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c1_i32_64 : BitVec 32 := 1#32
  let c1_i32_65 : BitVec 32 := 1#32
  ![v37.toNat, 1, 1]
def k0_off35 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let v118 : Index := Scalar.indexCast v37
  let c1 : Index := 1#32
  let c0_70 : Index := 0#32
  let c0_71 : Index := 0#32
  ![v118.toNat, 1, 0, 0]
def k0_off36 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c2_i32_82 : BitVec 32 := 2#32
  let c0_i32_83 : BitVec 32 := 0#32
  ![v37.toNat, 2, 0]
def k0_off37 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c2_i32_81 : BitVec 32 := 2#32
  let c0_i32_84 : BitVec 32 := 0#32
  let c0_i32_85 : BitVec 32 := 0#32
  ![v37.toNat, 2, 0, 0]
def k0_off38 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c2_i32_90 : BitVec 32 := 2#32
  let c1_i32_91 : BitVec 32 := 1#32
  ![v37.toNat, 2, 1]
def k0_off39 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let v164 : Index := Scalar.indexCast v37
  let c2 : Index := 2#32
  let c0_96 : Index := 0#32
  let c0_97 : Index := 0#32
  ![v164.toNat, 2, 0, 0]
def k0_off40 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c3_i32_109 : BitVec 32 := 3#32
  let c0_i32_110 : BitVec 32 := 0#32
  ![v37.toNat, 3, 0]
def k0_off41 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c3_i32_108 : BitVec 32 := 3#32
  let c0_i32_111 : BitVec 32 := 0#32
  let c0_i32_112 : BitVec 32 := 0#32
  ![v37.toNat, 3, 0, 0]
def k0_off42 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c3_i32_117 : BitVec 32 := 3#32
  let c1_i32_118 : BitVec 32 := 1#32
  ![v37.toNat, 3, 1]
def k0_off43 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let v210 : Index := Scalar.indexCast v37
  let c3 : Index := 3#32
  let c0_123 : Index := 0#32
  let c0_124 : Index := 0#32
  ![v210.toNat, 3, 0, 0]
def k0_off44 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c4_i32_135 : BitVec 32 := 4#32
  let c0_i32_136 : BitVec 32 := 0#32
  ![v37.toNat, 4, 0]
def k0_off45 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c4_i32_134 : BitVec 32 := 4#32
  let c0_i32_137 : BitVec 32 := 0#32
  let c0_i32_138 : BitVec 32 := 0#32
  ![v37.toNat, 4, 0, 0]
def k0_off46 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c4_i32_143 : BitVec 32 := 4#32
  let c1_i32_144 : BitVec 32 := 1#32
  ![v37.toNat, 4, 1]
def k0_off47 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let v256 : Index := Scalar.indexCast v37
  let c4 : Index := 4#32
  let c0_149 : Index := 0#32
  let c0_150 : Index := 0#32
  ![v256.toNat, 4, 0, 0]
def k0_off48 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c5_i32_161 : BitVec 32 := 5#32
  let c0_i32_162 : BitVec 32 := 0#32
  ![v37.toNat, 5, 0]
def k0_off49 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c5_i32_160 : BitVec 32 := 5#32
  let c0_i32_163 : BitVec 32 := 0#32
  let c0_i32_164 : BitVec 32 := 0#32
  ![v37.toNat, 5, 0, 0]
def k0_off50 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c5_i32_169 : BitVec 32 := 5#32
  let c1_i32_170 : BitVec 32 := 1#32
  ![v37.toNat, 5, 1]
def k0_off51 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let v302 : Index := Scalar.indexCast v37
  let c5 : Index := 5#32
  let c0_175 : Index := 0#32
  let c0_176 : Index := 0#32
  ![v302.toNat, 5, 0, 0]
def k0_off52 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c6_i32_187 : BitVec 32 := 6#32
  let c0_i32_188 : BitVec 32 := 0#32
  ![v37.toNat, 6, 0]
def k0_off53 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c6_i32_186 : BitVec 32 := 6#32
  let c0_i32_189 : BitVec 32 := 0#32
  let c0_i32_190 : BitVec 32 := 0#32
  ![v37.toNat, 6, 0, 0]
def k0_off54 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c6_i32_195 : BitVec 32 := 6#32
  let c1_i32_196 : BitVec 32 := 1#32
  ![v37.toNat, 6, 1]
def k0_off55 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let v348 : Index := Scalar.indexCast v37
  let c6 : Index := 6#32
  let c0_201 : Index := 0#32
  let c0_202 : Index := 0#32
  ![v348.toNat, 6, 0, 0]
def k0_off56 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c7_i32_213 : BitVec 32 := 7#32
  let c0_i32_214 : BitVec 32 := 0#32
  ![v37.toNat, 7, 0]
def k0_off57 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c7_i32_212 : BitVec 32 := 7#32
  let c0_i32_215 : BitVec 32 := 0#32
  let c0_i32_216 : BitVec 32 := 0#32
  ![v37.toNat, 7, 0, 0]
def k0_off58 (i : grid0.Coords) : Fin 3 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let c7_i32_221 : BitVec 32 := 7#32
  let c1_i32_222 : BitVec 32 := 1#32
  ![v37.toNat, 7, 1]
def k0_off59 (i : grid0.Coords) : Fin 4 → Nat :=
  let arg0 : BitVec 32 := BitVec.ofNat 32 (i 0).val
  let c3_i32 : BitVec 32 := 3#32
  let c0_i32_10 : BitVec 32 := 0#32
  let v28 : BitVec 1 := Scalar.cmpi .eq c3_i32 c0_i32_10
  let c1_i32_11 : BitVec 32 := 1#32
  let v29 : BitVec 32 := Scalar.select v28 c1_i32_11 c3_i32
  let v30 : BitVec 32 := Scalar.remsi arg0 v29
  let c0_i32_13 : BitVec 32 := 0#32
  let v32 : BitVec 1 := Scalar.cmpi .slt v30 c0_i32_13
  let c0_i32_14 : BitVec 32 := 0#32
  let v33 : BitVec 1 := Scalar.cmpi .slt v29 c0_i32_14
  let v34 : BitVec 1 := Scalar.xori v32 v33
  let c0_i32_12 : BitVec 32 := 0#32
  let v31 : BitVec 1 := Scalar.cmpi .ne v30 c0_i32_12
  let v35 : BitVec 1 := Scalar.andi v34 v31
  let v36 : BitVec 32 := Scalar.addi v30 v29
  let v37 : BitVec 32 := Scalar.select v35 v36 v30
  let v394 : Index := Scalar.indexCast v37
  let c7 : Index := 7#32
  let c0_227 : Index := 0#32
  let c0_228 : Index := 0#32
  ![v394.toNat, 7, 0, 0]
def k0_cond4 (i : grid0.Coords) : BitVec 1 :=
  let arg0 : BitVec 32 := BitVec.ofNat 32 (i 0).val
  let c127_i32 : BitVec 32 := 127#32
  let v441 : BitVec 1 := Scalar.cmpi .eq arg0 c127_i32
  let v442 : BitVec 32 := Scalar.extui v441
  let c0_i32_250 : BitVec 32 := 0#32
  let v443 : BitVec 1 := Scalar.cmpi .ne v442 c0_i32_250
  v443

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8x256x128x128 : Shape := ⟨4, ![8, 256, 128, 128]⟩
abbrev S8x512x512 : Shape := ⟨3, ![8, 512, 512]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S128x128x2 : Shape := ⟨3, ![128, 128, 2]⟩
abbrev S8x128x128 : Shape := ⟨3, ![8, 128, 128]⟩
abbrev S131072 : Shape := ⟨1, ![131072]⟩
abbrev S8x128x128x256 : Shape := ⟨4, ![8, 128, 128, 256]⟩
abbrev S131072x256 : Shape := ⟨2, ![131072, 256]⟩
abbrev S19 : Shape := ⟨1, ![19]⟩
abbrev S131072x1 : Shape := ⟨2, ![131072, 1]⟩
abbrev S19x256 : Shape := ⟨2, ![19, 256]⟩
abbrev S19x1 : Shape := ⟨2, ![19, 1]⟩
abbrev S256x19 : Shape := ⟨2, ![256, 19]⟩
abbrev S19x19 : Shape := ⟨2, ![19, 19]⟩
abbrev S19x2 : Shape := ⟨2, ![19, 2]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S8x256x128x128, .f32⟩
  | 1 => ⟨S8x256x128x128, .f32⟩
  | 2 => ⟨S8x512x512, .i32⟩
  | 3 => ⟨S128, .i32⟩
  | 4 => ⟨S_, .i32⟩
  | 5 => ⟨S128, .i32⟩
  | 6 => ⟨S128, .i32⟩
  | 7 => ⟨S_, .i32⟩
  | 8 => ⟨S_, .i32⟩
  | 9 => ⟨S128, .i32⟩
  | 10 => ⟨S128, .i32⟩
  | 11 => ⟨S128, .i32⟩
  | 12 => ⟨S_, .i32⟩
  | 13 => ⟨S128, .i32⟩
  | 14 => ⟨S128, .i1⟩
  | 15 => ⟨S128, .i32⟩
  | 16 => ⟨S128, .i32⟩
  | 17 => ⟨S_, .i32⟩
  | 18 => ⟨S128, .i32⟩
  | 19 => ⟨S128, .i1⟩
  | 20 => ⟨S128, .i1⟩
  | 21 => ⟨S_, .i32⟩
  | 22 => ⟨S128, .i32⟩
  | 23 => ⟨S128, .i32⟩
  | 24 => ⟨S128, .i32⟩
  | 25 => ⟨S128, .i32⟩
  | 26 => ⟨S_, .i32⟩
  | 27 => ⟨S128, .i32⟩
  | 28 => ⟨S128, .i32⟩
  | 29 => ⟨S_, .i32⟩
  | 30 => ⟨S_, .i32⟩
  | 31 => ⟨S128, .i32⟩
  | 32 => ⟨S128, .i32⟩
  | 33 => ⟨S128, .i32⟩
  | 34 => ⟨S_, .i32⟩
  | 35 => ⟨S128, .i32⟩
  | 36 => ⟨S128, .i1⟩
  | 37 => ⟨S128, .i32⟩
  | 38 => ⟨S128, .i32⟩
  | 39 => ⟨S_, .i32⟩
  | 40 => ⟨S128, .i32⟩
  | 41 => ⟨S128, .i1⟩
  | 42 => ⟨S128, .i1⟩
  | 43 => ⟨S_, .i32⟩
  | 44 => ⟨S128, .i32⟩
  | 45 => ⟨S128, .i32⟩
  | 46 => ⟨S128, .i32⟩
  | 47 => ⟨S128x1, .i32⟩
  | 48 => ⟨S1x128, .i32⟩
  | 49 => ⟨S_, .i32⟩
  | 50 => ⟨S128x1, .i32⟩
  | 51 => ⟨S128x1, .i1⟩
  | 52 => ⟨S_, .i32⟩
  | 53 => ⟨S128x1, .i32⟩
  | 54 => ⟨S128x1, .i32⟩
  | 55 => ⟨S128x1, .i32⟩
  | 56 => ⟨S_, .i32⟩
  | 57 => ⟨S1x128, .i32⟩
  | 58 => ⟨S1x128, .i1⟩
  | 59 => ⟨S_, .i32⟩
  | 60 => ⟨S1x128, .i32⟩
  | 61 => ⟨S1x128, .i32⟩
  | 62 => ⟨S1x128, .i32⟩
  | 63 => ⟨S128x128, .i32⟩
  | 64 => ⟨S128x128, .i32⟩
  | 65 => ⟨S128x128x1, .i32⟩
  | 66 => ⟨S128x128x1, .i32⟩
  | 67 => ⟨S128x128x2, .i32⟩
  | 68 => ⟨S8x128x128, .i32⟩
  | 69 => ⟨S131072, .i32⟩
  | 70 => ⟨S8x128x128x256, .f32⟩
  | 71 => ⟨S131072x256, .f32⟩
  | 72 => ⟨S8x128x128x256, .f32⟩
  | 73 => ⟨S131072x256, .f32⟩
  | 74 => ⟨S_, .i32⟩
  | 75 => ⟨S19, .i32⟩
  | 76 => ⟨S_, .i32⟩
  | 77 => ⟨S_, .i32⟩
  | 78 => ⟨S131072, .i32⟩
  | 79 => ⟨S131072, .i32⟩
  | 80 => ⟨S_, .i32⟩
  | 81 => ⟨S131072, .i32⟩
  | 82 => ⟨S131072, .i1⟩
  | 83 => ⟨S_, .i32⟩
  | 84 => ⟨S131072, .i32⟩
  | 85 => ⟨S131072, .i32⟩
  | 86 => ⟨S131072, .i32⟩
  | 87 => ⟨S131072x1, .i32⟩
  | 88 => ⟨S_, .i32⟩
  | 89 => ⟨S131072, .i32⟩
  | 90 => ⟨S19, .i32⟩
  | 91 => ⟨S19, .f32⟩
  | 92 => ⟨S_, .f32⟩
  | 93 => ⟨S19, .f32⟩
  | 94 => ⟨S19, .i1⟩
  | 95 => ⟨S_, .f32⟩
  | 96 => ⟨S19x256, .f32⟩
  | 97 => ⟨S131072x1, .i32⟩
  | 98 => ⟨S19x256, .f32⟩
  | 99 => ⟨S_, .f32⟩
  | 100 => ⟨S19x256, .f32⟩
  | 101 => ⟨S131072x1, .i32⟩
  | 102 => ⟨S19x256, .f32⟩
  | 103 => ⟨S_, .f32⟩
  | 104 => ⟨S_, .f32⟩
  | 105 => ⟨S19, .f32⟩
  | 106 => ⟨S19, .f32⟩
  | 107 => ⟨S19x1, .f32⟩
  | 108 => ⟨S19x256, .f32⟩
  | 109 => ⟨S19x256, .f32⟩
  | 110 => ⟨S19x1, .f32⟩
  | 111 => ⟨S19x256, .f32⟩
  | 112 => ⟨S19x256, .f32⟩
  | 113 => ⟨S19x256, .f32⟩
  | 114 => ⟨S_, .f32⟩
  | 115 => ⟨S19, .f32⟩
  | 116 => ⟨S19x1, .f32⟩
  | 117 => ⟨S19x1, .f32⟩
  | 118 => ⟨S_, .f32⟩
  | 119 => ⟨S19x1, .f32⟩
  | 120 => ⟨S19x1, .f32⟩
  | 121 => ⟨S19x256, .f32⟩
  | 122 => ⟨S19x256, .f32⟩
  | 123 => ⟨S19x256, .f32⟩
  | 124 => ⟨S_, .f32⟩
  | 125 => ⟨S19, .f32⟩
  | 126 => ⟨S19x1, .f32⟩
  | 127 => ⟨S19x1, .f32⟩
  | _ => ⟨S8x256x128x128, .f32⟩

abbrev hbmTy0_1 (i : Nat) : BufTy := match i % 128 with
  | 0 => ⟨S_, .f32⟩
  | 1 => ⟨S19x1, .f32⟩
  | 2 => ⟨S19x1, .f32⟩
  | 3 => ⟨S19x256, .f32⟩
  | 4 => ⟨S19x256, .f32⟩
  | 5 => ⟨S19x1, .i1⟩
  | 6 => ⟨S_, .f32⟩
  | 7 => ⟨S_, .f32⟩
  | 8 => ⟨S19x256, .i1⟩
  | 9 => ⟨S19x256, .f32⟩
  | 10 => ⟨S19x256, .f32⟩
  | 11 => ⟨S19x1, .i1⟩
  | 12 => ⟨S_, .f32⟩
  | 13 => ⟨S_, .f32⟩
  | 14 => ⟨S19x256, .i1⟩
  | 15 => ⟨S19x256, .f32⟩
  | 16 => ⟨S19x256, .f32⟩
  | 17 => ⟨S256x19, .f32⟩
  | 18 => ⟨S19x19, .f32⟩
  | 19 => ⟨S_, .f32⟩
  | 20 => ⟨S19x19, .f32⟩
  | 21 => ⟨S19x19, .f32⟩
  | 22 => ⟨S19, .i32⟩
  | 23 => ⟨S_, .i32⟩
  | 24 => ⟨S19, .i32⟩
  | 25 => ⟨S19, .i1⟩
  | 26 => ⟨S_, .i32⟩
  | 27 => ⟨S19, .i32⟩
  | 28 => ⟨S19, .i32⟩
  | 29 => ⟨S19, .i32⟩
  | 30 => ⟨S_, .i32⟩
  | 31 => ⟨S19, .i32⟩
  | 32 => ⟨S19, .i1⟩
  | 33 => ⟨S_, .i32⟩
  | 34 => ⟨S19, .i32⟩
  | 35 => ⟨S19, .i32⟩
  | 36 => ⟨S19, .i32⟩
  | 37 => ⟨S19x1, .i32⟩
  | 38 => ⟨S19x1, .i32⟩
  | 39 => ⟨S19x2, .i32⟩
  | 40 => ⟨S19, .f32⟩
  | 41 => ⟨S19x19, .f32⟩
  | 42 => ⟨S_, .f32⟩
  | 43 => ⟨S19, .f32⟩
  | 44 => ⟨S19, .f32⟩
  | 45 => ⟨S19, .f32⟩
  | 46 => ⟨S19, .f32⟩
  | 47 => ⟨S19, .f32⟩
  | 48 => ⟨S19, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S19, .f32⟩
  | 56 => ⟨S19, .f32⟩
  | 57 => ⟨S_, .f32⟩
  | 58 => ⟨S_, .f32⟩
  | 59 => ⟨S_, .f32⟩
  | 60 => ⟨S1x1, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_1 : Ref sig .tc := ⟨.hbm, 26, rfl⟩
abbrev main_v5 : Ref sig .tc := ⟨.hbm, 27, rfl⟩
abbrev main_v6 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_c_3 : Ref sig .tc := ⟨.hbm, 49, rfl⟩
abbrev main_v10 : Ref sig .tc := ⟨.hbm, 50, rfl⟩
abbrev main_v11 : Ref sig .tc := ⟨.hbm, 51, rfl⟩
abbrev main_c_4 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c_5 : Ref sig .tc := ⟨.hbm, 56, rfl⟩
abbrev main_v15 : Ref sig .tc := ⟨.hbm, 57, rfl⟩
abbrev main_v16 : Ref sig .tc := ⟨.hbm, 58, rfl⟩
abbrev main_c_6 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c_7 : Ref sig .tc := ⟨.hbm, 74, rfl⟩
abbrev main_v31 : Ref sig .tc := ⟨.hbm, 75, rfl⟩
abbrev main_c_8 : Ref sig .tc := ⟨.hbm, 76, rfl⟩
abbrev main_call2_v0 : Ref sig .tc := ⟨.hbm, 77, rfl⟩
abbrev main_call2_v1 : Ref sig .tc := ⟨.hbm, 78, rfl⟩
abbrev main_v32 : Ref sig .tc := ⟨.hbm, 79, rfl⟩
abbrev main_c_9 : Ref sig .tc := ⟨.hbm, 80, rfl⟩
abbrev main_v33 : Ref sig .tc := ⟨.hbm, 81, rfl⟩
abbrev main_v34 : Ref sig .tc := ⟨.hbm, 82, rfl⟩
abbrev main_c_10 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_c_11 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst : Ref sig .tc := ⟨.hbm, 92, rfl⟩
abbrev main_v42 : Ref sig .tc := ⟨.hbm, 93, rfl⟩
abbrev main_v43 : Ref sig .tc := ⟨.hbm, 94, rfl⟩
abbrev main_cst_12 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_cst_13 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst_14 : Ref sig .tc := ⟨.hbm, 103, rfl⟩
abbrev main_call3_v0 : Ref sig .tc := ⟨.hbm, 104, rfl⟩
abbrev main_call3_v1 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_call4_v0 : Ref sig .tc := ⟨.hbm, 113, rfl⟩
abbrev main_call4_cst : Ref sig .tc := ⟨.hbm, 114, rfl⟩
abbrev main_call4_v1 : Ref sig .tc := ⟨.hbm, 115, rfl⟩
abbrev main_call4_v2 : Ref sig .tc := ⟨.hbm, 116, rfl⟩
abbrev main_v57 : Ref sig .tc := ⟨.hbm, 117, rfl⟩
abbrev main_cst_15 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_call5_v0 : Ref sig .tc := ⟨.hbm, 123, rfl⟩
abbrev main_call5_cst : Ref sig .tc := ⟨.hbm, 124, rfl⟩
abbrev main_call5_v1 : Ref sig .tc := ⟨.hbm, 125, rfl⟩
abbrev main_call5_v2 : Ref sig .tc := ⟨.hbm, 126, rfl⟩
abbrev main_v62 : Ref sig .tc := ⟨.hbm, 127, rfl⟩
abbrev main_cst_16 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_17 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_v68 : Ref sig .tc := ⟨.hbm, 138, rfl⟩
abbrev main_v69 : Ref sig .tc := ⟨.hbm, 139, rfl⟩
abbrev main_cst_18 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_19 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_c_20 : Ref sig .tc := ⟨.hbm, 151, rfl⟩
abbrev main_v76 : Ref sig .tc := ⟨.hbm, 152, rfl⟩
abbrev main_v77 : Ref sig .tc := ⟨.hbm, 153, rfl⟩
abbrev main_c_21 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_c_22 : Ref sig .tc := ⟨.hbm, 158, rfl⟩
abbrev main_v81 : Ref sig .tc := ⟨.hbm, 159, rfl⟩
abbrev main_v82 : Ref sig .tc := ⟨.hbm, 160, rfl⟩
abbrev main_c_23 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_cst_24 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_cst_25 : Ref sig .tc := ⟨.hbm, 177, rfl⟩
abbrev main_v97 : Ref sig .tc := ⟨.hbm, 178, rfl⟩
abbrev main_cst_26 : Ref sig .tc := ⟨.hbm, 179, rfl⟩
abbrev main_v98 : Ref sig .tc := ⟨.hbm, 180, rfl⟩
abbrev main_cst_27 : Ref sig .tc := ⟨.hbm, 181, rfl⟩
abbrev main_call8_v0 : Ref sig .tc := ⟨.hbm, 182, rfl⟩
abbrev main_call8_v1 : Ref sig .tc := ⟨.hbm, 183, rfl⟩
abbrev main_v99 : Ref sig .tc := ⟨.hbm, 184, rfl⟩
abbrev main_cst_28 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩

abbrev nD : Nat := 1
abbrev τ : Topo := Topo.v7x

variable {F : FTy → Type} [FloatOps F]
-- ==== Proof.KernelIdeal.Ring.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-! ## The ring: its slots, its rows of the operands, its semaphores -/

/-- The scratch buffers the rows of the two feature arrays are copied into, three slots of eight rows each, whole. -/
abbrev scM5 : Memref sig .tc .vmem S3x8x256x128 .f32 := Memref.whole cc0_scratch0
abbrev scM6 : Memref sig .tc .vmem S3x8x256x128 .f32 := Memref.whole cc0_scratch1
/-- The downsampled labels, the two class sums and the class counts. -/
abbrev scM8 : Memref sig .tc .vmem S128x128 .f32 := Memref.whole cc0_scratch3
abbrev scM9 : Memref sig .tc .vmem S256x32 .f32 := Memref.whole cc0_scratch4
abbrev scM10 : Memref sig .tc .vmem S256x32 .f32 := Memref.whole cc0_scratch5
abbrev scM11 : Memref sig .tc .vmem S32x128 .f32 := Memref.whole cc0_scratch6
/-- The two feature arrays, left in HBM, whole. -/
abbrev hbM1 : Memref sig .tc .hbm S8x256x128x128 .f32 := Memref.whole main_arg0
abbrev hbM2 : Memref sig .tc .hbm S8x256x128x128 .f32 := Memref.whole main_arg1

instance : NeZero grid0.N := ⟨by rw [N_0]; decide⟩

/-- Contents of a memref's buffer on core `c`, and the buffer held whole at them. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

theorem inb_slot (s : Fin 3) (r : Fin 8) : ∀ a, (![s.val, r.val, 0, 0] : Fin 4 → Nat) a + S1x1x256x128.size a ≤ S3x8x256x128.size a := by
  have := s.isLt; have := r.isLt; intro a; fin_cases a <;> simp <;> omega
theorem inb_src (b : Fin 128) (r : Fin 8) : ∀ a, (![b.val / 16, 0, b.val % 16 * 8 + r.val, 0] : Fin 4 → Nat) a + S1x256x1x128.size a ≤ S8x256x128x128.size a := by
  have := b.isLt; have := r.isLt; intro a; fin_cases a <;> simp <;> omega
theorem inb_cell (s : Fin 3) (r : Fin 8) (k : Fin 2) : ∀ a, (![s.val, r.val, k.val] : Fin 3 → Nat) a + S1x1x1.size a ≤ S3x8x2.size a := by
  have := s.isLt; have := r.isLt; have := k.isLt; intro a; fin_cases a <;> simp <;> omega

/-- Row `r` of slot `s` of a scratch buffer. -/
def slotM (B : Memref sig .tc .vmem S3x8x256x128 .f32) (s : Fin 3) (r : Fin 8) : Memref sig .tc .vmem S256x128 .f32 :=
  (B.slice (Rect.unit (s := S3x8x256x128) ![s.val, r.val, 0, 0] S1x1x256x128.size (inb_slot s r)) (fun _ => rfl)).squeeze S256x128 squeezes_S1x1x256x128_S256x128
/-- Row `r` of group `b` of a feature array: image row `8 (b mod 16) + r` of image `b / 16`, every channel. -/
def srcM (H : Memref sig .tc .hbm S8x256x128x128 .f32) (b : Fin 128) (r : Fin 8) : Memref sig .tc .hbm S256x128 .f32 :=
  (H.slice (Rect.unit (s := S8x256x128x128) ![b.val / 16, 0, b.val % 16 * 8 + r.val, 0] S1x256x1x128.size (inb_src b r)) (fun _ => rfl)).squeeze S256x128 squeezes_S1x256x1x128_S256x128
/-- The semaphore row `r` of slot `s` of array `k` is counted on. -/
def cellM (s : Fin 3) (r : Fin 8) (k : Fin 2) : DmaSems sig S_ :=
  (cc0_scratch2.slice (Rect.unit (s := S3x8x2) ![s.val, r.val, k.val] S1x1x1.size (inb_cell s r k))).squeeze S_ squeezes_S1x1x1_S_
abbrev cellR (s : Fin 3) (r : Fin 8) (k : Fin 2) : SemLoc sig := SemLoc.dma (cellM s r k).sem

omit [FloatOps F] in
theorem slotM_congr (B : Memref sig .tc .vmem S3x8x256x128 .f32) (s : Fin 3) (r : Fin 8) {off : Fin 4 → Nat} (h : off = ![s.val, r.val, 0, 0])
    (inb : ∀ a, off a + S1x1x256x128.size a ≤ S3x8x256x128.size a) :
    (B.slice (Rect.unit (s := S3x8x256x128) off S1x1x256x128.size inb) (fun _ => rfl)).squeeze S256x128 squeezes_S1x1x256x128_S256x128 = slotM B s r :=
  congrArg (fun M : Memref sig .tc .vmem S1x1x256x128 .f32 => M.squeeze S256x128 squeezes_S1x1x256x128_S256x128) (Memref.slice_unit_congr _ h _ _ (fun _ => rfl) (fun _ => rfl))
omit [FloatOps F] in
theorem srcM_congr (H : Memref sig .tc .hbm S8x256x128x128 .f32) (b : Fin 128) (r : Fin 8) {off : Fin 4 → Nat} (h : off = ![b.val / 16, 0, b.val % 16 * 8 + r.val, 0])
    (inb : ∀ a, off a + S1x256x1x128.size a ≤ S8x256x128x128.size a) :
    (H.slice (Rect.unit (s := S8x256x128x128) off S1x256x1x128.size inb) (fun _ => rfl)).squeeze S256x128 squeezes_S1x256x1x128_S256x128 = srcM H b r :=
  congrArg (fun M : Memref sig .tc .hbm S1x256x1x128 .f32 => M.squeeze S256x128 squeezes_S1x256x1x128_S256x128) (Memref.slice_unit_congr _ h _ _ (fun _ => rfl) (fun _ => rfl))
omit [FloatOps F] in
theorem cellM_congr (s : Fin 3) (r : Fin 8) (k : Fin 2) {off : Fin 3 → Nat} (h : off = ![s.val, r.val, k.val])
    (inb : ∀ a, off a + S1x1x1.size a ≤ S3x8x2.size a) :
    (cc0_scratch2.slice (Rect.unit (s := S3x8x2) off S1x1x1.size inb)).squeeze S_ squeezes_S1x1x1_S_ = cellM s r k :=
  congrArg (fun A : DmaSems sig S1x1x1 => A.squeeze S_ squeezes_S1x1x1_S_) (SemArray.slice_unit_congr _ h _ _)

section Families
variable (c : Dev nD)
/-- Row `r` of slot `s` of scratch `B` held at `f`; its semaphore at zero; the elements of row `r` of group `b` of an array held at `W`. -/
abbrev slotP (B : Memref sig .tc .vmem S3x8x256x128 .f32) (s : Fin 3) (r : Fin 8) (f : HbBuf (F := F) c B) : sProp 𝕄 :=
  (slotM B s r).view.loc (c : Thread nD τ) ↦[(slotM B s r).view.set]{fullShare} f
abbrev cellP (s : Fin 3) (r : Fin 8) (k : Fin 2) : sProp 𝕄 := semVal ((c : Thread nD τ), cellR s r k) 0
abbrev srcP (H : Memref sig .tc .hbm S8x256x128x128 .f32) (b : Fin 128) (r : Fin 8) (W : HbBuf (F := F) c H) : sProp 𝕄 :=
  (srcM H b r).view.loc (c : Thread nD τ) ↦[(srcM H b r).view.set]{fullShare} W
/-- What the row's slot holds once group `b`'s row has landed in it whole. -/
abbrev landed (B : Memref sig .tc .vmem S3x8x256x128 .f32) (H : Memref sig .tc .hbm S8x256x128x128 .f32) (s : Fin 3) (b : Fin 128) (r : Fin 8)
    (W : HbBuf (F := F) c H) (f : HbBuf (F := F) c B) : HbBuf (F := F) c B :=
  (slotM B s r).view.writes (Elt F) f [⟨Rect.whole S256x128, ReadAs.same.apply ((srcM H b r).view.read (Elt F) W)⟩]
/-- The copy of group `b`'s row into the slot, in flight: it delivers the slot landed and the elements it borrowed. -/
abbrev flightP (B : Memref sig .tc .vmem S3x8x256x128 .f32) (H : Memref sig .tc .hbm S8x256x128x128 .f32) (k : Fin 2) (s : Fin 3) (b : Fin 128) (r : Fin 8)
    (W : HbBuf (F := F) c H) (f : HbBuf (F := F) c B) : sProp 𝕄 :=
  Transfers.Flight countersEmb (c : Thread nD τ) (cellR s r k) default ((slotM B s r).view.amount (cellR s r k))
    iprop(slotP c B s r (landed c B H s b r W f) ∗ srcP c H b r W)
end Families

/-- Sixteen pieces, a pair for each of the eight rows. -/
def pair8 (P Q : Fin 8 → sProp 𝕄) : sProp 𝕄 :=
  iprop((P 0 ∗ Q 0) ∗ (P 1 ∗ Q 1) ∗ (P 2 ∗ Q 2) ∗ (P 3 ∗ Q 3) ∗ (P 4 ∗ Q 4) ∗ (P 5 ∗ Q 5) ∗ (P 6 ∗ Q 6) ∗ (P 7 ∗ Q 7))

/-! ## The body's spellings of slots, rows and cells are the ring's -/

section Canon
omit [FloatOps F]
theorem coff1 : ∀ t : Fin grid0.N, k0_off1 (grid0.coords t) = ![(Ring.sl 3 (t.val + 2)).val, 0, 0] := by decide +kernel
@[sl_canon] theorem canonC_1 (t : Fin grid0.N) (h1 : k0_cond2 (grid0.coords t) = 1#1) :
    (cc0_scratch2.slice (Rect.unit (s := S3x8x2) (k0_off1 (grid0.coords t)) S1x1x1.size (k0_off1_inb (grid0.coords t) h1))).squeeze S_ squeezes_S1x1x1_S_ = cellM (Ring.sl 3 (t.val + 2)) 0 0 :=
  cellM_congr _ _ _ (coff1 t) _
theorem coff2 : ∀ t : Fin grid0.N, k0_off4 (grid0.coords t) = ![(Ring.sl 3 (t.val + 2)).val, 0, 1] := by decide +kernel
@[sl_canon] theorem canonC_2 (t : Fin grid0.N) (h1 : k0_cond2 (grid0.coords t) = 1#1) :
    (cc0_scratch2.slice (Rect.unit (s := S3x8x2) (k0_off4 (grid0.coords t)) S1x1x1.size (k0_off4_inb (grid0.coords t) h1))).squeeze S_ squeezes_S1x1x1_S_ = cellM (Ring.sl 3 (t.val + 2)) 0 1 :=
  cellM_congr _ _ _ (coff2 t) _
theorem coff3 : ∀ t : Fin grid0.N, k0_off2 (grid0.coords t) = ![(Ring.sl 3 (t.val + 2)).val, 0, 0, 0] := by decide +kernel
@[sl_canon] theorem canonS5_3 (t : Fin grid0.N) (h1 : k0_cond2 (grid0.coords t) = 1#1) :
    (scM5.slice (Rect.unit (s := S3x8x256x128) (k0_off2 (grid0.coords t)) S1x1x256x128.size (k0_off2_inb (grid0.coords t) h1)) (fun _ => rfl)).squeeze S256x128 squeezes_S1x1x256x128_S256x128 = slotM scM5 (Ring.sl 3 (t.val + 2)) 0 :=
  slotM_congr scM5 _ _ (coff3 t) _
@[sl_canon] theorem canonS6_3 (t : Fin grid0.N) (h1 : k0_cond2 (grid0.coords t) = 1#1) :
    (scM6.slice (Rect.unit (s := S3x8x256x128) (k0_off2 (grid0.coords t)) S1x1x256x128.size (k0_off2_inb (grid0.coords t) h1)) (fun _ => rfl)).squeeze S256x128 squeezes_S1x1x256x128_S256x128 = slotM scM6 (Ring.sl 3 (t.val + 2)) 0 :=
  slotM_congr scM6 _ _ (coff3 t) _
theorem coff4 : ∀ t : Fin grid0.N, k0_cond2 (grid0.coords t) = 1#1 → k0_off3 (grid0.coords t) 0#32 = ![(Ring.bk 128 (t.val + 2)).val / 16, 0, (Ring.bk 128 (t.val + 2)).val % 16 * 8 + (0 : Fin 8).val, 0] := by decide +kernel
@[sl_canon] theorem canonH1_4 (t : Fin grid0.N) (h1 : k0_cond2 (grid0.coords t) = 1#1) :
    (hbM1.slice (Rect.unit (s := S8x256x128x128) (k0_off3 (grid0.coords t) 0#32) S1x256x1x128.size (k0_off3_inb (grid0.coords t) h1 0)) (fun _ => rfl)).squeeze S256x128 squeezes_S1x256x1x128_S256x128 = srcM hbM1 (Ring.bk 128 (t.val + 2)) 0 :=
  srcM_congr hbM1 _ _ (coff4 t h1) _
@[sl_canon] theorem canonH2_4 (t : Fin grid0.N) (h1 : k0_cond2 (grid0.coords t) = 1#1) :
    (hbM2.slice (Rect.unit (s := S8x256x128x128) (k0_off3 (grid0.coords t) 0#32) S1x256x1x128.size (k0_off3_inb (grid0.coords t) h1 0)) (fun _ => rfl)).squeeze S256x128 squeezes_S1x256x1x128_S256x128 = srcM hbM2 (Ring.bk 128 (t.val + 2)) 0 :=
  srcM_congr hbM2 _ _ (coff4 t h1) _
theorem coff5 : ∀ t : Fin grid0.N, k0_off26 (grid0.coords t) = ![(Ring.sl 3 t.val).val, 0, 0] := by decide +kernel
@[sl_canon] theorem canonC_5 (t : Fin grid0.N) :
    (cc0_scratch2.slice (Rect.unit (s := S3x8x2) (k0_off26 (grid0.coords t)) S1x1x1.size (k0_off26_inb (grid0.coords t)))).squeeze S_ squeezes_S1x1x1_S_ = cellM (Ring.sl 3 t.val) 0 0 :=
  cellM_congr _ _ _ (coff5 t) _
theorem coff6 : ∀ t : Fin grid0.N, k0_off29 (grid0.coords t) = ![(Ring.sl 3 t.val).val, 0, 1] := by decide +kernel
@[sl_canon] theorem canonC_6 (t : Fin grid0.N) :
    (cc0_scratch2.slice (Rect.unit (s := S3x8x2) (k0_off29 (grid0.coords t)) S1x1x1.size (k0_off29_inb (grid0.coords t)))).squeeze S_ squeezes_S1x1x1_S_ = cellM (Ring.sl 3 t.val) 0 1 :=
  cellM_congr _ _ _ (coff6 t) _
theorem coff7 : ∀ t : Fin grid0.N, k0_off27 (grid0.coords t) = ![(Ring.sl 3 t.val).val, 0, 0, 0] := by decide +kernel
@[sl_canon] theorem canonS5_7 (t : Fin grid0.N) :
    (scM5.slice (Rect.unit (s := S3x8x256x128) (k0_off27 (grid0.coords t)) S1x1x256x128.size (k0_off27_inb (grid0.coords t))) (fun _ => rfl)).squeeze S256x128 squeezes_S1x1x256x128_S256x128 = slotM scM5 (Ring.sl 3 t.val) 0 :=
  slotM_congr scM5 _ _ (coff7 t) _
@[sl_canon] theorem canonS6_7 (t : Fin grid0.N) :
    (scM6.slice (Rect.unit (s := S3x8x256x128) (k0_off27 (grid0.coords t)) S1x1x256x128.size (k0_off27_inb (grid0.coords t))) (fun _ => rfl)).squeeze S256x128 squeezes_S1x1x256x128_S256x128 = slotM scM6 (Ring.sl 3 t.val) 0 :=
  slotM_congr scM6 _ _ (coff7 t) _
theorem coff8 : ∀ t : Fin grid0.N, k0_off28 (grid0.coords t) 0#32 = ![(Ring.bk 128 t.val).val / 16, 0, (Ring.bk 128 t.val).val % 16 * 8 + (0 : Fin 8).val, 0] := by decide +kernel
@[sl_canon] theorem canonH1_8 (t : Fin grid0.N) :
    (hbM1.slice (Rect.unit (s := S8x256x128x128) (k0_off28 (grid0.coords t) 0#32) S1x256x1x128.size (k0_off28_inb (grid0.coords t) 0)) (fun _ => rfl)).squeeze S256x128 squeezes_S1x256x1x128_S256x128 = srcM hbM1 (Ring.bk 128 t.val) 0 :=
  srcM_congr hbM1 _ _ (coff8 t) _
@[sl_canon] theorem canonH2_8 (t : Fin grid0.N) :
    (hbM2.slice (Rect.unit (s := S8x256x128x128) (k0_off28 (grid0.coords t) 0#32) S1x256x1x128.size (k0_off28_inb (grid0.coords t) 0)) (fun _ => rfl)).squeeze S256x128 squeezes_S1x256x1x128_S256x128 = srcM hbM2 (Ring.bk 128 t.val) 0 :=
  srcM_congr hbM2 _ _ (coff8 t) _
theorem coff9 : ∀ t : Fin grid0.N, k0_off30 (grid0.coords t) = ![(Ring.sl 3 t.val).val, 0, 0, 0] := by decide +kernel
instance (priority := high) closedLoad0 (t : Fin grid0.N) : ClosedOff (k0_off30 (grid0.coords t)) := ⟨![(Ring.sl 3 t.val).val, 0, 0, 0], coff9 t⟩
theorem coff10 : ∀ t : Fin grid0.N, k0_off5 (grid0.coords t) = ![(Ring.sl 3 (t.val + 2)).val, 1, 0] := by decide +kernel
@[sl_canon] theorem canonC_10 (t : Fin grid0.N) (h1 : k0_cond2 (grid0.coords t) = 1#1) :
    (cc0_scratch2.slice (Rect.unit (s := S3x8x2) (k0_off5 (grid0.coords t)) S1x1x1.size (k0_off5_inb (grid0.coords t) h1))).squeeze S_ squeezes_S1x1x1_S_ = cellM (Ring.sl 3 (t.val + 2)) 1 0 :=
  cellM_congr _ _ _ (coff10 t) _
theorem coff11 : ∀ t : Fin grid0.N, k0_off7 (grid0.coords t) = ![(Ring.sl 3 (t.val + 2)).val, 1, 1] := by decide +kernel
@[sl_canon] theorem canonC_11 (t : Fin grid0.N) (h1 : k0_cond2 (grid0.coords t) = 1#1) :
    (cc0_scratch2.slice (Rect.unit (s := S3x8x2) (k0_off7 (grid0.coords t)) S1x1x1.size (k0_off7_inb (grid0.coords t) h1))).squeeze S_ squeezes_S1x1x1_S_ = cellM (Ring.sl 3 (t.val + 2)) 1 1 :=
  cellM_congr _ _ _ (coff11 t) _
theorem coff12 : ∀ t : Fin grid0.N, k0_off6 (grid0.coords t) = ![(Ring.sl 3 (t.val + 2)).val, 1, 0, 0] := by decide +kernel
@[sl_canon] theorem canonS5_12 (t : Fin grid0.N) (h1 : k0_cond2 (grid0.coords t) = 1#1) :
    (scM5.slice (Rect.unit (s := S3x8x256x128) (k0_off6 (grid0.coords t)) S1x1x256x128.size (k0_off6_inb (grid0.coords t) h1)) (fun _ => rfl)).squeeze S256x128 squeezes_S1x1x256x128_S256x128 = slotM scM5 (Ring.sl 3 (t.val + 2)) 1 :=
  slotM_congr scM5 _ _ (coff12 t) _
@[sl_canon] theorem canonS6_12 (t : Fin grid0.N) (h1 : k0_cond2 (grid0.coords t) = 1#1) :
    (scM6.slice (Rect.unit (s := S3x8x256x128) (k0_off6 (grid0.coords t)) S1x1x256x128.size (k0_off6_inb (grid0.coords t) h1)) (fun _ => rfl)).squeeze S256x128 squeezes_S1x1x256x128_S256x128 = slotM scM6 (Ring.sl 3 (t.val + 2)) 1 :=
  slotM_congr scM6 _ _ (coff12 t) _
theorem coff13 : ∀ t : Fin grid0.N, k0_cond2 (grid0.coords t) = 1#1 → k0_off3 (grid0.coords t) 1#32 = ![(Ring.bk 128 (t.val + 2)).val / 16, 0, (Ring.bk 128 (t.val + 2)).val % 16 * 8 + (1 : Fin 8).val, 0] := by decide +kernel
@[sl_canon] theorem canonH1_13 (t : Fin grid0.N) (h1 : k0_cond2 (grid0.coords t) = 1#1) :
    (hbM1.slice (Rect.unit (s := S8x256x128x128) (k0_off3 (grid0.coords t) 1#32) S1x256x1x128.size (k0_off3_inb (grid0.coords t) h1 1)) (fun _ => rfl)).squeeze S256x128 squeezes_S1x256x1x128_S256x128 = srcM hbM1 (Ring.bk 128 (t.val + 2)) 1 :=
  srcM_congr hbM1 _ _ (coff13 t h1) _
@[sl_canon] theorem canonH2_13 (t : Fin grid0.N) (h1 : k0_cond2 (grid0.coords t) = 1#1) :
    (hbM2.slice (Rect.unit (s := S8x256x128x128) (k0_off3 (grid0.coords t) 1#32) S1x256x1x128.size (k0_off3_inb (grid0.coords t) h1 1)) (fun _ => rfl)).squeeze S256x128 squeezes_S1x256x1x128_S256x128 = srcM hbM2 (Ring.bk 128 (t.val + 2)) 1 :=
  srcM_congr hbM2 _ _ (coff13 t h1) _
theorem coff14 : ∀ t : Fin grid0.N, k0_off32 (grid0.coords t) = ![(Ring.sl 3 t.val).val, 1, 0] := by decide +kernel
@[sl_canon] theorem canonC_14 (t : Fin grid0.N) :
    (cc0_scratch2.slice (Rect.unit (s := S3x8x2) (k0_off32 (grid0.coords t)) S1x1x1.size (k0_off32_inb (grid0.coords t)))).squeeze S_ squeezes_S1x1x1_S_ = cellM (Ring.sl 3 t.val) 1 0 :=
  cellM_congr _ _ _ (coff14 t) _
theorem coff15 : ∀ t : Fin grid0.N, k0_off34 (grid0.coords t) = ![(Ring.sl 3 t.val).val, 1, 1] := by decide +kernel
@[sl_canon] theorem canonC_15 (t : Fin grid0.N) :
    (cc0_scratch2.slice (Rect.unit (s := S3x8x2) (k0_off34 (grid0.coords t)) S1x1x1.size (k0_off34_inb (grid0.coords t)))).squeeze S_ squeezes_S1x1x1_S_ = cellM (Ring.sl 3 t.val) 1 1 :=
  cellM_congr _ _ _ (coff15 t) _
theorem coff16 : ∀ t : Fin grid0.N, k0_off33 (grid0.coords t) = ![(Ring.sl 3 t.val).val, 1, 0, 0] := by decide +kernel
@[sl_canon] theorem canonS5_16 (t : Fin grid0.N) :
    (scM5.slice (Rect.unit (s := S3x8x256x128) (k0_off33 (grid0.coords t)) S1x1x256x128.size (k0_off33_inb (grid0.coords t))) (fun _ => rfl)).squeeze S256x128 squeezes_S1x1x256x128_S256x128 = slotM scM5 (Ring.sl 3 t.val) 1 :=
  slotM_congr scM5 _ _ (coff16 t) _
@[sl_canon] theorem canonS6_16 (t : Fin grid0.N) :
    (scM6.slice (Rect.unit (s := S3x8x256x128) (k0_off33 (grid0.coords t)) S1x1x256x128.size (k0_off33_inb (grid0.coords t))) (fun _ => rfl)).squeeze S256x128 squeezes_S1x1x256x128_S256x128 = slotM scM6 (Ring.sl 3 t.val) 1 :=
  slotM_congr scM6 _ _ (coff16 t) _
theorem coff17 : ∀ t : Fin grid0.N, k0_off28 (grid0.coords t) 1#32 = ![(Ring.bk 128 t.val).val / 16, 0, (Ring.bk 128 t.val).val % 16 * 8 + (1 : Fin 8).val, 0] := by decide +kernel
@[sl_canon] theorem canonH1_17 (t : Fin grid0.N) :
    (hbM1.slice (Rect.unit (s := S8x256x128x128) (k0_off28 (grid0.coords t) 1#32) S1x256x1x128.size (k0_off28_inb (grid0.coords t) 1)) (fun _ => rfl)).squeeze S256x128 squeezes_S1x256x1x128_S256x128 = srcM hbM1 (Ring.bk 128 t.val) 1 :=
  srcM_congr hbM1 _ _ (coff17 t) _
@[sl_canon] theorem canonH2_17 (t : Fin grid0.N) :
    (hbM2.slice (Rect.unit (s := S8x256x128x128) (k0_off28 (grid0.coords t) 1#32) S1x256x1x128.size (k0_off28_inb (grid0.coords t) 1)) (fun _ => rfl)).squeeze S256x128 squeezes_S1x256x1x128_S256x128 = srcM hbM2 (Ring.bk 128 t.val) 1 :=
  srcM_congr hbM2 _ _ (coff17 t) _
theorem coff18 : ∀ t : Fin grid0.N, k0_off35 (grid0.coords t) = ![(Ring.sl 3 t.val).val, 1, 0, 0] := by decide +kernel
instance (priority := high) closedLoad1 (t : Fin grid0.N) : ClosedOff (k0_off35 (grid0.coords t)) := ⟨![(Ring.sl 3 t.val).val, 1, 0, 0], coff18 t⟩
theorem coff19 : ∀ t : Fin grid0.N, k0_off8 (grid0.coords t) = ![(Ring.sl 3 (t.val + 2)).val, 2, 0] := by decide +kernel
@[sl_canon] theorem canonC_19 (t : Fin grid0.N) (h1 : k0_cond2 (grid0.coords t) = 1#1) :
    (cc0_scratch2.slice (Rect.unit (s := S3x8x2) (k0_off8 (grid0.coords t)) S1x1x1.size (k0_off8_inb (grid0.coords t) h1))).squeeze S_ squeezes_S1x1x1_S_ = cellM (Ring.sl 3 (t.val + 2)) 2 0 :=
  cellM_congr _ _ _ (coff19 t) _
theorem coff20 : ∀ t : Fin grid0.N, k0_off10 (grid0.coords t) = ![(Ring.sl 3 (t.val + 2)).val, 2, 1] := by decide +kernel
@[sl_canon] theorem canonC_20 (t : Fin grid0.N) (h1 : k0_cond2 (grid0.coords t) = 1#1) :
    (cc0_scratch2.slice (Rect.unit (s := S3x8x2) (k0_off10 (grid0.coords t)) S1x1x1.size (k0_off10_inb (grid0.coords t) h1))).squeeze S_ squeezes_S1x1x1_S_ = cellM (Ring.sl 3 (t.val + 2)) 2 1 :=
  cellM_congr _ _ _ (coff20 t) _
theorem coff21 : ∀ t : Fin grid0.N, k0_off9 (grid0.coords t) = ![(Ring.sl 3 (t.val + 2)).val, 2, 0, 0] := by decide +kernel
@[sl_canon] theorem canonS5_21 (t : Fin grid0.N) (h1 : k0_cond2 (grid0.coords t) = 1#1) :
    (scM5.slice (Rect.unit (s := S3x8x256x128) (k0_off9 (grid0.coords t)) S1x1x256x128.size (k0_off9_inb (grid0.coords t) h1)) (fun _ => rfl)).squeeze S256x128 squeezes_S1x1x256x128_S256x128 = slotM scM5 (Ring.sl 3 (t.val + 2)) 2 :=
  slotM_congr scM5 _ _ (coff21 t) _
@[sl_canon] theorem canonS6_21 (t : Fin grid0.N) (h1 : k0_cond2 (grid0.coords t) = 1#1) :
    (scM6.slice (Rect.unit (s := S3x8x256x128) (k0_off9 (grid0.coords t)) S1x1x256x128.size (k0_off9_inb (grid0.coords t) h1)) (fun _ => rfl)).squeeze S256x128 squeezes_S1x1x256x128_S256x128 = slotM scM6 (Ring.sl 3 (t.val + 2)) 2 :=
  slotM_congr scM6 _ _ (coff21 t) _
theorem coff22 : ∀ t : Fin grid0.N, k0_cond2 (grid0.coords t) = 1#1 → k0_off3 (grid0.coords t) 2#32 = ![(Ring.bk 128 (t.val + 2)).val / 16, 0, (Ring.bk 128 (t.val + 2)).val % 16 * 8 + (2 : Fin 8).val, 0] := by decide +kernel
@[sl_canon] theorem canonH1_22 (t : Fin grid0.N) (h1 : k0_cond2 (grid0.coords t) = 1#1) :
    (hbM1.slice (Rect.unit (s := S8x256x128x128) (k0_off3 (grid0.coords t) 2#32) S1x256x1x128.size (k0_off3_inb (grid0.coords t) h1 2)) (fun _ => rfl)).squeeze S256x128 squeezes_S1x256x1x128_S256x128 = srcM hbM1 (Ring.bk 128 (t.val + 2)) 2 :=
  srcM_congr hbM1 _ _ (coff22 t h1) _
@[sl_canon] theorem canonH2_22 (t : Fin grid0.N) (h1 : k0_cond2 (grid0.coords t) = 1#1) :
    (hbM2.slice (Rect.unit (s := S8x256x128x128) (k0_off3 (grid0.coords t) 2#32) S1x256x1x128.size (k0_off3_inb (grid0.coords t) h1 2)) (fun _ => rfl)).squeeze S256x128 squeezes_S1x256x1x128_S256x128 = srcM hbM2 (Ring.bk 128 (t.val + 2)) 2 :=
  srcM_congr hbM2 _ _ (coff22 t h1) _
theorem coff23 : ∀ t : Fin grid0.N, k0_off36 (grid0.coords t) = ![(Ring.sl 3 t.val).val, 2, 0] := by decide +kernel
@[sl_canon] theorem canonC_23 (t : Fin grid0.N) :
    (cc0_scratch2.slice (Rect.unit (s := S3x8x2) (k0_off36 (grid0.coords t)) S1x1x1.size (k0_off36_inb (grid0.coords t)))).squeeze S_ squeezes_S1x1x1_S_ = cellM (Ring.sl 3 t.val) 2 0 :=
  cellM_congr _ _ _ (coff23 t) _
theorem coff24 : ∀ t : Fin grid0.N, k0_off38 (grid0.coords t) = ![(Ring.sl 3 t.val).val, 2, 1] := by decide +kernel
@[sl_canon] theorem canonC_24 (t : Fin grid0.N) :
    (cc0_scratch2.slice (Rect.unit (s := S3x8x2) (k0_off38 (grid0.coords t)) S1x1x1.size (k0_off38_inb (grid0.coords t)))).squeeze S_ squeezes_S1x1x1_S_ = cellM (Ring.sl 3 t.val) 2 1 :=
  cellM_congr _ _ _ (coff24 t) _
theorem coff25 : ∀ t : Fin grid0.N, k0_off37 (grid0.coords t) = ![(Ring.sl 3 t.val).val, 2, 0, 0] := by decide +kernel
@[sl_canon] theorem canonS5_25 (t : Fin grid0.N) :
    (scM5.slice (Rect.unit (s := S3x8x256x128) (k0_off37 (grid0.coords t)) S1x1x256x128.size (k0_off37_inb (grid0.coords t))) (fun _ => rfl)).squeeze S256x128 squeezes_S1x1x256x128_S256x128 = slotM scM5 (Ring.sl 3 t.val) 2 :=
  slotM_congr scM5 _ _ (coff25 t) _
@[sl_canon] theorem canonS6_25 (t : Fin grid0.N) :
    (scM6.slice (Rect.unit (s := S3x8x256x128) (k0_off37 (grid0.coords t)) S1x1x256x128.size (k0_off37_inb (grid0.coords t))) (fun _ => rfl)).squeeze S256x128 squeezes_S1x1x256x128_S256x128 = slotM scM6 (Ring.sl 3 t.val) 2 :=
  slotM_congr scM6 _ _ (coff25 t) _
theorem coff26 : ∀ t : Fin grid0.N, k0_off28 (grid0.coords t) 2#32 = ![(Ring.bk 128 t.val).val / 16, 0, (Ring.bk 128 t.val).val % 16 * 8 + (2 : Fin 8).val, 0] := by decide +kernel
@[sl_canon] theorem canonH1_26 (t : Fin grid0.N) :
    (hbM1.slice (Rect.unit (s := S8x256x128x128) (k0_off28 (grid0.coords t) 2#32) S1x256x1x128.size (k0_off28_inb (grid0.coords t) 2)) (fun _ => rfl)).squeeze S256x128 squeezes_S1x256x1x128_S256x128 = srcM hbM1 (Ring.bk 128 t.val) 2 :=
  srcM_congr hbM1 _ _ (coff26 t) _
@[sl_canon] theorem canonH2_26 (t : Fin grid0.N) :
    (hbM2.slice (Rect.unit (s := S8x256x128x128) (k0_off28 (grid0.coords t) 2#32) S1x256x1x128.size (k0_off28_inb (grid0.coords t) 2)) (fun _ => rfl)).squeeze S256x128 squeezes_S1x256x1x128_S256x128 = srcM hbM2 (Ring.bk 128 t.val) 2 :=
  srcM_congr hbM2 _ _ (coff26 t) _
theorem coff27 : ∀ t : Fin grid0.N, k0_off39 (grid0.coords t) = ![(Ring.sl 3 t.val).val, 2, 0, 0] := by decide +kernel
instance (priority := high) closedLoad2 (t : Fin grid0.N) : ClosedOff (k0_off39 (grid0.coords t)) := ⟨![(Ring.sl 3 t.val).val, 2, 0, 0], coff27 t⟩
theorem coff28 : ∀ t : Fin grid0.N, k0_off11 (grid0.coords t) = ![(Ring.sl 3 (t.val + 2)).val, 3, 0] := by decide +kernel
@[sl_canon] theorem canonC_28 (t : Fin grid0.N) (h1 : k0_cond2 (grid0.coords t) = 1#1) :
    (cc0_scratch2.slice (Rect.unit (s := S3x8x2) (k0_off11 (grid0.coords t)) S1x1x1.size (k0_off11_inb (grid0.coords t) h1))).squeeze S_ squeezes_S1x1x1_S_ = cellM (Ring.sl 3 (t.val + 2)) 3 0 :=
  cellM_congr _ _ _ (coff28 t) _
theorem coff29 : ∀ t : Fin grid0.N, k0_off13 (grid0.coords t) = ![(Ring.sl 3 (t.val + 2)).val, 3, 1] := by decide +kernel
@[sl_canon] theorem canonC_29 (t : Fin grid0.N) (h1 : k0_cond2 (grid0.coords t) = 1#1) :
    (cc0_scratch2.slice (Rect.unit (s := S3x8x2) (k0_off13 (grid0.coords t)) S1x1x1.size (k0_off13_inb (grid0.coords t) h1))).squeeze S_ squeezes_S1x1x1_S_ = cellM (Ring.sl 3 (t.val + 2)) 3 1 :=
  cellM_congr _ _ _ (coff29 t) _
theorem coff30 : ∀ t : Fin grid0.N, k0_off12 (grid0.coords t) = ![(Ring.sl 3 (t.val + 2)).val, 3, 0, 0] := by decide +kernel
@[sl_canon] theorem canonS5_30 (t : Fin grid0.N) (h1 : k0_cond2 (grid0.coords t) = 1#1) :
    (scM5.slice (Rect.unit (s := S3x8x256x128) (k0_off12 (grid0.coords t)) S1x1x256x128.size (k0_off12_inb (grid0.coords t) h1)) (fun _ => rfl)).squeeze S256x128 squeezes_S1x1x256x128_S256x128 = slotM scM5 (Ring.sl 3 (t.val + 2)) 3 :=
  slotM_congr scM5 _ _ (coff30 t) _
@[sl_canon] theorem canonS6_30 (t : Fin grid0.N) (h1 : k0_cond2 (grid0.coords t) = 1#1) :
    (scM6.slice (Rect.unit (s := S3x8x256x128) (k0_off12 (grid0.coords t)) S1x1x256x128.size (k0_off12_inb (grid0.coords t) h1)) (fun _ => rfl)).squeeze S256x128 squeezes_S1x1x256x128_S256x128 = slotM scM6 (Ring.sl 3 (t.val + 2)) 3 :=
  slotM_congr scM6 _ _ (coff30 t) _
theorem coff31 : ∀ t : Fin grid0.N, k0_cond2 (grid0.coords t) = 1#1 → k0_off3 (grid0.coords t) 3#32 = ![(Ring.bk 128 (t.val + 2)).val / 16, 0, (Ring.bk 128 (t.val + 2)).val % 16 * 8 + (3 : Fin 8).val, 0] := by decide +kernel
@[sl_canon] theorem canonH1_31 (t : Fin grid0.N) (h1 : k0_cond2 (grid0.coords t) = 1#1) :
    (hbM1.slice (Rect.unit (s := S8x256x128x128) (k0_off3 (grid0.coords t) 3#32) S1x256x1x128.size (k0_off3_inb (grid0.coords t) h1 3)) (fun _ => rfl)).squeeze S256x128 squeezes_S1x256x1x128_S256x128 = srcM hbM1 (Ring.bk 128 (t.val + 2)) 3 :=
  srcM_congr hbM1 _ _ (coff31 t h1) _
@[sl_canon] theorem canonH2_31 (t : Fin grid0.N) (h1 : k0_cond2 (grid0.coords t) = 1#1) :
    (hbM2.slice (Rect.unit (s := S8x256x128x128) (k0_off3 (grid0.coords t) 3#32) S1x256x1x128.size (k0_off3_inb (grid0.coords t) h1 3)) (fun _ => rfl)).squeeze S256x128 squeezes_S1x256x1x128_S256x128 = srcM hbM2 (Ring.bk 128 (t.val + 2)) 3 :=
  srcM_congr hbM2 _ _ (coff31 t h1) _
theorem coff32 : ∀ t : Fin grid0.N, k0_off40 (grid0.coords t) = ![(Ring.sl 3 t.val).val, 3, 0] := by decide +kernel
@[sl_canon] theorem canonC_32 (t : Fin grid0.N) :
    (cc0_scratch2.slice (Rect.unit (s := S3x8x2) (k0_off40 (grid0.coords t)) S1x1x1.size (k0_off40_inb (grid0.coords t)))).squeeze S_ squeezes_S1x1x1_S_ = cellM (Ring.sl 3 t.val) 3 0 :=
  cellM_congr _ _ _ (coff32 t) _
theorem coff33 : ∀ t : Fin grid0.N, k0_off42 (grid0.coords t) = ![(Ring.sl 3 t.val).val, 3, 1] := by decide +kernel
@[sl_canon] theorem canonC_33 (t : Fin grid0.N) :
    (cc0_scratch2.slice (Rect.unit (s := S3x8x2) (k0_off42 (grid0.coords t)) S1x1x1.size (k0_off42_inb (grid0.coords t)))).squeeze S_ squeezes_S1x1x1_S_ = cellM (Ring.sl 3 t.val) 3 1 :=
  cellM_congr _ _ _ (coff33 t) _
theorem coff34 : ∀ t : Fin grid0.N, k0_off41 (grid0.coords t) = ![(Ring.sl 3 t.val).val, 3, 0, 0] := by decide +kernel
@[sl_canon] theorem canonS5_34 (t : Fin grid0.N) :
    (scM5.slice (Rect.unit (s := S3x8x256x128) (k0_off41 (grid0.coords t)) S1x1x256x128.size (k0_off41_inb (grid0.coords t))) (fun _ => rfl)).squeeze S256x128 squeezes_S1x1x256x128_S256x128 = slotM scM5 (Ring.sl 3 t.val) 3 :=
  slotM_congr scM5 _ _ (coff34 t) _
@[sl_canon] theorem canonS6_34 (t : Fin grid0.N) :
    (scM6.slice (Rect.unit (s := S3x8x256x128) (k0_off41 (grid0.coords t)) S1x1x256x128.size (k0_off41_inb (grid0.coords t))) (fun _ => rfl)).squeeze S256x128 squeezes_S1x1x256x128_S256x128 = slotM scM6 (Ring.sl 3 t.val) 3 :=
  slotM_congr scM6 _ _ (coff34 t) _
theorem coff35 : ∀ t : Fin grid0.N, k0_off28 (grid0.coords t) 3#32 = ![(Ring.bk 128 t.val).val / 16, 0, (Ring.bk 128 t.val).val % 16 * 8 + (3 : Fin 8).val, 0] := by decide +kernel
@[sl_canon] theorem canonH1_35 (t : Fin grid0.N) :
    (hbM1.slice (Rect.unit (s := S8x256x128x128) (k0_off28 (grid0.coords t) 3#32) S1x256x1x128.size (k0_off28_inb (grid0.coords t) 3)) (fun _ => rfl)).squeeze S256x128 squeezes_S1x256x1x128_S256x128 = srcM hbM1 (Ring.bk 128 t.val) 3 :=
  srcM_congr hbM1 _ _ (coff35 t) _
@[sl_canon] theorem canonH2_35 (t : Fin grid0.N) :
    (hbM2.slice (Rect.unit (s := S8x256x128x128) (k0_off28 (grid0.coords t) 3#32) S1x256x1x128.size (k0_off28_inb (grid0.coords t) 3)) (fun _ => rfl)).squeeze S256x128 squeezes_S1x256x1x128_S256x128 = srcM hbM2 (Ring.bk 128 t.val) 3 :=
  srcM_congr hbM2 _ _ (coff35 t) _
theorem coff36 : ∀ t : Fin grid0.N, k0_off43 (grid0.coords t) = ![(Ring.sl 3 t.val).val, 3, 0, 0] := by decide +kernel
instance (priority := high) closedLoad3 (t : Fin grid0.N) : ClosedOff (k0_off43 (grid0.coords t)) := ⟨![(Ring.sl 3 t.val).val, 3, 0, 0], coff36 t⟩
theorem coff37 : ∀ t : Fin grid0.N, k0_off14 (grid0.coords t) = ![(Ring.sl 3 (t.val + 2)).val, 4, 0] := by decide +kernel
@[sl_canon] theorem canonC_37 (t : Fin grid0.N) (h1 : k0_cond2 (grid0.coords t) = 1#1) :
    (cc0_scratch2.slice (Rect.unit (s := S3x8x2) (k0_off14 (grid0.coords t)) S1x1x1.size (k0_off14_inb (grid0.coords t) h1))).squeeze S_ squeezes_S1x1x1_S_ = cellM (Ring.sl 3 (t.val + 2)) 4 0 :=
  cellM_congr _ _ _ (coff37 t) _
theorem coff38 : ∀ t : Fin grid0.N, k0_off16 (grid0.coords t) = ![(Ring.sl 3 (t.val + 2)).val, 4, 1] := by decide +kernel
@[sl_canon] theorem canonC_38 (t : Fin grid0.N) (h1 : k0_cond2 (grid0.coords t) = 1#1) :
    (cc0_scratch2.slice (Rect.unit (s := S3x8x2) (k0_off16 (grid0.coords t)) S1x1x1.size (k0_off16_inb (grid0.coords t) h1))).squeeze S_ squeezes_S1x1x1_S_ = cellM (Ring.sl 3 (t.val + 2)) 4 1 :=
  cellM_congr _ _ _ (coff38 t) _
theorem coff39 : ∀ t : Fin grid0.N, k0_off15 (grid0.coords t) = ![(Ring.sl 3 (t.val + 2)).val, 4, 0, 0] := by decide +kernel
@[sl_canon] theorem canonS5_39 (t : Fin grid0.N) (h1 : k0_cond2 (grid0.coords t) = 1#1) :
    (scM5.slice (Rect.unit (s := S3x8x256x128) (k0_off15 (grid0.coords t)) S1x1x256x128.size (k0_off15_inb (grid0.coords t) h1)) (fun _ => rfl)).squeeze S256x128 squeezes_S1x1x256x128_S256x128 = slotM scM5 (Ring.sl 3 (t.val + 2)) 4 :=
  slotM_congr scM5 _ _ (coff39 t) _
@[sl_canon] theorem canonS6_39 (t : Fin grid0.N) (h1 : k0_cond2 (grid0.coords t) = 1#1) :
    (scM6.slice (Rect.unit (s := S3x8x256x128) (k0_off15 (grid0.coords t)) S1x1x256x128.size (k0_off15_inb (grid0.coords t) h1)) (fun _ => rfl)).squeeze S256x128 squeezes_S1x1x256x128_S256x128 = slotM scM6 (Ring.sl 3 (t.val + 2)) 4 :=
  slotM_congr scM6 _ _ (coff39 t) _
theorem coff40 : ∀ t : Fin grid0.N, k0_cond2 (grid0.coords t) = 1#1 → k0_off3 (grid0.coords t) 4#32 = ![(Ring.bk 128 (t.val + 2)).val / 16, 0, (Ring.bk 128 (t.val + 2)).val % 16 * 8 + (4 : Fin 8).val, 0] := by decide +kernel
@[sl_canon] theorem canonH1_40 (t : Fin grid0.N) (h1 : k0_cond2 (grid0.coords t) = 1#1) :
    (hbM1.slice (Rect.unit (s := S8x256x128x128) (k0_off3 (grid0.coords t) 4#32) S1x256x1x128.size (k0_off3_inb (grid0.coords t) h1 4)) (fun _ => rfl)).squeeze S256x128 squeezes_S1x256x1x128_S256x128 = srcM hbM1 (Ring.bk 128 (t.val + 2)) 4 :=
  srcM_congr hbM1 _ _ (coff40 t h1) _
@[sl_canon] theorem canonH2_40 (t : Fin grid0.N) (h1 : k0_cond2 (grid0.coords t) = 1#1) :
    (hbM2.slice (Rect.unit (s := S8x256x128x128) (k0_off3 (grid0.coords t) 4#32) S1x256x1x128.size (k0_off3_inb (grid0.coords t) h1 4)) (fun _ => rfl)).squeeze S256x128 squeezes_S1x256x1x128_S256x128 = srcM hbM2 (Ring.bk 128 (t.val + 2)) 4 :=
  srcM_congr hbM2 _ _ (coff40 t h1) _
theorem coff41 : ∀ t : Fin grid0.N, k0_off44 (grid0.coords t) = ![(Ring.sl 3 t.val).val, 4, 0] := by decide +kernel
@[sl_canon] theorem canonC_41 (t : Fin grid0.N) :
    (cc0_scratch2.slice (Rect.unit (s := S3x8x2) (k0_off44 (grid0.coords t)) S1x1x1.size (k0_off44_inb (grid0.coords t)))).squeeze S_ squeezes_S1x1x1_S_ = cellM (Ring.sl 3 t.val) 4 0 :=
  cellM_congr _ _ _ (coff41 t) _
theorem coff42 : ∀ t : Fin grid0.N, k0_off46 (grid0.coords t) = ![(Ring.sl 3 t.val).val, 4, 1] := by decide +kernel
@[sl_canon] theorem canonC_42 (t : Fin grid0.N) :
    (cc0_scratch2.slice (Rect.unit (s := S3x8x2) (k0_off46 (grid0.coords t)) S1x1x1.size (k0_off46_inb (grid0.coords t)))).squeeze S_ squeezes_S1x1x1_S_ = cellM (Ring.sl 3 t.val) 4 1 :=
  cellM_congr _ _ _ (coff42 t) _
theorem coff43 : ∀ t : Fin grid0.N, k0_off45 (grid0.coords t) = ![(Ring.sl 3 t.val).val, 4, 0, 0] := by decide +kernel
@[sl_canon] theorem canonS5_43 (t : Fin grid0.N) :
    (scM5.slice (Rect.unit (s := S3x8x256x128) (k0_off45 (grid0.coords t)) S1x1x256x128.size (k0_off45_inb (grid0.coords t))) (fun _ => rfl)).squeeze S256x128 squeezes_S1x1x256x128_S256x128 = slotM scM5 (Ring.sl 3 t.val) 4 :=
  slotM_congr scM5 _ _ (coff43 t) _
@[sl_canon] theorem canonS6_43 (t : Fin grid0.N) :
    (scM6.slice (Rect.unit (s := S3x8x256x128) (k0_off45 (grid0.coords t)) S1x1x256x128.size (k0_off45_inb (grid0.coords t))) (fun _ => rfl)).squeeze S256x128 squeezes_S1x1x256x128_S256x128 = slotM scM6 (Ring.sl 3 t.val) 4 :=
  slotM_congr scM6 _ _ (coff43 t) _
theorem coff44 : ∀ t : Fin grid0.N, k0_off28 (grid0.coords t) 4#32 = ![(Ring.bk 128 t.val).val / 16, 0, (Ring.bk 128 t.val).val % 16 * 8 + (4 : Fin 8).val, 0] := by decide +kernel
@[sl_canon] theorem canonH1_44 (t : Fin grid0.N) :
    (hbM1.slice (Rect.unit (s := S8x256x128x128) (k0_off28 (grid0.coords t) 4#32) S1x256x1x128.size (k0_off28_inb (grid0.coords t) 4)) (fun _ => rfl)).squeeze S256x128 squeezes_S1x256x1x128_S256x128 = srcM hbM1 (Ring.bk 128 t.val) 4 :=
  srcM_congr hbM1 _ _ (coff44 t) _
@[sl_canon] theorem canonH2_44 (t : Fin grid0.N) :
    (hbM2.slice (Rect.unit (s := S8x256x128x128) (k0_off28 (grid0.coords t) 4#32) S1x256x1x128.size (k0_off28_inb (grid0.coords t) 4)) (fun _ => rfl)).squeeze S256x128 squeezes_S1x256x1x128_S256x128 = srcM hbM2 (Ring.bk 128 t.val) 4 :=
  srcM_congr hbM2 _ _ (coff44 t) _
theorem coff45 : ∀ t : Fin grid0.N, k0_off47 (grid0.coords t) = ![(Ring.sl 3 t.val).val, 4, 0, 0] := by decide +kernel
instance (priority := high) closedLoad4 (t : Fin grid0.N) : ClosedOff (k0_off47 (grid0.coords t)) := ⟨![(Ring.sl 3 t.val).val, 4, 0, 0], coff45 t⟩
theorem coff46 : ∀ t : Fin grid0.N, k0_off17 (grid0.coords t) = ![(Ring.sl 3 (t.val + 2)).val, 5, 0] := by decide +kernel
@[sl_canon] theorem canonC_46 (t : Fin grid0.N) (h1 : k0_cond2 (grid0.coords t) = 1#1) :
    (cc0_scratch2.slice (Rect.unit (s := S3x8x2) (k0_off17 (grid0.coords t)) S1x1x1.size (k0_off17_inb (grid0.coords t) h1))).squeeze S_ squeezes_S1x1x1_S_ = cellM (Ring.sl 3 (t.val + 2)) 5 0 :=
  cellM_congr _ _ _ (coff46 t) _
theorem coff47 : ∀ t : Fin grid0.N, k0_off19 (grid0.coords t) = ![(Ring.sl 3 (t.val + 2)).val, 5, 1] := by decide +kernel
@[sl_canon] theorem canonC_47 (t : Fin grid0.N) (h1 : k0_cond2 (grid0.coords t) = 1#1) :
    (cc0_scratch2.slice (Rect.unit (s := S3x8x2) (k0_off19 (grid0.coords t)) S1x1x1.size (k0_off19_inb (grid0.coords t) h1))).squeeze S_ squeezes_S1x1x1_S_ = cellM (Ring.sl 3 (t.val + 2)) 5 1 :=
  cellM_congr _ _ _ (coff47 t) _
theorem coff48 : ∀ t : Fin grid0.N, k0_off18 (grid0.coords t) = ![(Ring.sl 3 (t.val + 2)).val, 5, 0, 0] := by decide +kernel
@[sl_canon] theorem canonS5_48 (t : Fin grid0.N) (h1 : k0_cond2 (grid0.coords t) = 1#1) :
    (scM5.slice (Rect.unit (s := S3x8x256x128) (k0_off18 (grid0.coords t)) S1x1x256x128.size (k0_off18_inb (grid0.coords t) h1)) (fun _ => rfl)).squeeze S256x128 squeezes_S1x1x256x128_S256x128 = slotM scM5 (Ring.sl 3 (t.val + 2)) 5 :=
  slotM_congr scM5 _ _ (coff48 t) _
@[sl_canon] theorem canonS6_48 (t : Fin grid0.N) (h1 : k0_cond2 (grid0.coords t) = 1#1) :
    (scM6.slice (Rect.unit (s := S3x8x256x128) (k0_off18 (grid0.coords t)) S1x1x256x128.size (k0_off18_inb (grid0.coords t) h1)) (fun _ => rfl)).squeeze S256x128 squeezes_S1x1x256x128_S256x128 = slotM scM6 (Ring.sl 3 (t.val + 2)) 5 :=
  slotM_congr scM6 _ _ (coff48 t) _
theorem coff49 : ∀ t : Fin grid0.N, k0_cond2 (grid0.coords t) = 1#1 → k0_off3 (grid0.coords t) 5#32 = ![(Ring.bk 128 (t.val + 2)).val / 16, 0, (Ring.bk 128 (t.val + 2)).val % 16 * 8 + (5 : Fin 8).val, 0] := by decide +kernel
@[sl_canon] theorem canonH1_49 (t : Fin grid0.N) (h1 : k0_cond2 (grid0.coords t) = 1#1) :
    (hbM1.slice (Rect.unit (s := S8x256x128x128) (k0_off3 (grid0.coords t) 5#32) S1x256x1x128.size (k0_off3_inb (grid0.coords t) h1 5)) (fun _ => rfl)).squeeze S256x128 squeezes_S1x256x1x128_S256x128 = srcM hbM1 (Ring.bk 128 (t.val + 2)) 5 :=
  srcM_congr hbM1 _ _ (coff49 t h1) _
@[sl_canon] theorem canonH2_49 (t : Fin grid0.N) (h1 : k0_cond2 (grid0.coords t) = 1#1) :
    (hbM2.slice (Rect.unit (s := S8x256x128x128) (k0_off3 (grid0.coords t) 5#32) S1x256x1x128.size (k0_off3_inb (grid0.coords t) h1 5)) (fun _ => rfl)).squeeze S256x128 squeezes_S1x256x1x128_S256x128 = srcM hbM2 (Ring.bk 128 (t.val + 2)) 5 :=
  srcM_congr hbM2 _ _ (coff49 t h1) _
theorem coff50 : ∀ t : Fin grid0.N, k0_off48 (grid0.coords t) = ![(Ring.sl 3 t.val).val, 5, 0] := by decide +kernel
@[sl_canon] theorem canonC_50 (t : Fin grid0.N) :
    (cc0_scratch2.slice (Rect.unit (s := S3x8x2) (k0_off48 (grid0.coords t)) S1x1x1.size (k0_off48_inb (grid0.coords t)))).squeeze S_ squeezes_S1x1x1_S_ = cellM (Ring.sl 3 t.val) 5 0 :=
  cellM_congr _ _ _ (coff50 t) _
theorem coff51 : ∀ t : Fin grid0.N, k0_off50 (grid0.coords t) = ![(Ring.sl 3 t.val).val, 5, 1] := by decide +kernel
@[sl_canon] theorem canonC_51 (t : Fin grid0.N) :
    (cc0_scratch2.slice (Rect.unit (s := S3x8x2) (k0_off50 (grid0.coords t)) S1x1x1.size (k0_off50_inb (grid0.coords t)))).squeeze S_ squeezes_S1x1x1_S_ = cellM (Ring.sl 3 t.val) 5 1 :=
  cellM_congr _ _ _ (coff51 t) _
theorem coff52 : ∀ t : Fin grid0.N, k0_off49 (grid0.coords t) = ![(Ring.sl 3 t.val).val, 5, 0, 0] := by decide +kernel
@[sl_canon] theorem canonS5_52 (t : Fin grid0.N) :
    (scM5.slice (Rect.unit (s := S3x8x256x128) (k0_off49 (grid0.coords t)) S1x1x256x128.size (k0_off49_inb (grid0.coords t))) (fun _ => rfl)).squeeze S256x128 squeezes_S1x1x256x128_S256x128 = slotM scM5 (Ring.sl 3 t.val) 5 :=
  slotM_congr scM5 _ _ (coff52 t) _
@[sl_canon] theorem canonS6_52 (t : Fin grid0.N) :
    (scM6.slice (Rect.unit (s := S3x8x256x128) (k0_off49 (grid0.coords t)) S1x1x256x128.size (k0_off49_inb (grid0.coords t))) (fun _ => rfl)).squeeze S256x128 squeezes_S1x1x256x128_S256x128 = slotM scM6 (Ring.sl 3 t.val) 5 :=
  slotM_congr scM6 _ _ (coff52 t) _
theorem coff53 : ∀ t : Fin grid0.N, k0_off28 (grid0.coords t) 5#32 = ![(Ring.bk 128 t.val).val / 16, 0, (Ring.bk 128 t.val).val % 16 * 8 + (5 : Fin 8).val, 0] := by decide +kernel
@[sl_canon] theorem canonH1_53 (t : Fin grid0.N) :
    (hbM1.slice (Rect.unit (s := S8x256x128x128) (k0_off28 (grid0.coords t) 5#32) S1x256x1x128.size (k0_off28_inb (grid0.coords t) 5)) (fun _ => rfl)).squeeze S256x128 squeezes_S1x256x1x128_S256x128 = srcM hbM1 (Ring.bk 128 t.val) 5 :=
  srcM_congr hbM1 _ _ (coff53 t) _
@[sl_canon] theorem canonH2_53 (t : Fin grid0.N) :
    (hbM2.slice (Rect.unit (s := S8x256x128x128) (k0_off28 (grid0.coords t) 5#32) S1x256x1x128.size (k0_off28_inb (grid0.coords t) 5)) (fun _ => rfl)).squeeze S256x128 squeezes_S1x256x1x128_S256x128 = srcM hbM2 (Ring.bk 128 t.val) 5 :=
  srcM_congr hbM2 _ _ (coff53 t) _
theorem coff54 : ∀ t : Fin grid0.N, k0_off51 (grid0.coords t) = ![(Ring.sl 3 t.val).val, 5, 0, 0] := by decide +kernel
instance (priority := high) closedLoad5 (t : Fin grid0.N) : ClosedOff (k0_off51 (grid0.coords t)) := ⟨![(Ring.sl 3 t.val).val, 5, 0, 0], coff54 t⟩
theorem coff55 : ∀ t : Fin grid0.N, k0_off20 (grid0.coords t) = ![(Ring.sl 3 (t.val + 2)).val, 6, 0] := by decide +kernel
@[sl_canon] theorem canonC_55 (t : Fin grid0.N) (h1 : k0_cond2 (grid0.coords t) = 1#1) :
    (cc0_scratch2.slice (Rect.unit (s := S3x8x2) (k0_off20 (grid0.coords t)) S1x1x1.size (k0_off20_inb (grid0.coords t) h1))).squeeze S_ squeezes_S1x1x1_S_ = cellM (Ring.sl 3 (t.val + 2)) 6 0 :=
  cellM_congr _ _ _ (coff55 t) _
theorem coff56 : ∀ t : Fin grid0.N, k0_off22 (grid0.coords t) = ![(Ring.sl 3 (t.val + 2)).val, 6, 1] := by decide +kernel
@[sl_canon] theorem canonC_56 (t : Fin grid0.N) (h1 : k0_cond2 (grid0.coords t) = 1#1) :
    (cc0_scratch2.slice (Rect.unit (s := S3x8x2) (k0_off22 (grid0.coords t)) S1x1x1.size (k0_off22_inb (grid0.coords t) h1))).squeeze S_ squeezes_S1x1x1_S_ = cellM (Ring.sl 3 (t.val + 2)) 6 1 :=
  cellM_congr _ _ _ (coff56 t) _
theorem coff57 : ∀ t : Fin grid0.N, k0_off21 (grid0.coords t) = ![(Ring.sl 3 (t.val + 2)).val, 6, 0, 0] := by decide +kernel
@[sl_canon] theorem canonS5_57 (t : Fin grid0.N) (h1 : k0_cond2 (grid0.coords t) = 1#1) :
    (scM5.slice (Rect.unit (s := S3x8x256x128) (k0_off21 (grid0.coords t)) S1x1x256x128.size (k0_off21_inb (grid0.coords t) h1)) (fun _ => rfl)).squeeze S256x128 squeezes_S1x1x256x128_S256x128 = slotM scM5 (Ring.sl 3 (t.val + 2)) 6 :=
  slotM_congr scM5 _ _ (coff57 t) _
@[sl_canon] theorem canonS6_57 (t : Fin grid0.N) (h1 : k0_cond2 (grid0.coords t) = 1#1) :
    (scM6.slice (Rect.unit (s := S3x8x256x128) (k0_off21 (grid0.coords t)) S1x1x256x128.size (k0_off21_inb (grid0.coords t) h1)) (fun _ => rfl)).squeeze S256x128 squeezes_S1x1x256x128_S256x128 = slotM scM6 (Ring.sl 3 (t.val + 2)) 6 :=
  slotM_congr scM6 _ _ (coff57 t) _
theorem coff58 : ∀ t : Fin grid0.N, k0_cond2 (grid0.coords t) = 1#1 → k0_off3 (grid0.coords t) 6#32 = ![(Ring.bk 128 (t.val + 2)).val / 16, 0, (Ring.bk 128 (t.val + 2)).val % 16 * 8 + (6 : Fin 8).val, 0] := by decide +kernel
@[sl_canon] theorem canonH1_58 (t : Fin grid0.N) (h1 : k0_cond2 (grid0.coords t) = 1#1) :
    (hbM1.slice (Rect.unit (s := S8x256x128x128) (k0_off3 (grid0.coords t) 6#32) S1x256x1x128.size (k0_off3_inb (grid0.coords t) h1 6)) (fun _ => rfl)).squeeze S256x128 squeezes_S1x256x1x128_S256x128 = srcM hbM1 (Ring.bk 128 (t.val + 2)) 6 :=
  srcM_congr hbM1 _ _ (coff58 t h1) _
@[sl_canon] theorem canonH2_58 (t : Fin grid0.N) (h1 : k0_cond2 (grid0.coords t) = 1#1) :
    (hbM2.slice (Rect.unit (s := S8x256x128x128) (k0_off3 (grid0.coords t) 6#32) S1x256x1x128.size (k0_off3_inb (grid0.coords t) h1 6)) (fun _ => rfl)).squeeze S256x128 squeezes_S1x256x1x128_S256x128 = srcM hbM2 (Ring.bk 128 (t.val + 2)) 6 :=
  srcM_congr hbM2 _ _ (coff58 t h1) _
theorem coff59 : ∀ t : Fin grid0.N, k0_off52 (grid0.coords t) = ![(Ring.sl 3 t.val).val, 6, 0] := by decide +kernel
@[sl_canon] theorem canonC_59 (t : Fin grid0.N) :
    (cc0_scratch2.slice (Rect.unit (s := S3x8x2) (k0_off52 (grid0.coords t)) S1x1x1.size (k0_off52_inb (grid0.coords t)))).squeeze S_ squeezes_S1x1x1_S_ = cellM (Ring.sl 3 t.val) 6 0 :=
  cellM_congr _ _ _ (coff59 t) _
theorem coff60 : ∀ t : Fin grid0.N, k0_off54 (grid0.coords t) = ![(Ring.sl 3 t.val).val, 6, 1] := by decide +kernel
@[sl_canon] theorem canonC_60 (t : Fin grid0.N) :
    (cc0_scratch2.slice (Rect.unit (s := S3x8x2) (k0_off54 (grid0.coords t)) S1x1x1.size (k0_off54_inb (grid0.coords t)))).squeeze S_ squeezes_S1x1x1_S_ = cellM (Ring.sl 3 t.val) 6 1 :=
  cellM_congr _ _ _ (coff60 t) _
theorem coff61 : ∀ t : Fin grid0.N, k0_off53 (grid0.coords t) = ![(Ring.sl 3 t.val).val, 6, 0, 0] := by decide +kernel
@[sl_canon] theorem canonS5_61 (t : Fin grid0.N) :
    (scM5.slice (Rect.unit (s := S3x8x256x128) (k0_off53 (grid0.coords t)) S1x1x256x128.size (k0_off53_inb (grid0.coords t))) (fun _ => rfl)).squeeze S256x128 squeezes_S1x1x256x128_S256x128 = slotM scM5 (Ring.sl 3 t.val) 6 :=
  slotM_congr scM5 _ _ (coff61 t) _
@[sl_canon] theorem canonS6_61 (t : Fin grid0.N) :
    (scM6.slice (Rect.unit (s := S3x8x256x128) (k0_off53 (grid0.coords t)) S1x1x256x128.size (k0_off53_inb (grid0.coords t))) (fun _ => rfl)).squeeze S256x128 squeezes_S1x1x256x128_S256x128 = slotM scM6 (Ring.sl 3 t.val) 6 :=
  slotM_congr scM6 _ _ (coff61 t) _
theorem coff62 : ∀ t : Fin grid0.N, k0_off28 (grid0.coords t) 6#32 = ![(Ring.bk 128 t.val).val / 16, 0, (Ring.bk 128 t.val).val % 16 * 8 + (6 : Fin 8).val, 0] := by decide +kernel
@[sl_canon] theorem canonH1_62 (t : Fin grid0.N) :
    (hbM1.slice (Rect.unit (s := S8x256x128x128) (k0_off28 (grid0.coords t) 6#32) S1x256x1x128.size (k0_off28_inb (grid0.coords t) 6)) (fun _ => rfl)).squeeze S256x128 squeezes_S1x256x1x128_S256x128 = srcM hbM1 (Ring.bk 128 t.val) 6 :=
  srcM_congr hbM1 _ _ (coff62 t) _
@[sl_canon] theorem canonH2_62 (t : Fin grid0.N) :
    (hbM2.slice (Rect.unit (s := S8x256x128x128) (k0_off28 (grid0.coords t) 6#32) S1x256x1x128.size (k0_off28_inb (grid0.coords t) 6)) (fun _ => rfl)).squeeze S256x128 squeezes_S1x256x1x128_S256x128 = srcM hbM2 (Ring.bk 128 t.val) 6 :=
  srcM_congr hbM2 _ _ (coff62 t) _
theorem coff63 : ∀ t : Fin grid0.N, k0_off55 (grid0.coords t) = ![(Ring.sl 3 t.val).val, 6, 0, 0] := by decide +kernel
instance (priority := high) closedLoad6 (t : Fin grid0.N) : ClosedOff (k0_off55 (grid0.coords t)) := ⟨![(Ring.sl 3 t.val).val, 6, 0, 0], coff63 t⟩
theorem coff64 : ∀ t : Fin grid0.N, k0_off23 (grid0.coords t) = ![(Ring.sl 3 (t.val + 2)).val, 7, 0] := by decide +kernel
@[sl_canon] theorem canonC_64 (t : Fin grid0.N) (h1 : k0_cond2 (grid0.coords t) = 1#1) :
    (cc0_scratch2.slice (Rect.unit (s := S3x8x2) (k0_off23 (grid0.coords t)) S1x1x1.size (k0_off23_inb (grid0.coords t) h1))).squeeze S_ squeezes_S1x1x1_S_ = cellM (Ring.sl 3 (t.val + 2)) 7 0 :=
  cellM_congr _ _ _ (coff64 t) _
theorem coff65 : ∀ t : Fin grid0.N, k0_off25 (grid0.coords t) = ![(Ring.sl 3 (t.val + 2)).val, 7, 1] := by decide +kernel
@[sl_canon] theorem canonC_65 (t : Fin grid0.N) (h1 : k0_cond2 (grid0.coords t) = 1#1) :
    (cc0_scratch2.slice (Rect.unit (s := S3x8x2) (k0_off25 (grid0.coords t)) S1x1x1.size (k0_off25_inb (grid0.coords t) h1))).squeeze S_ squeezes_S1x1x1_S_ = cellM (Ring.sl 3 (t.val + 2)) 7 1 :=
  cellM_congr _ _ _ (coff65 t) _
theorem coff66 : ∀ t : Fin grid0.N, k0_off24 (grid0.coords t) = ![(Ring.sl 3 (t.val + 2)).val, 7, 0, 0] := by decide +kernel
@[sl_canon] theorem canonS5_66 (t : Fin grid0.N) (h1 : k0_cond2 (grid0.coords t) = 1#1) :
    (scM5.slice (Rect.unit (s := S3x8x256x128) (k0_off24 (grid0.coords t)) S1x1x256x128.size (k0_off24_inb (grid0.coords t) h1)) (fun _ => rfl)).squeeze S256x128 squeezes_S1x1x256x128_S256x128 = slotM scM5 (Ring.sl 3 (t.val + 2)) 7 :=
  slotM_congr scM5 _ _ (coff66 t) _
@[sl_canon] theorem canonS6_66 (t : Fin grid0.N) (h1 : k0_cond2 (grid0.coords t) = 1#1) :
    (scM6.slice (Rect.unit (s := S3x8x256x128) (k0_off24 (grid0.coords t)) S1x1x256x128.size (k0_off24_inb (grid0.coords t) h1)) (fun _ => rfl)).squeeze S256x128 squeezes_S1x1x256x128_S256x128 = slotM scM6 (Ring.sl 3 (t.val + 2)) 7 :=
  slotM_congr scM6 _ _ (coff66 t) _
theorem coff67 : ∀ t : Fin grid0.N, k0_cond2 (grid0.coords t) = 1#1 → k0_off3 (grid0.coords t) 7#32 = ![(Ring.bk 128 (t.val + 2)).val / 16, 0, (Ring.bk 128 (t.val + 2)).val % 16 * 8 + (7 : Fin 8).val, 0] := by decide +kernel
@[sl_canon] theorem canonH1_67 (t : Fin grid0.N) (h1 : k0_cond2 (grid0.coords t) = 1#1) :
    (hbM1.slice (Rect.unit (s := S8x256x128x128) (k0_off3 (grid0.coords t) 7#32) S1x256x1x128.size (k0_off3_inb (grid0.coords t) h1 7)) (fun _ => rfl)).squeeze S256x128 squeezes_S1x256x1x128_S256x128 = srcM hbM1 (Ring.bk 128 (t.val + 2)) 7 :=
  srcM_congr hbM1 _ _ (coff67 t h1) _
@[sl_canon] theorem canonH2_67 (t : Fin grid0.N) (h1 : k0_cond2 (grid0.coords t) = 1#1) :
    (hbM2.slice (Rect.unit (s := S8x256x128x128) (k0_off3 (grid0.coords t) 7#32) S1x256x1x128.size (k0_off3_inb (grid0.coords t) h1 7)) (fun _ => rfl)).squeeze S256x128 squeezes_S1x256x1x128_S256x128 = srcM hbM2 (Ring.bk 128 (t.val + 2)) 7 :=
  srcM_congr hbM2 _ _ (coff67 t h1) _
theorem coff68 : ∀ t : Fin grid0.N, k0_off56 (grid0.coords t) = ![(Ring.sl 3 t.val).val, 7, 0] := by decide +kernel
@[sl_canon] theorem canonC_68 (t : Fin grid0.N) :
    (cc0_scratch2.slice (Rect.unit (s := S3x8x2) (k0_off56 (grid0.coords t)) S1x1x1.size (k0_off56_inb (grid0.coords t)))).squeeze S_ squeezes_S1x1x1_S_ = cellM (Ring.sl 3 t.val) 7 0 :=
  cellM_congr _ _ _ (coff68 t) _
theorem coff69 : ∀ t : Fin grid0.N, k0_off58 (grid0.coords t) = ![(Ring.sl 3 t.val).val, 7, 1] := by decide +kernel
@[sl_canon] theorem canonC_69 (t : Fin grid0.N) :
    (cc0_scratch2.slice (Rect.unit (s := S3x8x2) (k0_off58 (grid0.coords t)) S1x1x1.size (k0_off58_inb (grid0.coords t)))).squeeze S_ squeezes_S1x1x1_S_ = cellM (Ring.sl 3 t.val) 7 1 :=
  cellM_congr _ _ _ (coff69 t) _
theorem coff70 : ∀ t : Fin grid0.N, k0_off57 (grid0.coords t) = ![(Ring.sl 3 t.val).val, 7, 0, 0] := by decide +kernel
@[sl_canon] theorem canonS5_70 (t : Fin grid0.N) :
    (scM5.slice (Rect.unit (s := S3x8x256x128) (k0_off57 (grid0.coords t)) S1x1x256x128.size (k0_off57_inb (grid0.coords t))) (fun _ => rfl)).squeeze S256x128 squeezes_S1x1x256x128_S256x128 = slotM scM5 (Ring.sl 3 t.val) 7 :=
  slotM_congr scM5 _ _ (coff70 t) _
@[sl_canon] theorem canonS6_70 (t : Fin grid0.N) :
    (scM6.slice (Rect.unit (s := S3x8x256x128) (k0_off57 (grid0.coords t)) S1x1x256x128.size (k0_off57_inb (grid0.coords t))) (fun _ => rfl)).squeeze S256x128 squeezes_S1x1x256x128_S256x128 = slotM scM6 (Ring.sl 3 t.val) 7 :=
  slotM_congr scM6 _ _ (coff70 t) _
theorem coff71 : ∀ t : Fin grid0.N, k0_off28 (grid0.coords t) 7#32 = ![(Ring.bk 128 t.val).val / 16, 0, (Ring.bk 128 t.val).val % 16 * 8 + (7 : Fin 8).val, 0] := by decide +kernel
@[sl_canon] theorem canonH1_71 (t : Fin grid0.N) :
    (hbM1.slice (Rect.unit (s := S8x256x128x128) (k0_off28 (grid0.coords t) 7#32) S1x256x1x128.size (k0_off28_inb (grid0.coords t) 7)) (fun _ => rfl)).squeeze S256x128 squeezes_S1x256x1x128_S256x128 = srcM hbM1 (Ring.bk 128 t.val) 7 :=
  srcM_congr hbM1 _ _ (coff71 t) _
@[sl_canon] theorem canonH2_71 (t : Fin grid0.N) :
    (hbM2.slice (Rect.unit (s := S8x256x128x128) (k0_off28 (grid0.coords t) 7#32) S1x256x1x128.size (k0_off28_inb (grid0.coords t) 7)) (fun _ => rfl)).squeeze S256x128 squeezes_S1x256x1x128_S256x128 = srcM hbM2 (Ring.bk 128 t.val) 7 :=
  srcM_congr hbM2 _ _ (coff71 t) _
theorem coff72 : ∀ t : Fin grid0.N, k0_off59 (grid0.coords t) = ![(Ring.sl 3 t.val).val, 7, 0, 0] := by decide +kernel
instance (priority := high) closedLoad7 (t : Fin grid0.N) : ClosedOff (k0_off59 (grid0.coords t)) := ⟨![(Ring.sl 3 t.val).val, 7, 0, 0], coff72 t⟩
end Canon

end Cert.KernelIdeal.Gen

end
-- ==== Proof.KernelIdeal.Step.lean ====
module

public import proofs.«01_k».proof.Proof.KernelIdeal.Ring
public import Idealize.ShloMosaic.Lib.VecWindow
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-! ## What one grid point does to the accumulators -/

/-- Row `r` of group `t` of a feature array, as the body loads it from the slot it landed in. -/
def rowA (c : Dev nD) (H : Memref sig .tc .hbm S8x256x128x128 .f32) (t : Fin cfg0.N) (W : HbBuf (F := F) c H) (r : Fin 8) : Vec F S1x1x256x128 .f32 :=
  fun y => (srcM H (Ring.bk 128 t.val) r).view.read (Elt F) W ((Shape.reshapeEquiv (Shape.Squeezes.numel_eq squeezes_S1x1x256x128_S256x128)).symm y)

/-- Row `r` of the eight rows of the label image that point `t` works on. -/
def rowL (t : Fin cfg0.N) (l : Vec F S128x128 .f32) (r : Fin 8) : Vec F S1x128 .f32 :=
  fun y => l ((Rect.unit (s := S128x128) (k0_off31 (grid0.coords t) (BitVec.ofNat 32 r.val)) S1x128.size (k0_off31_inb (grid0.coords t) r)).toLoadRect.idx y)

/-- The sums of the first features over one group of eight rows, class by class, added to `a`. -/
def stepS (A : Fin 8 → Vec F S1x1x256x128 .f32) (L : Fin 8 → Vec F S1x128 .f32) (a : Vec F S256x32 .f32) : Vec F S256x32 .f32 :=
  k0_pay64 (k0_pay11 (F := F))
    (k0_pay58 (k0_pay11 (F := F))
      (k0_pay51
        (k0_pay40 (k0_pay11 (F := F))
          (k0_pay35 (k0_pay11 (F := F))
            (k0_pay30 (k0_pay22 (k0_pay14 (k0_pay11 (F := F)) (A 0) (L 0)) (k0_pay21 (k0_pay11 (F := F)) (A 1) (L 1))) (k0_pay25 (A 2)) (k0_pay27 (k0_pay11 (F := F)) (L 2)))
            (A 3) (L 3))
          (A 4) (L 4))
        (k0_pay46 (k0_pay11 (F := F)) (L 5)) (k0_pay47 (A 5)) (k0_pay48 (A 5)) (constant S256x32 .f32 0x00000000#32))
      (k0_pay54 (A 6)) (L 6))
    (A 7) (L 7) a

/-- The sums of the second features over one group of eight rows, class by class, added to `a`. -/
def stepT (A : Fin 8 → Vec F S1x1x256x128 .f32) (L : Fin 8 → Vec F S1x128 .f32) (a : Vec F S256x32 .f32) : Vec F S256x32 .f32 :=
  k0_pay1 (k0_pay65 (k0_pay11 (F := F))
    (k0_pay59 (k0_pay11 (F := F))
      (k0_pay52
        (k0_pay41 (k0_pay11 (F := F))
          (k0_pay36 (k0_pay11 (F := F))
            (k0_pay31 (k0_pay23 (k0_pay15 (k0_pay11 (F := F)) (A 0) (L 0)) (k0_pay18 (k0_pay11 (F := F)) (L 1)) (k0_pay19 (A 1)) (k0_pay20 (A 1))) (k0_pay26 (A 2)) (k0_pay27 (k0_pay11 (F := F)) (L 2)))
            (A 3) (L 3))
          (A 4) (L 4))
        (k0_pay46 (k0_pay11 (F := F)) (L 5)) (k0_pay49 (A 5)) (k0_pay50 (A 5)))
      (k0_pay55 (A 6)) (L 6))
    (A 7) (L 7) a)

/-- The class counts of one group of eight rows, column by column, added to `a`. -/
def stepN (L : Fin 8 → Vec F S1x128 .f32) (a : Vec F S32x128 .f32) : Vec F S32x128 .f32 :=
  k0_pay2 (k0_pay63 (k0_pay11 (F := F))
    (k0_pay60 (k0_pay11 (F := F))
      (k0_pay53
        (k0_pay42 (k0_pay11 (F := F))
          (k0_pay37 (k0_pay11 (F := F))
            (k0_pay32 (k0_pay24 (k0_pay12 (k0_pay11 (F := F)) (L 0)) (k0_pay17 (k0_pay11 (F := F)) (L 1))) (k0_pay27 (k0_pay11 (F := F)) (L 2)))
            (L 3))
          (L 4))
        (k0_pay45 (k0_pay11 (F := F)) (L 5)))
      (L 6))
    (L 7)) a

/-- The loss the last point computes from the accumulators. -/
def lossOf (s u : Vec F S256x32 .f32) (n : Vec F S32x128 .f32) : Vec F S1x1 .f32 :=
  k0_pay3 (k0_pay8 n) (k0_pay9 n s u)

/-- A slot's row, loaded once a row of a feature array has landed in it. -/
theorem load_landed (c : Dev nD) (B : Memref sig .tc .vmem S3x8x256x128 .f32) (H : Memref sig .tc .hbm S8x256x128x128 .f32) (t : Fin cfg0.N)
    (W : HbBuf (F := F) c H) (r : Fin 8) (f : HbBuf (F := F) c B) {off : Fin 4 → Nat} (inb : ∀ a, off a + S1x1x256x128.size a ≤ S3x8x256x128.size a)
    (h : off = ![(Ring.sl 3 t.val).val, r.val, 0, 0]) :
    View.readAt (Elt F) B.view (Rect.unit (s := S3x8x256x128) off S1x1x256x128.size inb).toLoadRect
      ((slotM B (Ring.sl 3 t.val) r).view.writes (Elt F) f [⟨Rect.whole S256x128, ReadAs.same.apply (View.read (Elt F) (srcM H (Ring.bk 128 t.val) r).view W)⟩]) = rowA c H t W r := by
  subst h
  funext y
  have h1 := congrFun (View.read_writes_whole (Val := Elt F) (slotM B (Ring.sl 3 t.val) r).view f (ReadAs.same.apply (View.read (Elt F) (srcM H (Ring.bk 128 t.val) r).view W)))
    ((Shape.reshapeEquiv (Shape.Squeezes.numel_eq squeezes_S1x1x256x128_S256x128)).symm y)
  refine Eq.trans ?_ h1
  conv_lhs => rw [← (Shape.reshapeEquiv (Shape.Squeezes.numel_eq squeezes_S1x1x256x128_S256x128)).apply_symm_apply y]
  rfl

theorem load_row1_0 (c : Dev nD) (t : Fin cfg0.N) (W : HbBuf (F := F) c hbM1) :
    View.readAt (Elt F) scM5.view (Rect.unit (s := S3x8x256x128) (k0_off30 (grid0.coords t)) S1x1x256x128.size (k0_off30_inb (grid0.coords t))).toLoadRect
      ((slotM scM5 (Ring.sl 3 t.val) 0).view.writes (Elt F) (slotM scM5 (Ring.sl 3 t.val) 0).view.junk
        [⟨Rect.whole S256x128, ReadAs.same.apply (View.read (Elt F) (srcM hbM1 (Ring.bk 128 t.val) 0).view W)⟩]) = rowA c hbM1 t W 0 :=
  load_landed c scM5 hbM1 t W 0 _ _ (by first | exact coff9 t | exact coff9 t)
theorem load_row1_1 (c : Dev nD) (t : Fin cfg0.N) (W : HbBuf (F := F) c hbM1) :
    View.readAt (Elt F) scM5.view (Rect.unit (s := S3x8x256x128) (k0_off35 (grid0.coords t)) S1x1x256x128.size (k0_off35_inb (grid0.coords t))).toLoadRect
      ((slotM scM5 (Ring.sl 3 t.val) 1).view.writes (Elt F) (slotM scM5 (Ring.sl 3 t.val) 1).view.junk
        [⟨Rect.whole S256x128, ReadAs.same.apply (View.read (Elt F) (srcM hbM1 (Ring.bk 128 t.val) 1).view W)⟩]) = rowA c hbM1 t W 1 :=
  load_landed c scM5 hbM1 t W 1 _ _ (by first | exact coff18 t | exact coff18 t)
theorem load_row1_2 (c : Dev nD) (t : Fin cfg0.N) (W : HbBuf (F := F) c hbM1) :
    View.readAt (Elt F) scM5.view (Rect.unit (s := S3x8x256x128) (k0_off39 (grid0.coords t)) S1x1x256x128.size (k0_off39_inb (grid0.coords t))).toLoadRect
      ((slotM scM5 (Ring.sl 3 t.val) 2).view.writes (Elt F) (slotM scM5 (Ring.sl 3 t.val) 2).view.junk
        [⟨Rect.whole S256x128, ReadAs.same.apply (View.read (Elt F) (srcM hbM1 (Ring.bk 128 t.val) 2).view W)⟩]) = rowA c hbM1 t W 2 :=
  load_landed c scM5 hbM1 t W 2 _ _ (by first | exact coff27 t | exact coff27 t)
theorem load_row1_3 (c : Dev nD) (t : Fin cfg0.N) (W : HbBuf (F := F) c hbM1) :
    View.readAt (Elt F) scM5.view (Rect.unit (s := S3x8x256x128) (k0_off43 (grid0.coords t)) S1x1x256x128.size (k0_off43_inb (grid0.coords t))).toLoadRect
      ((slotM scM5 (Ring.sl 3 t.val) 3).view.writes (Elt F) (slotM scM5 (Ring.sl 3 t.val) 3).view.junk
        [⟨Rect.whole S256x128, ReadAs.same.apply (View.read (Elt F) (srcM hbM1 (Ring.bk 128 t.val) 3).view W)⟩]) = rowA c hbM1 t W 3 :=
  load_landed c scM5 hbM1 t W 3 _ _ (by first | exact coff36 t | exact coff36 t)
theorem load_row1_4 (c : Dev nD) (t : Fin cfg0.N) (W : HbBuf (F := F) c hbM1) :
    View.readAt (Elt F) scM5.view (Rect.unit (s := S3x8x256x128) (k0_off47 (grid0.coords t)) S1x1x256x128.size (k0_off47_inb (grid0.coords t))).toLoadRect
      ((slotM scM5 (Ring.sl 3 t.val) 4).view.writes (Elt F) (slotM scM5 (Ring.sl 3 t.val) 4).view.junk
        [⟨Rect.whole S256x128, ReadAs.same.apply (View.read (Elt F) (srcM hbM1 (Ring.bk 128 t.val) 4).view W)⟩]) = rowA c hbM1 t W 4 :=
  load_landed c scM5 hbM1 t W 4 _ _ (by first | exact coff45 t | exact coff45 t)
theorem load_row1_5 (c : Dev nD) (t : Fin cfg0.N) (W : HbBuf (F := F) c hbM1) :
    View.readAt (Elt F) scM5.view (Rect.unit (s := S3x8x256x128) (k0_off51 (grid0.coords t)) S1x1x256x128.size (k0_off51_inb (grid0.coords t))).toLoadRect
      ((slotM scM5 (Ring.sl 3 t.val) 5).view.writes (Elt F) (slotM scM5 (Ring.sl 3 t.val) 5).view.junk
        [⟨Rect.whole S256x128, ReadAs.same.apply (View.read (Elt F) (srcM hbM1 (Ring.bk 128 t.val) 5).view W)⟩]) = rowA c hbM1 t W 5 :=
  load_landed c scM5 hbM1 t W 5 _ _ (by first | exact coff54 t | exact coff54 t)
theorem load_row1_6 (c : Dev nD) (t : Fin cfg0.N) (W : HbBuf (F := F) c hbM1) :
    View.readAt (Elt F) scM5.view (Rect.unit (s := S3x8x256x128) (k0_off55 (grid0.coords t)) S1x1x256x128.size (k0_off55_inb (grid0.coords t))).toLoadRect
      ((slotM scM5 (Ring.sl 3 t.val) 6).view.writes (Elt F) (slotM scM5 (Ring.sl 3 t.val) 6).view.junk
        [⟨Rect.whole S256x128, ReadAs.same.apply (View.read (Elt F) (srcM hbM1 (Ring.bk 128 t.val) 6).view W)⟩]) = rowA c hbM1 t W 6 :=
  load_landed c scM5 hbM1 t W 6 _ _ (by first | exact coff63 t | exact coff63 t)
theorem load_row1_7 (c : Dev nD) (t : Fin cfg0.N) (W : HbBuf (F := F) c hbM1) :
    View.readAt (Elt F) scM5.view (Rect.unit (s := S3x8x256x128) (k0_off59 (grid0.coords t)) S1x1x256x128.size (k0_off59_inb (grid0.coords t))).toLoadRect
      ((slotM scM5 (Ring.sl 3 t.val) 7).view.writes (Elt F) (slotM scM5 (Ring.sl 3 t.val) 7).view.junk
        [⟨Rect.whole S256x128, ReadAs.same.apply (View.read (Elt F) (srcM hbM1 (Ring.bk 128 t.val) 7).view W)⟩]) = rowA c hbM1 t W 7 :=
  load_landed c scM5 hbM1 t W 7 _ _ (by first | exact coff72 t | exact coff72 t)
theorem load_row2_0 (c : Dev nD) (t : Fin cfg0.N) (W : HbBuf (F := F) c hbM2) :
    View.readAt (Elt F) scM6.view (Rect.unit (s := S3x8x256x128) (k0_off30 (grid0.coords t)) S1x1x256x128.size (k0_off30_inb (grid0.coords t))).toLoadRect
      ((slotM scM6 (Ring.sl 3 t.val) 0).view.writes (Elt F) (slotM scM6 (Ring.sl 3 t.val) 0).view.junk
        [⟨Rect.whole S256x128, ReadAs.same.apply (View.read (Elt F) (srcM hbM2 (Ring.bk 128 t.val) 0).view W)⟩]) = rowA c hbM2 t W 0 :=
  load_landed c scM6 hbM2 t W 0 _ _ (by first | exact coff9 t | exact coff9 t)
theorem load_row2_1 (c : Dev nD) (t : Fin cfg0.N) (W : HbBuf (F := F) c hbM2) :
    View.readAt (Elt F) scM6.view (Rect.unit (s := S3x8x256x128) (k0_off35 (grid0.coords t)) S1x1x256x128.size (k0_off35_inb (grid0.coords t))).toLoadRect
      ((slotM scM6 (Ring.sl 3 t.val) 1).view.writes (Elt F) (slotM scM6 (Ring.sl 3 t.val) 1).view.junk
        [⟨Rect.whole S256x128, ReadAs.same.apply (View.read (Elt F) (srcM hbM2 (Ring.bk 128 t.val) 1).view W)⟩]) = rowA c hbM2 t W 1 :=
  load_landed c scM6 hbM2 t W 1 _ _ (by first | exact coff18 t | exact coff18 t)
theorem load_row2_2 (c : Dev nD) (t : Fin cfg0.N) (W : HbBuf (F := F) c hbM2) :
    View.readAt (Elt F) scM6.view (Rect.unit (s := S3x8x256x128) (k0_off39 (grid0.coords t)) S1x1x256x128.size (k0_off39_inb (grid0.coords t))).toLoadRect
      ((slotM scM6 (Ring.sl 3 t.val) 2).view.writes (Elt F) (slotM scM6 (Ring.sl 3 t.val) 2).view.junk
        [⟨Rect.whole S256x128, ReadAs.same.apply (View.read (Elt F) (srcM hbM2 (Ring.bk 128 t.val) 2).view W)⟩]) = rowA c hbM2 t W 2 :=
  load_landed c scM6 hbM2 t W 2 _ _ (by first | exact coff27 t | exact coff27 t)
theorem load_row2_3 (c : Dev nD) (t : Fin cfg0.N) (W : HbBuf (F := F) c hbM2) :
    View.readAt (Elt F) scM6.view (Rect.unit (s := S3x8x256x128) (k0_off43 (grid0.coords t)) S1x1x256x128.size (k0_off43_inb (grid0.coords t))).toLoadRect
      ((slotM scM6 (Ring.sl 3 t.val) 3).view.writes (Elt F) (slotM scM6 (Ring.sl 3 t.val) 3).view.junk
        [⟨Rect.whole S256x128, ReadAs.same.apply (View.read (Elt F) (srcM hbM2 (Ring.bk 128 t.val) 3).view W)⟩]) = rowA c hbM2 t W 3 :=
  load_landed c scM6 hbM2 t W 3 _ _ (by first | exact coff36 t | exact coff36 t)
theorem load_row2_4 (c : Dev nD) (t : Fin cfg0.N) (W : HbBuf (F := F) c hbM2) :
    View.readAt (Elt F) scM6.view (Rect.unit (s := S3x8x256x128) (k0_off47 (grid0.coords t)) S1x1x256x128.size (k0_off47_inb (grid0.coords t))).toLoadRect
      ((slotM scM6 (Ring.sl 3 t.val) 4).view.writes (Elt F) (slotM scM6 (Ring.sl 3 t.val) 4).view.junk
        [⟨Rect.whole S256x128, ReadAs.same.apply (View.read (Elt F) (srcM hbM2 (Ring.bk 128 t.val) 4).view W)⟩]) = rowA c hbM2 t W 4 :=
  load_landed c scM6 hbM2 t W 4 _ _ (by first | exact coff45 t | exact coff45 t)
theorem load_row2_5 (c : Dev nD) (t : Fin cfg0.N) (W : HbBuf (F := F) c hbM2) :
    View.readAt (Elt F) scM6.view (Rect.unit (s := S3x8x256x128) (k0_off51 (grid0.coords t)) S1x1x256x128.size (k0_off51_inb (grid0.coords t))).toLoadRect
      ((slotM scM6 (Ring.sl 3 t.val) 5).view.writes (Elt F) (slotM scM6 (Ring.sl 3 t.val) 5).view.junk
        [⟨Rect.whole S256x128, ReadAs.same.apply (View.read (Elt F) (srcM hbM2 (Ring.bk 128 t.val) 5).view W)⟩]) = rowA c hbM2 t W 5 :=
  load_landed c scM6 hbM2 t W 5 _ _ (by first | exact coff54 t | exact coff54 t)
theorem load_row2_6 (c : Dev nD) (t : Fin cfg0.N) (W : HbBuf (F := F) c hbM2) :
    View.readAt (Elt F) scM6.view (Rect.unit (s := S3x8x256x128) (k0_off55 (grid0.coords t)) S1x1x256x128.size (k0_off55_inb (grid0.coords t))).toLoadRect
      ((slotM scM6 (Ring.sl 3 t.val) 6).view.writes (Elt F) (slotM scM6 (Ring.sl 3 t.val) 6).view.junk
        [⟨Rect.whole S256x128, ReadAs.same.apply (View.read (Elt F) (srcM hbM2 (Ring.bk 128 t.val) 6).view W)⟩]) = rowA c hbM2 t W 6 :=
  load_landed c scM6 hbM2 t W 6 _ _ (by first | exact coff63 t | exact coff63 t)
theorem load_row2_7 (c : Dev nD) (t : Fin cfg0.N) (W : HbBuf (F := F) c hbM2) :
    View.readAt (Elt F) scM6.view (Rect.unit (s := S3x8x256x128) (k0_off59 (grid0.coords t)) S1x1x256x128.size (k0_off59_inb (grid0.coords t))).toLoadRect
      ((slotM scM6 (Ring.sl 3 t.val) 7).view.writes (Elt F) (slotM scM6 (Ring.sl 3 t.val) 7).view.junk
        [⟨Rect.whole S256x128, ReadAs.same.apply (View.read (Elt F) (srcM hbM2 (Ring.bk 128 t.val) 7).view W)⟩]) = rowA c hbM2 t W 7 :=
  load_landed c scM6 hbM2 t W 7 _ _ (by first | exact coff72 t | exact coff72 t)

/-- A whole memref that a store of its own sizes has just filled holds the value stored. -/
theorem writes_full_eq {sp : Space} {s : Shape} {e : EltTy} (M : Memref sig .tc sp s e) (hM : M.IsWhole) (f : M.view.ty.Contents (Elt F))
    {off : Fin s.rank → ℕ} (inb : ∀ a, off a + s.size a ≤ s.size a) (w : s.Idx → Elt F e) (L : List (View.Piece (Elt F) s e)) :
    M.view.writes (Elt F) f (⟨Rect.unit off s.size inb, w⟩ :: L) = hM.unread w :=
  hM.eq_unread (View.read_writes_full M.view f inb w L)

/-- A load of all of a whole memref reads its contents. -/
theorem readAt_full_unread {sp : Space} {s : Shape} {e : EltTy} (M : Memref sig .tc sp s e) (hM : M.IsWhole) {off : Fin s.rank → ℕ} (inb : ∀ a, off a + s.size a ≤ s.size a)
    (w : s.Idx → Elt F e) : M.view.readAt (Elt F) (Rect.unit off s.size inb).toLoadRect (hM.unread w) = w := by
  rw [← writes_full_eq M hM M.view.junk inb w [], View.readAt_writes_full]

theorem load_lab_0 (t : Fin cfg0.N) (l : Vec F S128x128 .f32) :
    View.readAt (Elt F) scM8.view (Rect.unit (s := S128x128) (k0_off31 (grid0.coords t) 0#32) S1x128.size (k0_off31_inb (grid0.coords t) 0)).toLoadRect
      ((Memref.isWhole_whole cc0_scratch3).unread l) = rowL t l 0 :=
  funext fun y => Memref.IsWhole.readAt_unread (Val := Elt F) (Memref.isWhole_whole cc0_scratch3) l _ y
theorem load_lab_1 (t : Fin cfg0.N) (l : Vec F S128x128 .f32) :
    View.readAt (Elt F) scM8.view (Rect.unit (s := S128x128) (k0_off31 (grid0.coords t) 1#32) S1x128.size (k0_off31_inb (grid0.coords t) 1)).toLoadRect
      ((Memref.isWhole_whole cc0_scratch3).unread l) = rowL t l 1 :=
  funext fun y => Memref.IsWhole.readAt_unread (Val := Elt F) (Memref.isWhole_whole cc0_scratch3) l _ y
theorem load_lab_2 (t : Fin cfg0.N) (l : Vec F S128x128 .f32) :
    View.readAt (Elt F) scM8.view (Rect.unit (s := S128x128) (k0_off31 (grid0.coords t) 2#32) S1x128.size (k0_off31_inb (grid0.coords t) 2)).toLoadRect
      ((Memref.isWhole_whole cc0_scratch3).unread l) = rowL t l 2 :=
  funext fun y => Memref.IsWhole.readAt_unread (Val := Elt F) (Memref.isWhole_whole cc0_scratch3) l _ y
theorem load_lab_3 (t : Fin cfg0.N) (l : Vec F S128x128 .f32) :
    View.readAt (Elt F) scM8.view (Rect.unit (s := S128x128) (k0_off31 (grid0.coords t) 3#32) S1x128.size (k0_off31_inb (grid0.coords t) 3)).toLoadRect
      ((Memref.isWhole_whole cc0_scratch3).unread l) = rowL t l 3 :=
  funext fun y => Memref.IsWhole.readAt_unread (Val := Elt F) (Memref.isWhole_whole cc0_scratch3) l _ y
theorem load_lab_4 (t : Fin cfg0.N) (l : Vec F S128x128 .f32) :
    View.readAt (Elt F) scM8.view (Rect.unit (s := S128x128) (k0_off31 (grid0.coords t) 4#32) S1x128.size (k0_off31_inb (grid0.coords t) 4)).toLoadRect
      ((Memref.isWhole_whole cc0_scratch3).unread l) = rowL t l 4 :=
  funext fun y => Memref.IsWhole.readAt_unread (Val := Elt F) (Memref.isWhole_whole cc0_scratch3) l _ y
theorem load_lab_5 (t : Fin cfg0.N) (l : Vec F S128x128 .f32) :
    View.readAt (Elt F) scM8.view (Rect.unit (s := S128x128) (k0_off31 (grid0.coords t) 5#32) S1x128.size (k0_off31_inb (grid0.coords t) 5)).toLoadRect
      ((Memref.isWhole_whole cc0_scratch3).unread l) = rowL t l 5 :=
  funext fun y => Memref.IsWhole.readAt_unread (Val := Elt F) (Memref.isWhole_whole cc0_scratch3) l _ y
theorem load_lab_6 (t : Fin cfg0.N) (l : Vec F S128x128 .f32) :
    View.readAt (Elt F) scM8.view (Rect.unit (s := S128x128) (k0_off31 (grid0.coords t) 6#32) S1x128.size (k0_off31_inb (grid0.coords t) 6)).toLoadRect
      ((Memref.isWhole_whole cc0_scratch3).unread l) = rowL t l 6 :=
  funext fun y => Memref.IsWhole.readAt_unread (Val := Elt F) (Memref.isWhole_whole cc0_scratch3) l _ y
theorem load_lab_7 (t : Fin cfg0.N) (l : Vec F S128x128 .f32) :
    View.readAt (Elt F) scM8.view (Rect.unit (s := S128x128) (k0_off31 (grid0.coords t) 7#32) S1x128.size (k0_off31_inb (grid0.coords t) 7)).toLoadRect
      ((Memref.isWhole_whole cc0_scratch3).unread l) = rowL t l 7 :=
  funext fun y => Memref.IsWhole.readAt_unread (Val := Elt F) (Memref.isWhole_whole cc0_scratch3) l _ y

end Cert.KernelIdeal.Gen

end
-- ==== Proof.KernelIdeal.Fam.lean ====
module

public import proofs.«01_k».proof.Proof.KernelIdeal.Step

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-! ## The four conditions of the body, in closed form -/

abbrev cond0 (i : grid0.Coords) : Prop := (Scalar.cmpi .ne (Scalar.extui (Scalar.cmpi .eq (BitVec.ofNat 32 (i 0).val) 0#32)) 0#32) = 1#1
abbrev cond1 (i : grid0.Coords) : Prop := k0_cond2 i = 1#1
abbrev cond2 (i : grid0.Coords) : Prop := (Scalar.cmpi .ne (Scalar.extui (Scalar.cmpi .eq (Scalar.select (0#1) (Scalar.addi (Scalar.remsi (BitVec.ofNat 32 (i 0).val) 16#32) 16#32) (Scalar.remsi (BitVec.ofNat 32 (i 0).val) 16#32)) 0#32)) 0#32) = 1#1
abbrev cond3 (i : grid0.Coords) : Prop := k0_cond4 i = 1#1
theorem hcond0 : ∀ t : Fin cfg0.N, cond0 (grid0.coords t) ↔ t.val = 0 := (by decide +kernel : ∀ t : Fin grid0.N, cond0 (grid0.coords t) ↔ t.val = 0)
theorem hcond1 : ∀ t : Fin cfg0.N, cond1 (grid0.coords t) ↔ t.val < 126 := (by decide +kernel : ∀ t : Fin grid0.N, cond1 (grid0.coords t) ↔ t.val < 126)
theorem hcond2 : ∀ t : Fin cfg0.N, cond2 (grid0.coords t) ↔ t.val % 16 = 0 := (by decide +kernel : ∀ t : Fin grid0.N, cond2 (grid0.coords t) ↔ t.val % 16 = 0)
theorem hcond3 : ∀ t : Fin cfg0.N, cond3 (grid0.coords t) ↔ t.val = 127 := (by decide +kernel : ∀ t : Fin grid0.N, cond3 (grid0.coords t) ↔ t.val = 127)

/-! ## A slot's eight rows of both arrays, taken together -/

/-- Contents of the rows of one slot. -/
abbrev SlotC (c : Dev nD) : Type := (Fin 8 → HbBuf (F := F) c scM5) × (Fin 8 → HbBuf (F := F) c scM6)
/-- The sixteen semaphores of slot `s` at zero. -/
def cellF (c : Dev nD) (s : Fin 3) : sProp 𝕄 := pair8 (fun r => cellP c s r 0) (fun r => cellP c s r 1)
/-- The sixteen rows of slot `s` held at `f`. -/
def slotF (c : Dev nD) (s : Fin 3) (f : SlotC (F := F) c) : sProp 𝕄 := pair8 (fun r => slotP c scM5 s r (f.1 r)) (fun r => slotP c scM6 s r (f.2 r))
/-- The sixteen rows of group `b` of the two arrays. -/
def homeF (c : Dev nD) (W1 : HbBuf (F := F) c hbM1) (W2 : HbBuf (F := F) c hbM2) (b : Fin 128) : sProp 𝕄 := pair8 (fun r => srcP c hbM1 b r W1) (fun r => srcP c hbM2 b r W2)
/-- The sixteen copies of group `b` into slot `s`, in flight. -/
def flightF (c : Dev nD) (W1 : HbBuf (F := F) c hbM1) (W2 : HbBuf (F := F) c hbM2) (s : Fin 3) (b : Fin 128) (f : SlotC (F := F) c) : sProp 𝕄 :=
  pair8 (fun r => flightP c scM5 hbM1 0 s b r W1 (f.1 r)) (fun r => flightP c scM6 hbM2 1 s b r W2 (f.2 r))
/-- Contents of slot `s` after group `b` has landed in it. -/
def landF (c : Dev nD) (W1 : HbBuf (F := F) c hbM1) (W2 : HbBuf (F := F) c hbM2) (s : Fin 3) (b : Fin 128) : SlotC (F := F) c :=
  (fun r => landed c scM5 hbM1 s b r W1 (slotM scM5 s r).view.junk, fun r => landed c scM6 hbM2 s b r W2 (slotM scM6 s r).view.junk)

/-! ## The first point's own spellings, at literal numbers -/

section Lit
omit [FloatOps F]
theorem litC_0_0_0 (t : Fin grid0.N) (h : t.val = 0) : (cc0_scratch2.slice (Rect.unit (s := S3x8x2) ![0, 0, 0] S1x1x1.size inb_S3x8x2_S1x1x1_0_0_0)).squeeze S_ squeezes_S1x1x1_S_ = cellM (Ring.sl 3 t.val) 0 0 :=
  cellM_congr _ _ _ (by rw [h]; rfl) _
theorem litC_0_0_1 (t : Fin grid0.N) (h : t.val = 0) : (cc0_scratch2.slice (Rect.unit (s := S3x8x2) ![0, 0, 1] S1x1x1.size inb_S3x8x2_S1x1x1_0_0_1)).squeeze S_ squeezes_S1x1x1_S_ = cellM (Ring.sl 3 t.val) 0 1 :=
  cellM_congr _ _ _ (by rw [h]; rfl) _
theorem litS5_0_0 (t : Fin grid0.N) (h : t.val = 0) : (scM5.slice (Rect.unit (s := S3x8x256x128) ![0, 0, 0, 0] S1x1x256x128.size inb_S3x8x256x128_S1x1x256x128_0_0_0_0) (fun _ => rfl)).squeeze S256x128 squeezes_S1x1x256x128_S256x128 = slotM scM5 (Ring.sl 3 t.val) 0 :=
  slotM_congr scM5 _ _ (by rw [h]; rfl) _
theorem litS6_0_0 (t : Fin grid0.N) (h : t.val = 0) : (scM6.slice (Rect.unit (s := S3x8x256x128) ![0, 0, 0, 0] S1x1x256x128.size inb_S3x8x256x128_S1x1x256x128_0_0_0_0) (fun _ => rfl)).squeeze S256x128 squeezes_S1x1x256x128_S256x128 = slotM scM6 (Ring.sl 3 t.val) 0 :=
  slotM_congr scM6 _ _ (by rw [h]; rfl) _
theorem litH1_0_0 (t : Fin grid0.N) (h : t.val = 0) : (hbM1.slice (Rect.unit (s := S8x256x128x128) ![0, 0, 0, 0] S1x256x1x128.size inb_S8x256x128x128_S1x256x1x128_0_0_0_0) (fun _ => rfl)).squeeze S256x128 squeezes_S1x256x1x128_S256x128 = srcM hbM1 (Ring.bk 128 t.val) 0 :=
  srcM_congr hbM1 _ _ (by rw [h]; rfl) _
theorem litH2_0_0 (t : Fin grid0.N) (h : t.val = 0) : (hbM2.slice (Rect.unit (s := S8x256x128x128) ![0, 0, 0, 0] S1x256x1x128.size inb_S8x256x128x128_S1x256x1x128_0_0_0_0) (fun _ => rfl)).squeeze S256x128 squeezes_S1x256x1x128_S256x128 = srcM hbM2 (Ring.bk 128 t.val) 0 :=
  srcM_congr hbM2 _ _ (by rw [h]; rfl) _
theorem litC_0_1_0 (t : Fin grid0.N) (h : t.val = 0) : (cc0_scratch2.slice (Rect.unit (s := S3x8x2) ![0, 1, 0] S1x1x1.size inb_S3x8x2_S1x1x1_0_1_0)).squeeze S_ squeezes_S1x1x1_S_ = cellM (Ring.sl 3 t.val) 1 0 :=
  cellM_congr _ _ _ (by rw [h]; rfl) _
theorem litC_0_1_1 (t : Fin grid0.N) (h : t.val = 0) : (cc0_scratch2.slice (Rect.unit (s := S3x8x2) ![0, 1, 1] S1x1x1.size inb_S3x8x2_S1x1x1_0_1_1)).squeeze S_ squeezes_S1x1x1_S_ = cellM (Ring.sl 3 t.val) 1 1 :=
  cellM_congr _ _ _ (by rw [h]; rfl) _
theorem litS5_0_1 (t : Fin grid0.N) (h : t.val = 0) : (scM5.slice (Rect.unit (s := S3x8x256x128) ![0, 1, 0, 0] S1x1x256x128.size inb_S3x8x256x128_S1x1x256x128_0_1_0_0) (fun _ => rfl)).squeeze S256x128 squeezes_S1x1x256x128_S256x128 = slotM scM5 (Ring.sl 3 t.val) 1 :=
  slotM_congr scM5 _ _ (by rw [h]; rfl) _
theorem litS6_0_1 (t : Fin grid0.N) (h : t.val = 0) : (scM6.slice (Rect.unit (s := S3x8x256x128) ![0, 1, 0, 0] S1x1x256x128.size inb_S3x8x256x128_S1x1x256x128_0_1_0_0) (fun _ => rfl)).squeeze S256x128 squeezes_S1x1x256x128_S256x128 = slotM scM6 (Ring.sl 3 t.val) 1 :=
  slotM_congr scM6 _ _ (by rw [h]; rfl) _
theorem litH1_0_1 (t : Fin grid0.N) (h : t.val = 0) : (hbM1.slice (Rect.unit (s := S8x256x128x128) ![0, 0, 1, 0] S1x256x1x128.size inb_S8x256x128x128_S1x256x1x128_0_0_1_0) (fun _ => rfl)).squeeze S256x128 squeezes_S1x256x1x128_S256x128 = srcM hbM1 (Ring.bk 128 t.val) 1 :=
  srcM_congr hbM1 _ _ (by rw [h]; rfl) _
theorem litH2_0_1 (t : Fin grid0.N) (h : t.val = 0) : (hbM2.slice (Rect.unit (s := S8x256x128x128) ![0, 0, 1, 0] S1x256x1x128.size inb_S8x256x128x128_S1x256x1x128_0_0_1_0) (fun _ => rfl)).squeeze S256x128 squeezes_S1x256x1x128_S256x128 = srcM hbM2 (Ring.bk 128 t.val) 1 :=
  srcM_congr hbM2 _ _ (by rw [h]; rfl) _
theorem litC_0_2_0 (t : Fin grid0.N) (h : t.val = 0) : (cc0_scratch2.slice (Rect.unit (s := S3x8x2) ![0, 2, 0] S1x1x1.size inb_S3x8x2_S1x1x1_0_2_0)).squeeze S_ squeezes_S1x1x1_S_ = cellM (Ring.sl 3 t.val) 2 0 :=
  cellM_congr _ _ _ (by rw [h]; rfl) _
theorem litC_0_2_1 (t : Fin grid0.N) (h : t.val = 0) : (cc0_scratch2.slice (Rect.unit (s := S3x8x2) ![0, 2, 1] S1x1x1.size inb_S3x8x2_S1x1x1_0_2_1)).squeeze S_ squeezes_S1x1x1_S_ = cellM (Ring.sl 3 t.val) 2 1 :=
  cellM_congr _ _ _ (by rw [h]; rfl) _
theorem litS5_0_2 (t : Fin grid0.N) (h : t.val = 0) : (scM5.slice (Rect.unit (s := S3x8x256x128) ![0, 2, 0, 0] S1x1x256x128.size inb_S3x8x256x128_S1x1x256x128_0_2_0_0) (fun _ => rfl)).squeeze S256x128 squeezes_S1x1x256x128_S256x128 = slotM scM5 (Ring.sl 3 t.val) 2 :=
  slotM_congr scM5 _ _ (by rw [h]; rfl) _
theorem litS6_0_2 (t : Fin grid0.N) (h : t.val = 0) : (scM6.slice (Rect.unit (s := S3x8x256x128) ![0, 2, 0, 0] S1x1x256x128.size inb_S3x8x256x128_S1x1x256x128_0_2_0_0) (fun _ => rfl)).squeeze S256x128 squeezes_S1x1x256x128_S256x128 = slotM scM6 (Ring.sl 3 t.val) 2 :=
  slotM_congr scM6 _ _ (by rw [h]; rfl) _
theorem litH1_0_2 (t : Fin grid0.N) (h : t.val = 0) : (hbM1.slice (Rect.unit (s := S8x256x128x128) ![0, 0, 2, 0] S1x256x1x128.size inb_S8x256x128x128_S1x256x1x128_0_0_2_0) (fun _ => rfl)).squeeze S256x128 squeezes_S1x256x1x128_S256x128 = srcM hbM1 (Ring.bk 128 t.val) 2 :=
  srcM_congr hbM1 _ _ (by rw [h]; rfl) _
theorem litH2_0_2 (t : Fin grid0.N) (h : t.val = 0) : (hbM2.slice (Rect.unit (s := S8x256x128x128) ![0, 0, 2, 0] S1x256x1x128.size inb_S8x256x128x128_S1x256x1x128_0_0_2_0) (fun _ => rfl)).squeeze S256x128 squeezes_S1x256x1x128_S256x128 = srcM hbM2 (Ring.bk 128 t.val) 2 :=
  srcM_congr hbM2 _ _ (by rw [h]; rfl) _
theorem litC_0_3_0 (t : Fin grid0.N) (h : t.val = 0) : (cc0_scratch2.slice (Rect.unit (s := S3x8x2) ![0, 3, 0] S1x1x1.size inb_S3x8x2_S1x1x1_0_3_0)).squeeze S_ squeezes_S1x1x1_S_ = cellM (Ring.sl 3 t.val) 3 0 :=
  cellM_congr _ _ _ (by rw [h]; rfl) _
theorem litC_0_3_1 (t : Fin grid0.N) (h : t.val = 0) : (cc0_scratch2.slice (Rect.unit (s := S3x8x2) ![0, 3, 1] S1x1x1.size inb_S3x8x2_S1x1x1_0_3_1)).squeeze S_ squeezes_S1x1x1_S_ = cellM (Ring.sl 3 t.val) 3 1 :=
  cellM_congr _ _ _ (by rw [h]; rfl) _
theorem litS5_0_3 (t : Fin grid0.N) (h : t.val = 0) : (scM5.slice (Rect.unit (s := S3x8x256x128) ![0, 3, 0, 0] S1x1x256x128.size inb_S3x8x256x128_S1x1x256x128_0_3_0_0) (fun _ => rfl)).squeeze S256x128 squeezes_S1x1x256x128_S256x128 = slotM scM5 (Ring.sl 3 t.val) 3 :=
  slotM_congr scM5 _ _ (by rw [h]; rfl) _
theorem litS6_0_3 (t : Fin grid0.N) (h : t.val = 0) : (scM6.slice (Rect.unit (s := S3x8x256x128) ![0, 3, 0, 0] S1x1x256x128.size inb_S3x8x256x128_S1x1x256x128_0_3_0_0) (fun _ => rfl)).squeeze S256x128 squeezes_S1x1x256x128_S256x128 = slotM scM6 (Ring.sl 3 t.val) 3 :=
  slotM_congr scM6 _ _ (by rw [h]; rfl) _
theorem litH1_0_3 (t : Fin grid0.N) (h : t.val = 0) : (hbM1.slice (Rect.unit (s := S8x256x128x128) ![0, 0, 3, 0] S1x256x1x128.size inb_S8x256x128x128_S1x256x1x128_0_0_3_0) (fun _ => rfl)).squeeze S256x128 squeezes_S1x256x1x128_S256x128 = srcM hbM1 (Ring.bk 128 t.val) 3 :=
  srcM_congr hbM1 _ _ (by rw [h]; rfl) _
theorem litH2_0_3 (t : Fin grid0.N) (h : t.val = 0) : (hbM2.slice (Rect.unit (s := S8x256x128x128) ![0, 0, 3, 0] S1x256x1x128.size inb_S8x256x128x128_S1x256x1x128_0_0_3_0) (fun _ => rfl)).squeeze S256x128 squeezes_S1x256x1x128_S256x128 = srcM hbM2 (Ring.bk 128 t.val) 3 :=
  srcM_congr hbM2 _ _ (by rw [h]; rfl) _
theorem litC_0_4_0 (t : Fin grid0.N) (h : t.val = 0) : (cc0_scratch2.slice (Rect.unit (s := S3x8x2) ![0, 4, 0] S1x1x1.size inb_S3x8x2_S1x1x1_0_4_0)).squeeze S_ squeezes_S1x1x1_S_ = cellM (Ring.sl 3 t.val) 4 0 :=
  cellM_congr _ _ _ (by rw [h]; rfl) _
theorem litC_0_4_1 (t : Fin grid0.N) (h : t.val = 0) : (cc0_scratch2.slice (Rect.unit (s := S3x8x2) ![0, 4, 1] S1x1x1.size inb_S3x8x2_S1x1x1_0_4_1)).squeeze S_ squeezes_S1x1x1_S_ = cellM (Ring.sl 3 t.val) 4 1 :=
  cellM_congr _ _ _ (by rw [h]; rfl) _
theorem litS5_0_4 (t : Fin grid0.N) (h : t.val = 0) : (scM5.slice (Rect.unit (s := S3x8x256x128) ![0, 4, 0, 0] S1x1x256x128.size inb_S3x8x256x128_S1x1x256x128_0_4_0_0) (fun _ => rfl)).squeeze S256x128 squeezes_S1x1x256x128_S256x128 = slotM scM5 (Ring.sl 3 t.val) 4 :=
  slotM_congr scM5 _ _ (by rw [h]; rfl) _
theorem litS6_0_4 (t : Fin grid0.N) (h : t.val = 0) : (scM6.slice (Rect.unit (s := S3x8x256x128) ![0, 4, 0, 0] S1x1x256x128.size inb_S3x8x256x128_S1x1x256x128_0_4_0_0) (fun _ => rfl)).squeeze S256x128 squeezes_S1x1x256x128_S256x128 = slotM scM6 (Ring.sl 3 t.val) 4 :=
  slotM_congr scM6 _ _ (by rw [h]; rfl) _
theorem litH1_0_4 (t : Fin grid0.N) (h : t.val = 0) : (hbM1.slice (Rect.unit (s := S8x256x128x128) ![0, 0, 4, 0] S1x256x1x128.size inb_S8x256x128x128_S1x256x1x128_0_0_4_0) (fun _ => rfl)).squeeze S256x128 squeezes_S1x256x1x128_S256x128 = srcM hbM1 (Ring.bk 128 t.val) 4 :=
  srcM_congr hbM1 _ _ (by rw [h]; rfl) _
theorem litH2_0_4 (t : Fin grid0.N) (h : t.val = 0) : (hbM2.slice (Rect.unit (s := S8x256x128x128) ![0, 0, 4, 0] S1x256x1x128.size inb_S8x256x128x128_S1x256x1x128_0_0_4_0) (fun _ => rfl)).squeeze S256x128 squeezes_S1x256x1x128_S256x128 = srcM hbM2 (Ring.bk 128 t.val) 4 :=
  srcM_congr hbM2 _ _ (by rw [h]; rfl) _
theorem litC_0_5_0 (t : Fin grid0.N) (h : t.val = 0) : (cc0_scratch2.slice (Rect.unit (s := S3x8x2) ![0, 5, 0] S1x1x1.size inb_S3x8x2_S1x1x1_0_5_0)).squeeze S_ squeezes_S1x1x1_S_ = cellM (Ring.sl 3 t.val) 5 0 :=
  cellM_congr _ _ _ (by rw [h]; rfl) _
theorem litC_0_5_1 (t : Fin grid0.N) (h : t.val = 0) : (cc0_scratch2.slice (Rect.unit (s := S3x8x2) ![0, 5, 1] S1x1x1.size inb_S3x8x2_S1x1x1_0_5_1)).squeeze S_ squeezes_S1x1x1_S_ = cellM (Ring.sl 3 t.val) 5 1 :=
  cellM_congr _ _ _ (by rw [h]; rfl) _
theorem litS5_0_5 (t : Fin grid0.N) (h : t.val = 0) : (scM5.slice (Rect.unit (s := S3x8x256x128) ![0, 5, 0, 0] S1x1x256x128.size inb_S3x8x256x128_S1x1x256x128_0_5_0_0) (fun _ => rfl)).squeeze S256x128 squeezes_S1x1x256x128_S256x128 = slotM scM5 (Ring.sl 3 t.val) 5 :=
  slotM_congr scM5 _ _ (by rw [h]; rfl) _
theorem litS6_0_5 (t : Fin grid0.N) (h : t.val = 0) : (scM6.slice (Rect.unit (s := S3x8x256x128) ![0, 5, 0, 0] S1x1x256x128.size inb_S3x8x256x128_S1x1x256x128_0_5_0_0) (fun _ => rfl)).squeeze S256x128 squeezes_S1x1x256x128_S256x128 = slotM scM6 (Ring.sl 3 t.val) 5 :=
  slotM_congr scM6 _ _ (by rw [h]; rfl) _
theorem litH1_0_5 (t : Fin grid0.N) (h : t.val = 0) : (hbM1.slice (Rect.unit (s := S8x256x128x128) ![0, 0, 5, 0] S1x256x1x128.size inb_S8x256x128x128_S1x256x1x128_0_0_5_0) (fun _ => rfl)).squeeze S256x128 squeezes_S1x256x1x128_S256x128 = srcM hbM1 (Ring.bk 128 t.val) 5 :=
  srcM_congr hbM1 _ _ (by rw [h]; rfl) _
theorem litH2_0_5 (t : Fin grid0.N) (h : t.val = 0) : (hbM2.slice (Rect.unit (s := S8x256x128x128) ![0, 0, 5, 0] S1x256x1x128.size inb_S8x256x128x128_S1x256x1x128_0_0_5_0) (fun _ => rfl)).squeeze S256x128 squeezes_S1x256x1x128_S256x128 = srcM hbM2 (Ring.bk 128 t.val) 5 :=
  srcM_congr hbM2 _ _ (by rw [h]; rfl) _
theorem litC_0_6_0 (t : Fin grid0.N) (h : t.val = 0) : (cc0_scratch2.slice (Rect.unit (s := S3x8x2) ![0, 6, 0] S1x1x1.size inb_S3x8x2_S1x1x1_0_6_0)).squeeze S_ squeezes_S1x1x1_S_ = cellM (Ring.sl 3 t.val) 6 0 :=
  cellM_congr _ _ _ (by rw [h]; rfl) _
theorem litC_0_6_1 (t : Fin grid0.N) (h : t.val = 0) : (cc0_scratch2.slice (Rect.unit (s := S3x8x2) ![0, 6, 1] S1x1x1.size inb_S3x8x2_S1x1x1_0_6_1)).squeeze S_ squeezes_S1x1x1_S_ = cellM (Ring.sl 3 t.val) 6 1 :=
  cellM_congr _ _ _ (by rw [h]; rfl) _
theorem litS5_0_6 (t : Fin grid0.N) (h : t.val = 0) : (scM5.slice (Rect.unit (s := S3x8x256x128) ![0, 6, 0, 0] S1x1x256x128.size inb_S3x8x256x128_S1x1x256x128_0_6_0_0) (fun _ => rfl)).squeeze S256x128 squeezes_S1x1x256x128_S256x128 = slotM scM5 (Ring.sl 3 t.val) 6 :=
  slotM_congr scM5 _ _ (by rw [h]; rfl) _
theorem litS6_0_6 (t : Fin grid0.N) (h : t.val = 0) : (scM6.slice (Rect.unit (s := S3x8x256x128) ![0, 6, 0, 0] S1x1x256x128.size inb_S3x8x256x128_S1x1x256x128_0_6_0_0) (fun _ => rfl)).squeeze S256x128 squeezes_S1x1x256x128_S256x128 = slotM scM6 (Ring.sl 3 t.val) 6 :=
  slotM_congr scM6 _ _ (by rw [h]; rfl) _
theorem litH1_0_6 (t : Fin grid0.N) (h : t.val = 0) : (hbM1.slice (Rect.unit (s := S8x256x128x128) ![0, 0, 6, 0] S1x256x1x128.size inb_S8x256x128x128_S1x256x1x128_0_0_6_0) (fun _ => rfl)).squeeze S256x128 squeezes_S1x256x1x128_S256x128 = srcM hbM1 (Ring.bk 128 t.val) 6 :=
  srcM_congr hbM1 _ _ (by rw [h]; rfl) _
theorem litH2_0_6 (t : Fin grid0.N) (h : t.val = 0) : (hbM2.slice (Rect.unit (s := S8x256x128x128) ![0, 0, 6, 0] S1x256x1x128.size inb_S8x256x128x128_S1x256x1x128_0_0_6_0) (fun _ => rfl)).squeeze S256x128 squeezes_S1x256x1x128_S256x128 = srcM hbM2 (Ring.bk 128 t.val) 6 :=
  srcM_congr hbM2 _ _ (by rw [h]; rfl) _
theorem litC_0_7_0 (t : Fin grid0.N) (h : t.val = 0) : (cc0_scratch2.slice (Rect.unit (s := S3x8x2) ![0, 7, 0] S1x1x1.size inb_S3x8x2_S1x1x1_0_7_0)).squeeze S_ squeezes_S1x1x1_S_ = cellM (Ring.sl 3 t.val) 7 0 :=
  cellM_congr _ _ _ (by rw [h]; rfl) _
theorem litC_0_7_1 (t : Fin grid0.N) (h : t.val = 0) : (cc0_scratch2.slice (Rect.unit (s := S3x8x2) ![0, 7, 1] S1x1x1.size inb_S3x8x2_S1x1x1_0_7_1)).squeeze S_ squeezes_S1x1x1_S_ = cellM (Ring.sl 3 t.val) 7 1 :=
  cellM_congr _ _ _ (by rw [h]; rfl) _
theorem litS5_0_7 (t : Fin grid0.N) (h : t.val = 0) : (scM5.slice (Rect.unit (s := S3x8x256x128) ![0, 7, 0, 0] S1x1x256x128.size inb_S3x8x256x128_S1x1x256x128_0_7_0_0) (fun _ => rfl)).squeeze S256x128 squeezes_S1x1x256x128_S256x128 = slotM scM5 (Ring.sl 3 t.val) 7 :=
  slotM_congr scM5 _ _ (by rw [h]; rfl) _
theorem litS6_0_7 (t : Fin grid0.N) (h : t.val = 0) : (scM6.slice (Rect.unit (s := S3x8x256x128) ![0, 7, 0, 0] S1x1x256x128.size inb_S3x8x256x128_S1x1x256x128_0_7_0_0) (fun _ => rfl)).squeeze S256x128 squeezes_S1x1x256x128_S256x128 = slotM scM6 (Ring.sl 3 t.val) 7 :=
  slotM_congr scM6 _ _ (by rw [h]; rfl) _
theorem litH1_0_7 (t : Fin grid0.N) (h : t.val = 0) : (hbM1.slice (Rect.unit (s := S8x256x128x128) ![0, 0, 7, 0] S1x256x1x128.size inb_S8x256x128x128_S1x256x1x128_0_0_7_0) (fun _ => rfl)).squeeze S256x128 squeezes_S1x256x1x128_S256x128 = srcM hbM1 (Ring.bk 128 t.val) 7 :=
  srcM_congr hbM1 _ _ (by rw [h]; rfl) _
theorem litH2_0_7 (t : Fin grid0.N) (h : t.val = 0) : (hbM2.slice (Rect.unit (s := S8x256x128x128) ![0, 0, 7, 0] S1x256x1x128.size inb_S8x256x128x128_S1x256x1x128_0_0_7_0) (fun _ => rfl)).squeeze S256x128 squeezes_S1x256x1x128_S256x128 = srcM hbM2 (Ring.bk 128 t.val) 7 :=
  srcM_congr hbM2 _ _ (by rw [h]; rfl) _
theorem litC_1_0_0 (t : Fin grid0.N) (h : t.val = 0) : (cc0_scratch2.slice (Rect.unit (s := S3x8x2) ![1, 0, 0] S1x1x1.size inb_S3x8x2_S1x1x1_1_0_0)).squeeze S_ squeezes_S1x1x1_S_ = cellM (Ring.sl 3 (t.val + 1)) 0 0 :=
  cellM_congr _ _ _ (by rw [h]; rfl) _
theorem litC_1_0_1 (t : Fin grid0.N) (h : t.val = 0) : (cc0_scratch2.slice (Rect.unit (s := S3x8x2) ![1, 0, 1] S1x1x1.size inb_S3x8x2_S1x1x1_1_0_1)).squeeze S_ squeezes_S1x1x1_S_ = cellM (Ring.sl 3 (t.val + 1)) 0 1 :=
  cellM_congr _ _ _ (by rw [h]; rfl) _
theorem litS5_1_0 (t : Fin grid0.N) (h : t.val = 0) : (scM5.slice (Rect.unit (s := S3x8x256x128) ![1, 0, 0, 0] S1x1x256x128.size inb_S3x8x256x128_S1x1x256x128_1_0_0_0) (fun _ => rfl)).squeeze S256x128 squeezes_S1x1x256x128_S256x128 = slotM scM5 (Ring.sl 3 (t.val + 1)) 0 :=
  slotM_congr scM5 _ _ (by rw [h]; rfl) _
theorem litS6_1_0 (t : Fin grid0.N) (h : t.val = 0) : (scM6.slice (Rect.unit (s := S3x8x256x128) ![1, 0, 0, 0] S1x1x256x128.size inb_S3x8x256x128_S1x1x256x128_1_0_0_0) (fun _ => rfl)).squeeze S256x128 squeezes_S1x1x256x128_S256x128 = slotM scM6 (Ring.sl 3 (t.val + 1)) 0 :=
  slotM_congr scM6 _ _ (by rw [h]; rfl) _
theorem litH1_1_0 (t : Fin grid0.N) (h : t.val = 0) : (hbM1.slice (Rect.unit (s := S8x256x128x128) ![0, 0, 8, 0] S1x256x1x128.size inb_S8x256x128x128_S1x256x1x128_0_0_8_0) (fun _ => rfl)).squeeze S256x128 squeezes_S1x256x1x128_S256x128 = srcM hbM1 (Ring.bk 128 (t.val + 1)) 0 :=
  srcM_congr hbM1 _ _ (by rw [h]; rfl) _
theorem litH2_1_0 (t : Fin grid0.N) (h : t.val = 0) : (hbM2.slice (Rect.unit (s := S8x256x128x128) ![0, 0, 8, 0] S1x256x1x128.size inb_S8x256x128x128_S1x256x1x128_0_0_8_0) (fun _ => rfl)).squeeze S256x128 squeezes_S1x256x1x128_S256x128 = srcM hbM2 (Ring.bk 128 (t.val + 1)) 0 :=
  srcM_congr hbM2 _ _ (by rw [h]; rfl) _
theorem litC_1_1_0 (t : Fin grid0.N) (h : t.val = 0) : (cc0_scratch2.slice (Rect.unit (s := S3x8x2) ![1, 1, 0] S1x1x1.size inb_S3x8x2_S1x1x1_1_1_0)).squeeze S_ squeezes_S1x1x1_S_ = cellM (Ring.sl 3 (t.val + 1)) 1 0 :=
  cellM_congr _ _ _ (by rw [h]; rfl) _
theorem litC_1_1_1 (t : Fin grid0.N) (h : t.val = 0) : (cc0_scratch2.slice (Rect.unit (s := S3x8x2) ![1, 1, 1] S1x1x1.size inb_S3x8x2_S1x1x1_1_1_1)).squeeze S_ squeezes_S1x1x1_S_ = cellM (Ring.sl 3 (t.val + 1)) 1 1 :=
  cellM_congr _ _ _ (by rw [h]; rfl) _
theorem litS5_1_1 (t : Fin grid0.N) (h : t.val = 0) : (scM5.slice (Rect.unit (s := S3x8x256x128) ![1, 1, 0, 0] S1x1x256x128.size inb_S3x8x256x128_S1x1x256x128_1_1_0_0) (fun _ => rfl)).squeeze S256x128 squeezes_S1x1x256x128_S256x128 = slotM scM5 (Ring.sl 3 (t.val + 1)) 1 :=
  slotM_congr scM5 _ _ (by rw [h]; rfl) _
theorem litS6_1_1 (t : Fin grid0.N) (h : t.val = 0) : (scM6.slice (Rect.unit (s := S3x8x256x128) ![1, 1, 0, 0] S1x1x256x128.size inb_S3x8x256x128_S1x1x256x128_1_1_0_0) (fun _ => rfl)).squeeze S256x128 squeezes_S1x1x256x128_S256x128 = slotM scM6 (Ring.sl 3 (t.val + 1)) 1 :=
  slotM_congr scM6 _ _ (by rw [h]; rfl) _
theorem litH1_1_1 (t : Fin grid0.N) (h : t.val = 0) : (hbM1.slice (Rect.unit (s := S8x256x128x128) ![0, 0, 9, 0] S1x256x1x128.size inb_S8x256x128x128_S1x256x1x128_0_0_9_0) (fun _ => rfl)).squeeze S256x128 squeezes_S1x256x1x128_S256x128 = srcM hbM1 (Ring.bk 128 (t.val + 1)) 1 :=
  srcM_congr hbM1 _ _ (by rw [h]; rfl) _
theorem litH2_1_1 (t : Fin grid0.N) (h : t.val = 0) : (hbM2.slice (Rect.unit (s := S8x256x128x128) ![0, 0, 9, 0] S1x256x1x128.size inb_S8x256x128x128_S1x256x1x128_0_0_9_0) (fun _ => rfl)).squeeze S256x128 squeezes_S1x256x1x128_S256x128 = srcM hbM2 (Ring.bk 128 (t.val + 1)) 1 :=
  srcM_congr hbM2 _ _ (by rw [h]; rfl) _
theorem litC_1_2_0 (t : Fin grid0.N) (h : t.val = 0) : (cc0_scratch2.slice (Rect.unit (s := S3x8x2) ![1, 2, 0] S1x1x1.size inb_S3x8x2_S1x1x1_1_2_0)).squeeze S_ squeezes_S1x1x1_S_ = cellM (Ring.sl 3 (t.val + 1)) 2 0 :=
  cellM_congr _ _ _ (by rw [h]; rfl) _
theorem litC_1_2_1 (t : Fin grid0.N) (h : t.val = 0) : (cc0_scratch2.slice (Rect.unit (s := S3x8x2) ![1, 2, 1] S1x1x1.size inb_S3x8x2_S1x1x1_1_2_1)).squeeze S_ squeezes_S1x1x1_S_ = cellM (Ring.sl 3 (t.val + 1)) 2 1 :=
  cellM_congr _ _ _ (by rw [h]; rfl) _
theorem litS5_1_2 (t : Fin grid0.N) (h : t.val = 0) : (scM5.slice (Rect.unit (s := S3x8x256x128) ![1, 2, 0, 0] S1x1x256x128.size inb_S3x8x256x128_S1x1x256x128_1_2_0_0) (fun _ => rfl)).squeeze S256x128 squeezes_S1x1x256x128_S256x128 = slotM scM5 (Ring.sl 3 (t.val + 1)) 2 :=
  slotM_congr scM5 _ _ (by rw [h]; rfl) _
theorem litS6_1_2 (t : Fin grid0.N) (h : t.val = 0) : (scM6.slice (Rect.unit (s := S3x8x256x128) ![1, 2, 0, 0] S1x1x256x128.size inb_S3x8x256x128_S1x1x256x128_1_2_0_0) (fun _ => rfl)).squeeze S256x128 squeezes_S1x1x256x128_S256x128 = slotM scM6 (Ring.sl 3 (t.val + 1)) 2 :=
  slotM_congr scM6 _ _ (by rw [h]; rfl) _
theorem litH1_1_2 (t : Fin grid0.N) (h : t.val = 0) : (hbM1.slice (Rect.unit (s := S8x256x128x128) ![0, 0, 10, 0] S1x256x1x128.size inb_S8x256x128x128_S1x256x1x128_0_0_10_0) (fun _ => rfl)).squeeze S256x128 squeezes_S1x256x1x128_S256x128 = srcM hbM1 (Ring.bk 128 (t.val + 1)) 2 :=
  srcM_congr hbM1 _ _ (by rw [h]; rfl) _
theorem litH2_1_2 (t : Fin grid0.N) (h : t.val = 0) : (hbM2.slice (Rect.unit (s := S8x256x128x128) ![0, 0, 10, 0] S1x256x1x128.size inb_S8x256x128x128_S1x256x1x128_0_0_10_0) (fun _ => rfl)).squeeze S256x128 squeezes_S1x256x1x128_S256x128 = srcM hbM2 (Ring.bk 128 (t.val + 1)) 2 :=
  srcM_congr hbM2 _ _ (by rw [h]; rfl) _
theorem litC_1_3_0 (t : Fin grid0.N) (h : t.val = 0) : (cc0_scratch2.slice (Rect.unit (s := S3x8x2) ![1, 3, 0] S1x1x1.size inb_S3x8x2_S1x1x1_1_3_0)).squeeze S_ squeezes_S1x1x1_S_ = cellM (Ring.sl 3 (t.val + 1)) 3 0 :=
  cellM_congr _ _ _ (by rw [h]; rfl) _
theorem litC_1_3_1 (t : Fin grid0.N) (h : t.val = 0) : (cc0_scratch2.slice (Rect.unit (s := S3x8x2) ![1, 3, 1] S1x1x1.size inb_S3x8x2_S1x1x1_1_3_1)).squeeze S_ squeezes_S1x1x1_S_ = cellM (Ring.sl 3 (t.val + 1)) 3 1 :=
  cellM_congr _ _ _ (by rw [h]; rfl) _
theorem litS5_1_3 (t : Fin grid0.N) (h : t.val = 0) : (scM5.slice (Rect.unit (s := S3x8x256x128) ![1, 3, 0, 0] S1x1x256x128.size inb_S3x8x256x128_S1x1x256x128_1_3_0_0) (fun _ => rfl)).squeeze S256x128 squeezes_S1x1x256x128_S256x128 = slotM scM5 (Ring.sl 3 (t.val + 1)) 3 :=
  slotM_congr scM5 _ _ (by rw [h]; rfl) _
theorem litS6_1_3 (t : Fin grid0.N) (h : t.val = 0) : (scM6.slice (Rect.unit (s := S3x8x256x128) ![1, 3, 0, 0] S1x1x256x128.size inb_S3x8x256x128_S1x1x256x128_1_3_0_0) (fun _ => rfl)).squeeze S256x128 squeezes_S1x1x256x128_S256x128 = slotM scM6 (Ring.sl 3 (t.val + 1)) 3 :=
  slotM_congr scM6 _ _ (by rw [h]; rfl) _
theorem litH1_1_3 (t : Fin grid0.N) (h : t.val = 0) : (hbM1.slice (Rect.unit (s := S8x256x128x128) ![0, 0, 11, 0] S1x256x1x128.size inb_S8x256x128x128_S1x256x1x128_0_0_11_0) (fun _ => rfl)).squeeze S256x128 squeezes_S1x256x1x128_S256x128 = srcM hbM1 (Ring.bk 128 (t.val + 1)) 3 :=
  srcM_congr hbM1 _ _ (by rw [h]; rfl) _
theorem litH2_1_3 (t : Fin grid0.N) (h : t.val = 0) : (hbM2.slice (Rect.unit (s := S8x256x128x128) ![0, 0, 11, 0] S1x256x1x128.size inb_S8x256x128x128_S1x256x1x128_0_0_11_0) (fun _ => rfl)).squeeze S256x128 squeezes_S1x256x1x128_S256x128 = srcM hbM2 (Ring.bk 128 (t.val + 1)) 3 :=
  srcM_congr hbM2 _ _ (by rw [h]; rfl) _
theorem litC_1_4_0 (t : Fin grid0.N) (h : t.val = 0) : (cc0_scratch2.slice (Rect.unit (s := S3x8x2) ![1, 4, 0] S1x1x1.size inb_S3x8x2_S1x1x1_1_4_0)).squeeze S_ squeezes_S1x1x1_S_ = cellM (Ring.sl 3 (t.val + 1)) 4 0 :=
  cellM_congr _ _ _ (by rw [h]; rfl) _
theorem litC_1_4_1 (t : Fin grid0.N) (h : t.val = 0) : (cc0_scratch2.slice (Rect.unit (s := S3x8x2) ![1, 4, 1] S1x1x1.size inb_S3x8x2_S1x1x1_1_4_1)).squeeze S_ squeezes_S1x1x1_S_ = cellM (Ring.sl 3 (t.val + 1)) 4 1 :=
  cellM_congr _ _ _ (by rw [h]; rfl) _
theorem litS5_1_4 (t : Fin grid0.N) (h : t.val = 0) : (scM5.slice (Rect.unit (s := S3x8x256x128) ![1, 4, 0, 0] S1x1x256x128.size inb_S3x8x256x128_S1x1x256x128_1_4_0_0) (fun _ => rfl)).squeeze S256x128 squeezes_S1x1x256x128_S256x128 = slotM scM5 (Ring.sl 3 (t.val + 1)) 4 :=
  slotM_congr scM5 _ _ (by rw [h]; rfl) _
theorem litS6_1_4 (t : Fin grid0.N) (h : t.val = 0) : (scM6.slice (Rect.unit (s := S3x8x256x128) ![1, 4, 0, 0] S1x1x256x128.size inb_S3x8x256x128_S1x1x256x128_1_4_0_0) (fun _ => rfl)).squeeze S256x128 squeezes_S1x1x256x128_S256x128 = slotM scM6 (Ring.sl 3 (t.val + 1)) 4 :=
  slotM_congr scM6 _ _ (by rw [h]; rfl) _
theorem litH1_1_4 (t : Fin grid0.N) (h : t.val = 0) : (hbM1.slice (Rect.unit (s := S8x256x128x128) ![0, 0, 12, 0] S1x256x1x128.size inb_S8x256x128x128_S1x256x1x128_0_0_12_0) (fun _ => rfl)).squeeze S256x128 squeezes_S1x256x1x128_S256x128 = srcM hbM1 (Ring.bk 128 (t.val + 1)) 4 :=
  srcM_congr hbM1 _ _ (by rw [h]; rfl) _
theorem litH2_1_4 (t : Fin grid0.N) (h : t.val = 0) : (hbM2.slice (Rect.unit (s := S8x256x128x128) ![0, 0, 12, 0] S1x256x1x128.size inb_S8x256x128x128_S1x256x1x128_0_0_12_0) (fun _ => rfl)).squeeze S256x128 squeezes_S1x256x1x128_S256x128 = srcM hbM2 (Ring.bk 128 (t.val + 1)) 4 :=
  srcM_congr hbM2 _ _ (by rw [h]; rfl) _
theorem litC_1_5_0 (t : Fin grid0.N) (h : t.val = 0) : (cc0_scratch2.slice (Rect.unit (s := S3x8x2) ![1, 5, 0] S1x1x1.size inb_S3x8x2_S1x1x1_1_5_0)).squeeze S_ squeezes_S1x1x1_S_ = cellM (Ring.sl 3 (t.val + 1)) 5 0 :=
  cellM_congr _ _ _ (by rw [h]; rfl) _
theorem litC_1_5_1 (t : Fin grid0.N) (h : t.val = 0) : (cc0_scratch2.slice (Rect.unit (s := S3x8x2) ![1, 5, 1] S1x1x1.size inb_S3x8x2_S1x1x1_1_5_1)).squeeze S_ squeezes_S1x1x1_S_ = cellM (Ring.sl 3 (t.val + 1)) 5 1 :=
  cellM_congr _ _ _ (by rw [h]; rfl) _
theorem litS5_1_5 (t : Fin grid0.N) (h : t.val = 0) : (scM5.slice (Rect.unit (s := S3x8x256x128) ![1, 5, 0, 0] S1x1x256x128.size inb_S3x8x256x128_S1x1x256x128_1_5_0_0) (fun _ => rfl)).squeeze S256x128 squeezes_S1x1x256x128_S256x128 = slotM scM5 (Ring.sl 3 (t.val + 1)) 5 :=
  slotM_congr scM5 _ _ (by rw [h]; rfl) _
theorem litS6_1_5 (t : Fin grid0.N) (h : t.val = 0) : (scM6.slice (Rect.unit (s := S3x8x256x128) ![1, 5, 0, 0] S1x1x256x128.size inb_S3x8x256x128_S1x1x256x128_1_5_0_0) (fun _ => rfl)).squeeze S256x128 squeezes_S1x1x256x128_S256x128 = slotM scM6 (Ring.sl 3 (t.val + 1)) 5 :=
  slotM_congr scM6 _ _ (by rw [h]; rfl) _
theorem litH1_1_5 (t : Fin grid0.N) (h : t.val = 0) : (hbM1.slice (Rect.unit (s := S8x256x128x128) ![0, 0, 13, 0] S1x256x1x128.size inb_S8x256x128x128_S1x256x1x128_0_0_13_0) (fun _ => rfl)).squeeze S256x128 squeezes_S1x256x1x128_S256x128 = srcM hbM1 (Ring.bk 128 (t.val + 1)) 5 :=
  srcM_congr hbM1 _ _ (by rw [h]; rfl) _
theorem litH2_1_5 (t : Fin grid0.N) (h : t.val = 0) : (hbM2.slice (Rect.unit (s := S8x256x128x128) ![0, 0, 13, 0] S1x256x1x128.size inb_S8x256x128x128_S1x256x1x128_0_0_13_0) (fun _ => rfl)).squeeze S256x128 squeezes_S1x256x1x128_S256x128 = srcM hbM2 (Ring.bk 128 (t.val + 1)) 5 :=
  srcM_congr hbM2 _ _ (by rw [h]; rfl) _
theorem litC_1_6_0 (t : Fin grid0.N) (h : t.val = 0) : (cc0_scratch2.slice (Rect.unit (s := S3x8x2) ![1, 6, 0] S1x1x1.size inb_S3x8x2_S1x1x1_1_6_0)).squeeze S_ squeezes_S1x1x1_S_ = cellM (Ring.sl 3 (t.val + 1)) 6 0 :=
  cellM_congr _ _ _ (by rw [h]; rfl) _
theorem litC_1_6_1 (t : Fin grid0.N) (h : t.val = 0) : (cc0_scratch2.slice (Rect.unit (s := S3x8x2) ![1, 6, 1] S1x1x1.size inb_S3x8x2_S1x1x1_1_6_1)).squeeze S_ squeezes_S1x1x1_S_ = cellM (Ring.sl 3 (t.val + 1)) 6 1 :=
  cellM_congr _ _ _ (by rw [h]; rfl) _
theorem litS5_1_6 (t : Fin grid0.N) (h : t.val = 0) : (scM5.slice (Rect.unit (s := S3x8x256x128) ![1, 6, 0, 0] S1x1x256x128.size inb_S3x8x256x128_S1x1x256x128_1_6_0_0) (fun _ => rfl)).squeeze S256x128 squeezes_S1x1x256x128_S256x128 = slotM scM5 (Ring.sl 3 (t.val + 1)) 6 :=
  slotM_congr scM5 _ _ (by rw [h]; rfl) _
theorem litS6_1_6 (t : Fin grid0.N) (h : t.val = 0) : (scM6.slice (Rect.unit (s := S3x8x256x128) ![1, 6, 0, 0] S1x1x256x128.size inb_S3x8x256x128_S1x1x256x128_1_6_0_0) (fun _ => rfl)).squeeze S256x128 squeezes_S1x1x256x128_S256x128 = slotM scM6 (Ring.sl 3 (t.val + 1)) 6 :=
  slotM_congr scM6 _ _ (by rw [h]; rfl) _
theorem litH1_1_6 (t : Fin grid0.N) (h : t.val = 0) : (hbM1.slice (Rect.unit (s := S8x256x128x128) ![0, 0, 14, 0] S1x256x1x128.size inb_S8x256x128x128_S1x256x1x128_0_0_14_0) (fun _ => rfl)).squeeze S256x128 squeezes_S1x256x1x128_S256x128 = srcM hbM1 (Ring.bk 128 (t.val + 1)) 6 :=
  srcM_congr hbM1 _ _ (by rw [h]; rfl) _
theorem litH2_1_6 (t : Fin grid0.N) (h : t.val = 0) : (hbM2.slice (Rect.unit (s := S8x256x128x128) ![0, 0, 14, 0] S1x256x1x128.size inb_S8x256x128x128_S1x256x1x128_0_0_14_0) (fun _ => rfl)).squeeze S256x128 squeezes_S1x256x1x128_S256x128 = srcM hbM2 (Ring.bk 128 (t.val + 1)) 6 :=
  srcM_congr hbM2 _ _ (by rw [h]; rfl) _
theorem litC_1_7_0 (t : Fin grid0.N) (h : t.val = 0) : (cc0_scratch2.slice (Rect.unit (s := S3x8x2) ![1, 7, 0] S1x1x1.size inb_S3x8x2_S1x1x1_1_7_0)).squeeze S_ squeezes_S1x1x1_S_ = cellM (Ring.sl 3 (t.val + 1)) 7 0 :=
  cellM_congr _ _ _ (by rw [h]; rfl) _
theorem litC_1_7_1 (t : Fin grid0.N) (h : t.val = 0) : (cc0_scratch2.slice (Rect.unit (s := S3x8x2) ![1, 7, 1] S1x1x1.size inb_S3x8x2_S1x1x1_1_7_1)).squeeze S_ squeezes_S1x1x1_S_ = cellM (Ring.sl 3 (t.val + 1)) 7 1 :=
  cellM_congr _ _ _ (by rw [h]; rfl) _
theorem litS5_1_7 (t : Fin grid0.N) (h : t.val = 0) : (scM5.slice (Rect.unit (s := S3x8x256x128) ![1, 7, 0, 0] S1x1x256x128.size inb_S3x8x256x128_S1x1x256x128_1_7_0_0) (fun _ => rfl)).squeeze S256x128 squeezes_S1x1x256x128_S256x128 = slotM scM5 (Ring.sl 3 (t.val + 1)) 7 :=
  slotM_congr scM5 _ _ (by rw [h]; rfl) _
theorem litS6_1_7 (t : Fin grid0.N) (h : t.val = 0) : (scM6.slice (Rect.unit (s := S3x8x256x128) ![1, 7, 0, 0] S1x1x256x128.size inb_S3x8x256x128_S1x1x256x128_1_7_0_0) (fun _ => rfl)).squeeze S256x128 squeezes_S1x1x256x128_S256x128 = slotM scM6 (Ring.sl 3 (t.val + 1)) 7 :=
  slotM_congr scM6 _ _ (by rw [h]; rfl) _
theorem litH1_1_7 (t : Fin grid0.N) (h : t.val = 0) : (hbM1.slice (Rect.unit (s := S8x256x128x128) ![0, 0, 15, 0] S1x256x1x128.size inb_S8x256x128x128_S1x256x1x128_0_0_15_0) (fun _ => rfl)).squeeze S256x128 squeezes_S1x256x1x128_S256x128 = srcM hbM1 (Ring.bk 128 (t.val + 1)) 7 :=
  srcM_congr hbM1 _ _ (by rw [h]; rfl) _
theorem litH2_1_7 (t : Fin grid0.N) (h : t.val = 0) : (hbM2.slice (Rect.unit (s := S8x256x128x128) ![0, 0, 15, 0] S1x256x1x128.size inb_S8x256x128x128_S1x256x1x128_0_0_15_0) (fun _ => rfl)).squeeze S256x128 squeezes_S1x256x1x128_S256x128 = srcM hbM2 (Ring.bk 128 (t.val + 1)) 7 :=
  srcM_congr hbM2 _ _ (by rw [h]; rfl) _
end Lit
theorem clab0 : ∀ t : Fin grid0.N, k0_off31 (grid0.coords t) 0#32 = ![t.val % 16 * 8 + 0, 0] := by decide +kernel
instance (priority := high) closedLab0 (t : Fin grid0.N) : ClosedOff (k0_off31 (grid0.coords t) 0#32) := ⟨![t.val % 16 * 8 + 0, 0], clab0 t⟩
theorem clab1 : ∀ t : Fin grid0.N, k0_off31 (grid0.coords t) 1#32 = ![t.val % 16 * 8 + 1, 0] := by decide +kernel
instance (priority := high) closedLab1 (t : Fin grid0.N) : ClosedOff (k0_off31 (grid0.coords t) 1#32) := ⟨![t.val % 16 * 8 + 1, 0], clab1 t⟩
theorem clab2 : ∀ t : Fin grid0.N, k0_off31 (grid0.coords t) 2#32 = ![t.val % 16 * 8 + 2, 0] := by decide +kernel
instance (priority := high) closedLab2 (t : Fin grid0.N) : ClosedOff (k0_off31 (grid0.coords t) 2#32) := ⟨![t.val % 16 * 8 + 2, 0], clab2 t⟩
theorem clab3 : ∀ t : Fin grid0.N, k0_off31 (grid0.coords t) 3#32 = ![t.val % 16 * 8 + 3, 0] := by decide +kernel
instance (priority := high) closedLab3 (t : Fin grid0.N) : ClosedOff (k0_off31 (grid0.coords t) 3#32) := ⟨![t.val % 16 * 8 + 3, 0], clab3 t⟩
theorem clab4 : ∀ t : Fin grid0.N, k0_off31 (grid0.coords t) 4#32 = ![t.val % 16 * 8 + 4, 0] := by decide +kernel
instance (priority := high) closedLab4 (t : Fin grid0.N) : ClosedOff (k0_off31 (grid0.coords t) 4#32) := ⟨![t.val % 16 * 8 + 4, 0], clab4 t⟩
theorem clab5 : ∀ t : Fin grid0.N, k0_off31 (grid0.coords t) 5#32 = ![t.val % 16 * 8 + 5, 0] := by decide +kernel
instance (priority := high) closedLab5 (t : Fin grid0.N) : ClosedOff (k0_off31 (grid0.coords t) 5#32) := ⟨![t.val % 16 * 8 + 5, 0], clab5 t⟩
theorem clab6 : ∀ t : Fin grid0.N, k0_off31 (grid0.coords t) 6#32 = ![t.val % 16 * 8 + 6, 0] := by decide +kernel
instance (priority := high) closedLab6 (t : Fin grid0.N) : ClosedOff (k0_off31 (grid0.coords t) 6#32) := ⟨![t.val % 16 * 8 + 6, 0], clab6 t⟩
theorem clab7 : ∀ t : Fin grid0.N, k0_off31 (grid0.coords t) 7#32 = ![t.val % 16 * 8 + 7, 0] := by decide +kernel
instance (priority := high) closedLab7 (t : Fin grid0.N) : ClosedOff (k0_off31 (grid0.coords t) 7#32) := ⟨![t.val % 16 * 8 + 7, 0], clab7 t⟩

end Cert.KernelIdeal.Gen

end
-- ==== Proof.KernelIdeal.Ends.lean ====
module

public import proofs.«01_k».proof.Proof.KernelIdeal.Fam

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## Eight pairs are two families of eight -/

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin2 (Φ : Fin 2 → sProp 𝕄) : bigSep Finset.univ Φ = iprop(Φ 0 ∗ Φ 1) :=
  bigSep_univ_eq_bigSepL [0, 1] (by decide) (by decide) Φ
theorem bigSep_two {ι : Type} [DecidableEq ι] (s : Finset ι) (P Q : ι → sProp 𝕄) :
    (bigSep s fun i => iprop(P i ∗ Q i)) = iprop(bigSep s P ∗ bigSep s Q) := BI.bigSep_sep s P Q
theorem pair8_eq (P Q : Fin 8 → sProp 𝕄) : pair8 P Q = iprop(bigSep Finset.univ P ∗ bigSep Finset.univ Q) := by
  rw [show iprop(bigSep Finset.univ P ∗ bigSep Finset.univ Q) = bigSep Finset.univ (fun r => iprop(P r ∗ Q r)) from (bigSep_two _ _ _).symm, bigSep_fin8]; rfl

/-! ## The rows of a feature array are disjoint and cover it, and so are the rows of a scratch buffer -/

section Sets
omit [FloatOps F]
abbrev srcSet (p : Fin 128 × Fin 8) : Finset S8x256x128x128.Idx :=
  (Rect.unit (s := S8x256x128x128) ![p.1.val / 16, 0, p.1.val % 16 * 8 + p.2.val, 0] S1x256x1x128.size (inb_src p.1 p.2)).set
abbrev slotSet (p : Fin 3 × Fin 8) : Finset S3x8x256x128.Idx :=
  (Rect.unit (s := S3x8x256x128) ![p.1.val, p.2.val, 0, 0] S1x1x256x128.size (inb_slot p.1 p.2)).set
theorem srcSet_eq1 (b : Fin 128) (r : Fin 8) : (srcM hbM1 b r).view.set = srcSet (b, r) := by
  simp only [srcM, Memref.view_squeeze, View.set_reshape]; exact View.set_slice_whole _ _
theorem srcSet_eq2 (b : Fin 128) (r : Fin 8) : (srcM hbM2 b r).view.set = srcSet (b, r) := by
  simp only [srcM, Memref.view_squeeze, View.set_reshape]; exact View.set_slice_whole _ _
theorem slotSet_eq5 (s : Fin 3) (r : Fin 8) : (slotM scM5 s r).view.set = slotSet (s, r) := by
  simp only [slotM, Memref.view_squeeze, View.set_reshape]; exact View.set_slice_whole _ _
theorem slotSet_eq6 (s : Fin 3) (r : Fin 8) : (slotM scM6 s r).view.set = slotSet (s, r) := by
  simp only [slotM, Memref.view_squeeze, View.set_reshape]; exact View.set_slice_whole _ _
theorem srcSet_disjoint (p p' : Fin 128 × Fin 8) (h : p ≠ p') : Disjoint (srcSet p) (srcSet p') := by
  obtain ⟨b, r⟩ := p; obtain ⟨b', r'⟩ := p'
  rw [Finset.disjoint_left]; intro i hi hi'
  have a0 := (Rect.mem_set_unit.mp hi) 0; have a2 := (Rect.mem_set_unit.mp hi) 2
  have c0 := (Rect.mem_set_unit.mp hi') 0; have c2 := (Rect.mem_set_unit.mp hi') 2
  have z0 : S1x256x1x128.size 0 = 1 := rfl
  have z2 : S1x256x1x128.size 2 = 1 := rfl
  have o0 : ∀ (x y : ℕ), (![x, 0, y, 0] : Fin 4 → ℕ) 0 = x := fun _ _ => rfl
  have o2 : ∀ (x y : ℕ), (![x, 0, y, 0] : Fin 4 → ℕ) 2 = y := fun _ _ => rfl
  have hr := r.isLt; have hr' := r'.isLt
  have hne : b.val ≠ b'.val ∨ r.val ≠ r'.val := by
    by_contra hc; push Not at hc; exact h (Prod.ext (Fin.ext hc.1) (Fin.ext hc.2))
  have e0 : b.val / 16 = b'.val / 16 := by
    have u1 : b.val / 16 ≤ (i 0).val := a0.1
    have u2 : (i 0).val < b.val / 16 + 1 := a0.2
    have u3 : b'.val / 16 ≤ (i 0).val := c0.1
    have u4 : (i 0).val < b'.val / 16 + 1 := c0.2
    omega
  have e2 : b.val % 16 * 8 + r.val = b'.val % 16 * 8 + r'.val := by
    have u1 : b.val % 16 * 8 + r.val ≤ (i 2).val := a2.1
    have u2 : (i 2).val < b.val % 16 * 8 + r.val + 1 := a2.2
    have u3 : b'.val % 16 * 8 + r'.val ≤ (i 2).val := c2.1
    have u4 : (i 2).val < b'.val % 16 * 8 + r'.val + 1 := c2.2
    omega
  omega
theorem srcSet_cover : Finset.univ.biUnion srcSet = Finset.univ := by
  ext i
  simp only [Finset.mem_biUnion, Finset.mem_univ, true_and, iff_true]
  have h0 : (i 0).val < 8 := (i 0).isLt
  have h1 : (i 1).val < 256 := (i 1).isLt
  have h2 : (i 2).val < 128 := (i 2).isLt
  have h3 : (i 3).val < 128 := (i 3).isLt
  refine ⟨(⟨(i 0).val * 16 + (i 2).val / 8, by omega⟩, ⟨(i 2).val % 8, by omega⟩), Rect.mem_set_unit.mpr fun a => ?_⟩
  fin_cases a
  · show ((i 0).val * 16 + (i 2).val / 8) / 16 ≤ (i 0).val ∧ (i 0).val < ((i 0).val * 16 + (i 2).val / 8) / 16 + 1; omega
  · show 0 ≤ (i 1).val ∧ (i 1).val < 0 + 256; omega
  · show ((i 0).val * 16 + (i 2).val / 8) % 16 * 8 + (i 2).val % 8 ≤ (i 2).val ∧ (i 2).val < ((i 0).val * 16 + (i 2).val / 8) % 16 * 8 + (i 2).val % 8 + 1; omega
  · show 0 ≤ (i 3).val ∧ (i 3).val < 0 + 128; omega
theorem slotSet_disjoint (p p' : Fin 3 × Fin 8) (h : p ≠ p') : Disjoint (slotSet p) (slotSet p') := by
  obtain ⟨b, r⟩ := p; obtain ⟨b', r'⟩ := p'
  rw [Finset.disjoint_left]; intro i hi hi'
  have a0 := (Rect.mem_set_unit.mp hi) 0; have a1 := (Rect.mem_set_unit.mp hi) 1
  have c0 := (Rect.mem_set_unit.mp hi') 0; have c1 := (Rect.mem_set_unit.mp hi') 1
  have hne : b.val ≠ b'.val ∨ r.val ≠ r'.val := by
    by_contra hc; push Not at hc; exact h (Prod.ext (Fin.ext hc.1) (Fin.ext hc.2))
  have u1 : b.val ≤ (i 0).val := a0.1
  have u2 : (i 0).val < b.val + 1 := a0.2
  have u3 : b'.val ≤ (i 0).val := c0.1
  have u4 : (i 0).val < b'.val + 1 := c0.2
  have v1 : r.val ≤ (i 1).val := a1.1
  have v2 : (i 1).val < r.val + 1 := a1.2
  have v3 : r'.val ≤ (i 1).val := c1.1
  have v4 : (i 1).val < r'.val + 1 := c1.2
  omega
theorem slotSet_cover : Finset.univ.biUnion slotSet = Finset.univ := by
  ext i
  simp only [Finset.mem_biUnion, Finset.mem_univ, true_and, iff_true]
  have h0 : (i 0).val < 3 := (i 0).isLt
  have h1 : (i 1).val < 8 := (i 1).isLt
  have h2 : (i 2).val < 256 := (i 2).isLt
  have h3 : (i 3).val < 128 := (i 3).isLt
  refine ⟨(⟨(i 0).val, h0⟩, ⟨(i 1).val, h1⟩), Rect.mem_set_unit.mpr fun a => ?_⟩
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 256; omega
  · show 0 ≤ (i 3).val ∧ (i 3).val < 0 + 128; omega
end Sets

/-! ## What the launch hands the ring, and takes back -/

section InOut
variable (c : Dev nD)

theorem src_eq1 (W : HbBuf (F := F) c hbM1) : (hbPt c hbM1 W : sProp 𝕄) = bigSep Finset.univ fun b => bigSep Finset.univ fun r => srcP c hbM1 b r W := by
  rw [← BI.bigSep_univ_prod (fun p : Fin 128 × Fin 8 => srcP c hbM1 p.1 p.2 W)]
  refine (Ring.pointsTo_blocks (ℓ := (c : Thread nD τ).loc main_arg0) (q := fullShare) srcSet srcSet_disjoint srcSet_cover W).trans (BI.bigSep_congr fun p _ => ?_)
  unfold srcP; rw [srcSet_eq1]; rfl
theorem src_eq2 (W : HbBuf (F := F) c hbM2) : (hbPt c hbM2 W : sProp 𝕄) = bigSep Finset.univ fun b => bigSep Finset.univ fun r => srcP c hbM2 b r W := by
  rw [← BI.bigSep_univ_prod (fun p : Fin 128 × Fin 8 => srcP c hbM2 p.1 p.2 W)]
  refine (Ring.pointsTo_blocks (ℓ := (c : Thread nD τ).loc main_arg1) (q := fullShare) srcSet srcSet_disjoint srcSet_cover W).trans (BI.bigSep_congr fun p _ => ?_)
  unfold srcP; rw [srcSet_eq2]; rfl
/-- The two feature arrays whole are their groups' rows. -/
theorem homes_eq (W1 : HbBuf (F := F) c hbM1) (W2 : HbBuf (F := F) c hbM2) :
    (iprop(hbPt c hbM1 W1 ∗ hbPt c hbM2 W2) : sProp 𝕄) = bigSep Finset.univ (homeF c W1 W2) := by
  rw [src_eq1, src_eq2, show homeF c W1 W2 = fun b => iprop(bigSep Finset.univ (fun r => srcP c hbM1 b r W1) ∗ bigSep Finset.univ (fun r => srcP c hbM2 b r W2)) from
    funext fun b => pair8_eq _ _]
  exact (bigSep_two _ _ _).symm

theorem slot_eq5 (f : HbBuf (F := F) c scM5) : (((c : Thread nD τ).loc cc0_scratch0) ↦{fullShare} f : sProp 𝕄) = bigSep Finset.univ fun s => bigSep Finset.univ fun r => slotP c scM5 s r f := by
  rw [← BI.bigSep_univ_prod (fun p : Fin 3 × Fin 8 => slotP c scM5 p.1 p.2 f)]
  refine (Ring.pointsTo_blocks (ℓ := (c : Thread nD τ).loc cc0_scratch0) (q := fullShare) slotSet slotSet_disjoint slotSet_cover f).trans (BI.bigSep_congr fun p _ => ?_)
  unfold slotP; rw [slotSet_eq5]; rfl
theorem slot_eq6 (f : HbBuf (F := F) c scM6) : (((c : Thread nD τ).loc cc0_scratch1) ↦{fullShare} f : sProp 𝕄) = bigSep Finset.univ fun s => bigSep Finset.univ fun r => slotP c scM6 s r f := by
  rw [← BI.bigSep_univ_prod (fun p : Fin 3 × Fin 8 => slotP c scM6 p.1 p.2 f)]
  refine (Ring.pointsTo_blocks (ℓ := (c : Thread nD τ).loc cc0_scratch1) (q := fullShare) slotSet slotSet_disjoint slotSet_cover f).trans (BI.bigSep_congr fun p _ => ?_)
  unfold slotP; rw [slotSet_eq6]; rfl

/-- The two scratch buffers at anything are their slots at something each, -/
theorem slots_in : iprop((∃ d, owns (c : Thread nD τ) scM5 fullShare d) ∗ (∃ d, owns (c : Thread nD τ) scM6 fullShare d))
    ⊢ (bigSep Finset.univ (fun s => iprop(∃ f, slotF (F := F) c s f)) : sProp 𝕄) := by
  simp only [owns_whole]
  iintro ⟨⟨%f, H⟩, ⟨%g, H'⟩⟩
  have e : (iprop((((c : Thread nD τ).loc cc0_scratch0) ↦{fullShare} f) ∗ (((c : Thread nD τ).loc cc0_scratch1) ↦{fullShare} g)) : sProp 𝕄)
      = bigSep Finset.univ (fun s => slotF (F := F) c s (fun _ => f, fun _ => g)) := by
    rw [slot_eq5, slot_eq6, show (fun s => slotF (F := F) c s (fun _ => f, fun _ => g)) = fun s => iprop(bigSep Finset.univ (fun r => slotP c scM5 s r f) ∗ bigSep Finset.univ (fun r => slotP c scM6 s r g)) from
      funext fun s => pair8_eq _ _]
    exact (bigSep_two _ _ _).symm
  have h1 : (bigSep Finset.univ (fun s => slotF (F := F) c s (fun _ => f, fun _ => g)) : sProp 𝕄) ⊢ bigSep Finset.univ (fun s => iprop(∃ f, slotF (F := F) c s f)) :=
    have h0 : ∀ s : Fin 3, (slotF (F := F) c s (fun _ => f, fun _ => g) : sProp 𝕄) ⊢ iprop(∃ f, slotF (F := F) c s f) := fun s => by
      iintro H; iexists (fun _ => f, fun _ => g); iexact H
    BI.bigSep_mono fun s _ => h0 s
  iapply ((Entails.of_eq e).trans h1)
  isplitl [H]; · iexact H
  iexact H'
/-- and back. -/
theorem slots_out : (bigSep Finset.univ (fun s => iprop(∃ f, slotF (F := F) c s f)) : sProp 𝕄)
    ⊢ iprop((∃ d, owns (c : Thread nD τ) scM5 fullShare d) ∗ (∃ d, owns (c : Thread nD τ) scM6 fullShare d)) := by
  have h1 : ∀ s : Fin 3, (iprop(∃ f, slotF (F := F) c s f) : sProp 𝕄)
      ⊢ iprop((bigSep Finset.univ fun r => iprop(∃ f, slotP (F := F) c scM5 s r f)) ∗ (bigSep Finset.univ fun r => iprop(∃ f, slotP (F := F) c scM6 s r f))) := fun s => by
    iintro ⟨%f, H⟩
    ihave H' := (Entails.of_eq (pair8_eq (fun r => slotP c scM5 s r (f.1 r)) (fun r => slotP c scM6 s r (f.2 r)))) $$ [H]
    · unfold slotF; iexact H
    icases H' with ⟨Ha, Hb⟩
    isplitl [Ha]
    · have h : (bigSep Finset.univ (fun r => slotP c scM5 s r (f.1 r)) : sProp 𝕄) ⊢ bigSep Finset.univ fun r => iprop(∃ f, slotP (F := F) c scM5 s r f) :=
        have h0 : ∀ r : Fin 8, (slotP c scM5 s r (f.1 r) : sProp 𝕄) ⊢ iprop(∃ f, slotP (F := F) c scM5 s r f) := fun r => by
          iintro H; iexists (f.1 r); iexact H
        BI.bigSep_mono fun r _ => h0 r
      iapply h; iexact Ha
    · have h : (bigSep Finset.univ (fun r => slotP c scM6 s r (f.2 r)) : sProp 𝕄) ⊢ bigSep Finset.univ fun r => iprop(∃ f, slotP (F := F) c scM6 s r f) :=
        have h0 : ∀ r : Fin 8, (slotP c scM6 s r (f.2 r) : sProp 𝕄) ⊢ iprop(∃ f, slotP (F := F) c scM6 s r f) := fun r => by
          iintro H; iexists (f.2 r); iexact H
        BI.bigSep_mono fun r _ => h0 r
      iapply h; iexact Hb
  refine (BI.bigSep_mono fun s _ => h1 s).trans ?_
  refine (Entails.of_eq (bigSep_two _ _ _)).trans ?_
  refine BI.sep_mono ?_ ?_
  · rw [← BI.bigSep_univ_prod (fun p : Fin 3 × Fin 8 => iprop(∃ f, slotP (F := F) c scM5 p.1 p.2 f))]
    simp only [owns_whole]
    refine (Entails.of_eq (BI.bigSep_congr fun p _ => ?_)).trans (Ring.pointsTo_blocks_join_exists (ℓ := (c : Thread nD τ).loc cc0_scratch0) (q := fullShare) slotSet slotSet_disjoint slotSet_cover scM5.view.junk)
    unfold slotP; rw [slotSet_eq5]; rfl
  · rw [← BI.bigSep_univ_prod (fun p : Fin 3 × Fin 8 => iprop(∃ f, slotP (F := F) c scM6 p.1 p.2 f))]
    simp only [owns_whole]
    refine (Entails.of_eq (BI.bigSep_congr fun p _ => ?_)).trans (Ring.pointsTo_blocks_join_exists (ℓ := (c : Thread nD τ).loc cc0_scratch1) (q := fullShare) slotSet slotSet_disjoint slotSet_cover scM6.view.junk)
    unfold slotP; rw [slotSet_eq6]; rfl

/-- The kernel's own semaphores: slot, array, row. -/
abbrev osem0 : Fin 3 × Fin 2 × Fin 8 → SemLoc sig := fun p => cellR p.1 p.2.2 p.2.1
theorem ownSemFacts0 : Pipeline.OwnSemFacts spec0 osem0 := by decide +kernel
/-- The own semaphores at zero are the slots' semaphores. -/
theorem cells_eq : (Pipeline.ownSems0 (Ix := Unit) (Name := ℕ) (U := Pipeline.UD sig nD τ) (Lvl := ℕ) (Val := Elt F) (τ := τ) osem0 c : sProp 𝕄)
    = bigSep Finset.univ (cellF (F := F) c) := by
  unfold Pipeline.ownSems0
  rw [BI.bigSep_univ_prod]
  refine BI.bigSep_congr fun s _ => ?_
  rw [BI.bigSep_univ_prod, bigSep_fin2]
  exact (pair8_eq (fun r => cellP c s r 0) (fun r => cellP c s r 1)).symm

/-- The ring before its step `k`. -/
def ringAt (W1 : HbBuf (F := F) c hbM1) (W2 : HbBuf (F := F) c hbM2) (k : ℕ) : sProp 𝕄 :=
  if k = 0 then Ring.At₀ (cellF (F := F) c) (slotF c) (homeF c W1 W2)
  else Ring.At 2 (cellF (F := F) c) (slotF c) (homeF c W1 W2) (flightF c W1 W2) k

theorem ring_in (W1 : HbBuf (F := F) c hbM1) (W2 : HbBuf (F := F) c hbM2) :
    iprop(((∃ d, owns (c : Thread nD τ) scM5 fullShare d) ∗ (∃ d, owns (c : Thread nD τ) scM6 fullShare d)) ∗ bigSep Finset.univ (cellF (F := F) c) ∗ (hbPt c hbM1 W1 ∗ hbPt c hbM2 W2))
      ⊢ ringAt c W1 W2 0 := by
  unfold ringAt; rw [if_pos rfl]; unfold Ring.At₀
  iintro ⟨HS, HC, HW⟩
  isplitl [HW]
  · iapply (Entails.of_eq (homes_eq c W1 W2)); iexact HW
  iapply (Entails.of_eq (bigSep_two Finset.univ (cellF (F := F) c) (fun s => iprop(∃ f, slotF (F := F) c s f))).symm)
  isplitl [HC]; · iexact HC
  iapply (slots_in (F := F) c); iexact HS
theorem ring_out (W1 : HbBuf (F := F) c hbM1) (W2 : HbBuf (F := F) c hbM2) :
    ringAt c W1 W2 128
      ⊢ iprop(((∃ d, owns (c : Thread nD τ) scM5 fullShare d) ∗ (∃ d, owns (c : Thread nD τ) scM6 fullShare d)) ∗ bigSep Finset.univ (cellF (F := F) c) ∗ (hbPt c hbM1 W1 ∗ hbPt c hbM2 W2)) := by
  unfold ringAt; rw [if_neg (by decide)]
  refine (Ring.free3_of_At_last _ _ _ _).trans ?_
  rw [← Ring.bigSep_fin3 (Ring.free (cellF (F := F) c) (slotF c))]
  iintro ⟨HH, HF⟩
  ihave HF' := (Entails.of_eq (bigSep_two Finset.univ (cellF (F := F) c) (fun s => iprop(∃ f, slotF (F := F) c s f)))) $$ HF
  icases HF' with ⟨HC, HS⟩
  isplitl [HS]; · iapply (slots_out (F := F) c); iexact HS
  isplitl [HC]; · iexact HC
  iapply (Entails.of_eq (homes_eq c W1 W2).symm); iexact HH
end InOut

end Cert.KernelIdeal.Gen

end
-- ==== Proof.KernelIdeal.RunA.lean ====
module

public import proofs.«01_k».proof.Proof.KernelIdeal.Fam

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

-- the run's proof term is large: checking it walks past the default budget
set_option maxHeartbeats 16000000 in
/-- What the body does at the first point: the accumulators cleared, the first two groups started, the labels prepared. -/
theorem runA (c : Dev nD) (t : Fin cfg0.N) (arg3 : Memref sig .tc .vmem S1x512x512 .i32) (harg3 : arg3.IsWhole) (arg4 : Memref sig .tc .vmem S1x1 .f32) (harg4 : arg4.IsWhole) (hc0 : cond0 (grid0.coords t)) (hc1 : cond1 (grid0.coords t)) (hc2 : cond2 (grid0.coords t)) (hc3 : ¬cond3 (grid0.coords t))
    (W1 : HbBuf (F := F) c hbM1) (W2 : HbBuf (F := F) c hbM2) (x0 : Vec F S1x512x512 .i32) :
  ∀ (W : Waits sig Unit) (K : PUnit → sProp 𝕄),
    iprop(owns (c : Thread nD τ) arg3 fullShare x0
        ∗ (∃ d, owns (c : Thread nD τ) scM8 fullShare d)
        ∗ (∃ d, owns (c : Thread nD τ) scM9 fullShare d)
        ∗ (∃ d, owns (c : Thread nD τ) scM10 fullShare d)
        ∗ (∃ d, owns (c : Thread nD τ) scM11 fullShare d)
        ∗ Ring.free (cellF (F := F) c) (slotF c) (Ring.sl 3 t.val)
        ∗ homeF c W1 W2 (Ring.bk 128 t.val)
        ∗ Ring.free (cellF (F := F) c) (slotF c) (Ring.sl 3 (t.val + 1))
        ∗ homeF c W1 W2 (Ring.bk 128 (t.val + 1))
        ∗ Ring.free (cellF (F := F) c) (slotF c) (Ring.sl 3 (t.val + 2))
        ∗ homeF c W1 W2 (Ring.bk 128 (t.val + 2))
        ∗ owes (c : Thread nD τ) 0 W
        ∗ (iprop(owns (c : Thread nD τ) arg3 fullShare x0
        ∗ owns (c : Thread nD τ) scM8 fullShare (k0_pay10 x0)
        ∗ owns (c : Thread nD τ) scM9 fullShare (stepS (rowA c hbM1 t W1) (rowL t (k0_pay10 x0)) (@k0_pay4 F _ : Vec F S256x32 .f32))
        ∗ owns (c : Thread nD τ) scM10 fullShare (stepT (rowA c hbM2 t W2) (rowL t (k0_pay10 x0)) (@k0_pay5 F _ : Vec F S256x32 .f32))
        ∗ owns (c : Thread nD τ) scM11 fullShare (stepN (rowL t (k0_pay10 x0)) (@k0_pay6 F _ : Vec F S32x128 .f32))
        ∗ Ring.inflight (flightF c W1 W2) (Ring.sl 3 (t.val + 1)) (Ring.bk 128 (t.val + 1))
        ∗ Ring.inflight (flightF c W1 W2) (Ring.sl 3 (t.val + 2)) (Ring.bk 128 (t.val + 2))
        ∗ Ring.free (cellF (F := F) c) (slotF c) (Ring.sl 3 t.val)
        ∗ homeF c W1 W2 (Ring.bk 128 t.val)
        ∗ (∃ W', owes (c : Thread nD τ) 0 W')) -∗ K ⟨⟩))
      ⊢ wp frame (wpE (defs₀ (F := F)) Variants.none c none) Set.univ (cc0__body (grid0.coords t) (Memref.whole main_arg0) (Memref.isWhole_whole _) (Memref.whole main_arg1) (Memref.isWhole_whole _) arg3 harg3 arg4 harg4 scM5 (Memref.isWhole_whole _) scM6 (Memref.isWhole_whole _) cc0_scratch2 scM8 (Memref.isWhole_whole _) scM9 (Memref.isWhole_whole _) scM10 (Memref.isWhole_whole _) scM11 (Memref.isWhole_whole _)) K := by
    intro W K
    haveI : Fact (cond0 (grid0.coords t)) := ⟨hc0⟩
    haveI : Fact (cond1 (grid0.coords t)) := ⟨hc1⟩
    haveI : Fact (cond2 (grid0.coords t)) := ⟨hc2⟩
    haveI : Fact (¬cond3 (grid0.coords t)) := ⟨hc3⟩
    simp only [cc0__body_eq_skeleton]; unfold cc0__body_skel
    have ht0 : t.val = 0 := (hcond0 t).mp hc0
    have hcanonlitC_0_0_0 := litC_0_0_0 t ht0
    have hcanonlitC_0_0_1 := litC_0_0_1 t ht0
    have hcanonlitS5_0_0 := litS5_0_0 t ht0
    have hcanonlitS6_0_0 := litS6_0_0 t ht0
    have hcanonlitH1_0_0 := litH1_0_0 t ht0
    have hcanonlitH2_0_0 := litH2_0_0 t ht0
    have hcanonlitC_0_1_0 := litC_0_1_0 t ht0
    have hcanonlitC_0_1_1 := litC_0_1_1 t ht0
    have hcanonlitS5_0_1 := litS5_0_1 t ht0
    have hcanonlitS6_0_1 := litS6_0_1 t ht0
    have hcanonlitH1_0_1 := litH1_0_1 t ht0
    have hcanonlitH2_0_1 := litH2_0_1 t ht0
    have hcanonlitC_0_2_0 := litC_0_2_0 t ht0
    have hcanonlitC_0_2_1 := litC_0_2_1 t ht0
    have hcanonlitS5_0_2 := litS5_0_2 t ht0
    have hcanonlitS6_0_2 := litS6_0_2 t ht0
    have hcanonlitH1_0_2 := litH1_0_2 t ht0
    have hcanonlitH2_0_2 := litH2_0_2 t ht0
    have hcanonlitC_0_3_0 := litC_0_3_0 t ht0
    have hcanonlitC_0_3_1 := litC_0_3_1 t ht0
    have hcanonlitS5_0_3 := litS5_0_3 t ht0
    have hcanonlitS6_0_3 := litS6_0_3 t ht0
    have hcanonlitH1_0_3 := litH1_0_3 t ht0
    have hcanonlitH2_0_3 := litH2_0_3 t ht0
    have hcanonlitC_0_4_0 := litC_0_4_0 t ht0
    have hcanonlitC_0_4_1 := litC_0_4_1 t ht0
    have hcanonlitS5_0_4 := litS5_0_4 t ht0
    have hcanonlitS6_0_4 := litS6_0_4 t ht0
    have hcanonlitH1_0_4 := litH1_0_4 t ht0
    have hcanonlitH2_0_4 := litH2_0_4 t ht0
    have hcanonlitC_0_5_0 := litC_0_5_0 t ht0
    have hcanonlitC_0_5_1 := litC_0_5_1 t ht0
    have hcanonlitS5_0_5 := litS5_0_5 t ht0
    have hcanonlitS6_0_5 := litS6_0_5 t ht0
    have hcanonlitH1_0_5 := litH1_0_5 t ht0
    have hcanonlitH2_0_5 := litH2_0_5 t ht0
    have hcanonlitC_0_6_0 := litC_0_6_0 t ht0
    have hcanonlitC_0_6_1 := litC_0_6_1 t ht0
    have hcanonlitS5_0_6 := litS5_0_6 t ht0
    have hcanonlitS6_0_6 := litS6_0_6 t ht0
    have hcanonlitH1_0_6 := litH1_0_6 t ht0
    have hcanonlitH2_0_6 := litH2_0_6 t ht0
    have hcanonlitC_0_7_0 := litC_0_7_0 t ht0
    have hcanonlitC_0_7_1 := litC_0_7_1 t ht0
    have hcanonlitS5_0_7 := litS5_0_7 t ht0
    have hcanonlitS6_0_7 := litS6_0_7 t ht0
    have hcanonlitH1_0_7 := litH1_0_7 t ht0
    have hcanonlitH2_0_7 := litH2_0_7 t ht0
    have hcanonlitC_1_0_0 := litC_1_0_0 t ht0
    have hcanonlitC_1_0_1 := litC_1_0_1 t ht0
    have hcanonlitS5_1_0 := litS5_1_0 t ht0
    have hcanonlitS6_1_0 := litS6_1_0 t ht0
    have hcanonlitH1_1_0 := litH1_1_0 t ht0
    have hcanonlitH2_1_0 := litH2_1_0 t ht0
    have hcanonlitC_1_1_0 := litC_1_1_0 t ht0
    have hcanonlitC_1_1_1 := litC_1_1_1 t ht0
    have hcanonlitS5_1_1 := litS5_1_1 t ht0
    have hcanonlitS6_1_1 := litS6_1_1 t ht0
    have hcanonlitH1_1_1 := litH1_1_1 t ht0
    have hcanonlitH2_1_1 := litH2_1_1 t ht0
    have hcanonlitC_1_2_0 := litC_1_2_0 t ht0
    have hcanonlitC_1_2_1 := litC_1_2_1 t ht0
    have hcanonlitS5_1_2 := litS5_1_2 t ht0
    have hcanonlitS6_1_2 := litS6_1_2 t ht0
    have hcanonlitH1_1_2 := litH1_1_2 t ht0
    have hcanonlitH2_1_2 := litH2_1_2 t ht0
    have hcanonlitC_1_3_0 := litC_1_3_0 t ht0
    have hcanonlitC_1_3_1 := litC_1_3_1 t ht0
    have hcanonlitS5_1_3 := litS5_1_3 t ht0
    have hcanonlitS6_1_3 := litS6_1_3 t ht0
    have hcanonlitH1_1_3 := litH1_1_3 t ht0
    have hcanonlitH2_1_3 := litH2_1_3 t ht0
    have hcanonlitC_1_4_0 := litC_1_4_0 t ht0
    have hcanonlitC_1_4_1 := litC_1_4_1 t ht0
    have hcanonlitS5_1_4 := litS5_1_4 t ht0
    have hcanonlitS6_1_4 := litS6_1_4 t ht0
    have hcanonlitH1_1_4 := litH1_1_4 t ht0
    have hcanonlitH2_1_4 := litH2_1_4 t ht0
    have hcanonlitC_1_5_0 := litC_1_5_0 t ht0
    have hcanonlitC_1_5_1 := litC_1_5_1 t ht0
    have hcanonlitS5_1_5 := litS5_1_5 t ht0
    have hcanonlitS6_1_5 := litS6_1_5 t ht0
    have hcanonlitH1_1_5 := litH1_1_5 t ht0
    have hcanonlitH2_1_5 := litH2_1_5 t ht0
    have hcanonlitC_1_6_0 := litC_1_6_0 t ht0
    have hcanonlitC_1_6_1 := litC_1_6_1 t ht0
    have hcanonlitS5_1_6 := litS5_1_6 t ht0
    have hcanonlitS6_1_6 := litS6_1_6 t ht0
    have hcanonlitH1_1_6 := litH1_1_6 t ht0
    have hcanonlitH2_1_6 := litH2_1_6 t ht0
    have hcanonlitC_1_7_0 := litC_1_7_0 t ht0
    have hcanonlitC_1_7_1 := litC_1_7_1 t ht0
    have hcanonlitS5_1_7 := litS5_1_7 t ht0
    have hcanonlitS6_1_7 := litS6_1_7 t ht0
    have hcanonlitH1_1_7 := litH1_1_7 t ht0
    have hcanonlitH2_1_7 := litH2_1_7 t ht0
    unfold owns Ring.free Ring.inflight cellF slotF homeF flightF pair8
    iintro ⟨⟨%d3, %hd3, H3⟩, ⟨%ds8, %d8, -, H8⟩, ⟨%ds9, %d9, -, H9⟩, ⟨%ds10, %d10, -, H10⟩, ⟨%ds11, %d11, -, H11⟩, ⟨⟨⟨Hcx5_0, Hcx6_0⟩, ⟨Hcx5_1, Hcx6_1⟩, ⟨Hcx5_2, Hcx6_2⟩, ⟨Hcx5_3, Hcx6_3⟩, ⟨Hcx5_4, Hcx6_4⟩, ⟨Hcx5_5, Hcx6_5⟩, ⟨Hcx5_6, Hcx6_6⟩, ⟨Hcx5_7, Hcx6_7⟩⟩, %gx, ⟨⟨Hgx5_0, Hgx6_0⟩, ⟨Hgx5_1, Hgx6_1⟩, ⟨Hgx5_2, Hgx6_2⟩, ⟨Hgx5_3, Hgx6_3⟩, ⟨Hgx5_4, Hgx6_4⟩, ⟨Hgx5_5, Hgx6_5⟩, ⟨Hgx5_6, Hgx6_6⟩, ⟨Hgx5_7, Hgx6_7⟩⟩⟩, ⟨⟨Hhx5_0, Hhx6_0⟩, ⟨Hhx5_1, Hhx6_1⟩, ⟨Hhx5_2, Hhx6_2⟩, ⟨Hhx5_3, Hhx6_3⟩, ⟨Hhx5_4, Hhx6_4⟩, ⟨Hhx5_5, Hhx6_5⟩, ⟨Hhx5_6, Hhx6_6⟩, ⟨Hhx5_7, Hhx6_7⟩⟩, ⟨⟨⟨Hcy5_0, Hcy6_0⟩, ⟨Hcy5_1, Hcy6_1⟩, ⟨Hcy5_2, Hcy6_2⟩, ⟨Hcy5_3, Hcy6_3⟩, ⟨Hcy5_4, Hcy6_4⟩, ⟨Hcy5_5, Hcy6_5⟩, ⟨Hcy5_6, Hcy6_6⟩, ⟨Hcy5_7, Hcy6_7⟩⟩, %gy, ⟨⟨Hgy5_0, Hgy6_0⟩, ⟨Hgy5_1, Hgy6_1⟩, ⟨Hgy5_2, Hgy6_2⟩, ⟨Hgy5_3, Hgy6_3⟩, ⟨Hgy5_4, Hgy6_4⟩, ⟨Hgy5_5, Hgy6_5⟩, ⟨Hgy5_6, Hgy6_6⟩, ⟨Hgy5_7, Hgy6_7⟩⟩⟩, ⟨⟨Hhy5_0, Hhy6_0⟩, ⟨Hhy5_1, Hhy6_1⟩, ⟨Hhy5_2, Hhy6_2⟩, ⟨Hhy5_3, Hhy6_3⟩, ⟨Hhy5_4, Hhy6_4⟩, ⟨Hhy5_5, Hhy6_5⟩, ⟨Hhy5_6, Hhy6_6⟩, ⟨Hhy5_7, Hhy6_7⟩⟩, ⟨⟨⟨Hcz5_0, Hcz6_0⟩, ⟨Hcz5_1, Hcz6_1⟩, ⟨Hcz5_2, Hcz6_2⟩, ⟨Hcz5_3, Hcz6_3⟩, ⟨Hcz5_4, Hcz6_4⟩, ⟨Hcz5_5, Hcz6_5⟩, ⟨Hcz5_6, Hcz6_6⟩, ⟨Hcz5_7, Hcz6_7⟩⟩, %gz, ⟨⟨Hgz5_0, Hgz6_0⟩, ⟨Hgz5_1, Hgz6_1⟩, ⟨Hgz5_2, Hgz6_2⟩, ⟨Hgz5_3, Hgz6_3⟩, ⟨Hgz5_4, Hgz6_4⟩, ⟨Hgz5_5, Hgz6_5⟩, ⟨Hgz5_6, Hgz6_6⟩, ⟨Hgz5_7, Hgz6_7⟩⟩⟩, ⟨⟨Hhz5_0, Hhz6_0⟩, ⟨Hhz5_1, Hhz6_1⟩, ⟨Hhz5_2, Hhz6_2⟩, ⟨Hhz5_3, Hhz6_3⟩, ⟨Hhz5_4, Hhz6_4⟩, ⟨Hhz5_5, Hhz6_5⟩, ⟨Hhz5_6, Hhz6_6⟩, ⟨Hhz5_7, Hhz6_7⟩⟩, HW, Hk⟩
    obtain rfl := harg3.eq_unread hd3
    sl_exec_parts (disch := first | sl_exact hc0 | sl_exact hc1 | sl_exact hc2 | sl_exact hc3)
    sl_step
    iapply Hk
    have e8 : scM8.view.writes (Elt F) scM8.view.junk [⟨Rect.unit (s := S128x128) ![0, 0] S128x128.size inb_S128x128_S128x128_0_0, k0_pay10 (arg3.view.readAt (Elt F) (Rect.unit (s := S1x512x512) ![0, 0, 0] S1x512x512.size inb_S1x512x512_S1x512x512_0_0_0).toLoadRect (harg3.unread x0))⟩] = (Memref.isWhole_whole cc0_scratch3).unread (k0_pay10 x0) := by
      rw [readAt_full_unread arg3 harg3]; exact writes_full_eq scM8 (Memref.isWhole_whole _) _ _ _ []
    have ea9 : scM9.view.readCov (Val := Elt F) [⟨(Rect.unit (s := S256x32) ![0, 0] S256x32.size inb_S256x32_S256x32_0_0), (@k0_pay4 F _ : Vec F S256x32 .f32)⟩] (Rect.unit (s := S256x32) ![0, 0] S256x32.size inb_S256x32_S256x32_0_0).toLoadRect = (@k0_pay4 F _ : Vec F S256x32 .f32) := by exact View.readCov_full _ _ _ _ _
    have ea10 : scM10.view.readCov (Val := Elt F) [⟨(Rect.unit (s := S256x32) ![0, 0] S256x32.size inb_S256x32_S256x32_0_0), (@k0_pay5 F _ : Vec F S256x32 .f32)⟩] (Rect.unit (s := S256x32) ![0, 0] S256x32.size inb_S256x32_S256x32_0_0).toLoadRect = (@k0_pay5 F _ : Vec F S256x32 .f32) := by exact View.readCov_full _ _ _ _ _
    have ea11 : scM11.view.readCov (Val := Elt F) [⟨(Rect.unit (s := S32x128) ![0, 0] S32x128.size inb_S32x128_S32x128_0_0), (@k0_pay6 F _ : Vec F S32x128 .f32)⟩] (Rect.unit (s := S32x128) ![0, 0] S32x128.size inb_S32x128_S32x128_0_0).toLoadRect = (@k0_pay6 F _ : Vec F S32x128 .f32) := by exact View.readCov_full _ _ _ _ _
    isplitl [H3]
    · iexists _; isplitr; · ipureintro; exact harg3.read_unread _
      iexact H3
    isplitl [H8]
    · iexists _; isplitr; swap; · iexact H8
      ipureintro; exact (congrArg (View.read (Elt F) scM8.view) e8).trans ((Memref.isWhole_whole _).read_unread _)
    isplitl [H9]
    · iexists _; isplitr; swap; · iexact H9
      ipureintro; rw [View.read_writes_full]
      unfold stepS
      conv_rhs => rw [← load_row1_0 c t W1, ← load_row1_1 c t W1, ← load_row1_2 c t W1, ← load_row1_3 c t W1, ← load_row1_4 c t W1, ← load_row1_5 c t W1, ← load_row1_6 c t W1, ← load_row1_7 c t W1, ← load_lab_0 t (k0_pay10 x0), ← load_lab_1 t (k0_pay10 x0), ← load_lab_2 t (k0_pay10 x0), ← load_lab_3 t (k0_pay10 x0), ← load_lab_4 t (k0_pay10 x0), ← load_lab_5 t (k0_pay10 x0), ← load_lab_6 t (k0_pay10 x0), ← load_lab_7 t (k0_pay10 x0), ← e8, ← ea9]
      rfl
    isplitl [H10]
    · iexists _; isplitr; swap; · iexact H10
      ipureintro; rw [View.read_writes_full]
      unfold stepT
      conv_rhs => rw [← load_row2_0 c t W2, ← load_row2_1 c t W2, ← load_row2_2 c t W2, ← load_row2_3 c t W2, ← load_row2_4 c t W2, ← load_row2_5 c t W2, ← load_row2_6 c t W2, ← load_row2_7 c t W2, ← load_lab_0 t (k0_pay10 x0), ← load_lab_1 t (k0_pay10 x0), ← load_lab_2 t (k0_pay10 x0), ← load_lab_3 t (k0_pay10 x0), ← load_lab_4 t (k0_pay10 x0), ← load_lab_5 t (k0_pay10 x0), ← load_lab_6 t (k0_pay10 x0), ← load_lab_7 t (k0_pay10 x0), ← e8, ← ea10]
      rfl
    isplitl [H11]
    · iexists _; isplitr; swap; · iexact H11
      ipureintro; rw [View.read_writes_full]
      unfold stepN
      conv_rhs => rw [← load_lab_0 t (k0_pay10 x0), ← load_lab_1 t (k0_pay10 x0), ← load_lab_2 t (k0_pay10 x0), ← load_lab_3 t (k0_pay10 x0), ← load_lab_4 t (k0_pay10 x0), ← load_lab_5 t (k0_pay10 x0), ← load_lab_6 t (k0_pay10 x0), ← load_lab_7 t (k0_pay10 x0), ← e8, ← ea11]
      rfl
    isplitl [Hcy5_0 Hcy6_0 Hcy5_1 Hcy6_1 Hcy5_2 Hcy6_2 Hcy5_3 Hcy6_3 Hcy5_4 Hcy6_4 Hcy5_5 Hcy6_5 Hcy5_6 Hcy6_6 Hcy5_7 Hcy6_7]
    · iexists gy
      isplitl [Hcy5_0 Hcy6_0]
      · isplitl [Hcy5_0]; · iexact Hcy5_0
        iexact Hcy6_0
      isplitl [Hcy5_1 Hcy6_1]
      · isplitl [Hcy5_1]; · iexact Hcy5_1
        iexact Hcy6_1
      isplitl [Hcy5_2 Hcy6_2]
      · isplitl [Hcy5_2]; · iexact Hcy5_2
        iexact Hcy6_2
      isplitl [Hcy5_3 Hcy6_3]
      · isplitl [Hcy5_3]; · iexact Hcy5_3
        iexact Hcy6_3
      isplitl [Hcy5_4 Hcy6_4]
      · isplitl [Hcy5_4]; · iexact Hcy5_4
        iexact Hcy6_4
      isplitl [Hcy5_5 Hcy6_5]
      · isplitl [Hcy5_5]; · iexact Hcy5_5
        iexact Hcy6_5
      isplitl [Hcy5_6 Hcy6_6]
      · isplitl [Hcy5_6]; · iexact Hcy5_6
        iexact Hcy6_6
      isplitl [Hcy5_7]; · iexact Hcy5_7
      iexact Hcy6_7
    isplitl [Hcz5_0 Hcz6_0 Hcz5_1 Hcz6_1 Hcz5_2 Hcz6_2 Hcz5_3 Hcz6_3 Hcz5_4 Hcz6_4 Hcz5_5 Hcz6_5 Hcz5_6 Hcz6_6 Hcz5_7 Hcz6_7]
    · iexists gz
      isplitl [Hcz5_0 Hcz6_0]
      · isplitl [Hcz5_0]; · iexact Hcz5_0
        iexact Hcz6_0
      isplitl [Hcz5_1 Hcz6_1]
      · isplitl [Hcz5_1]; · iexact Hcz5_1
        iexact Hcz6_1
      isplitl [Hcz5_2 Hcz6_2]
      · isplitl [Hcz5_2]; · iexact Hcz5_2
        iexact Hcz6_2
      isplitl [Hcz5_3 Hcz6_3]
      · isplitl [Hcz5_3]; · iexact Hcz5_3
        iexact Hcz6_3
      isplitl [Hcz5_4 Hcz6_4]
      · isplitl [Hcz5_4]; · iexact Hcz5_4
        iexact Hcz6_4
      isplitl [Hcz5_5 Hcz6_5]
      · isplitl [Hcz5_5]; · iexact Hcz5_5
        iexact Hcz6_5
      isplitl [Hcz5_6 Hcz6_6]
      · isplitl [Hcz5_6]; · iexact Hcz5_6
        iexact Hcz6_6
      isplitl [Hcz5_7]; · iexact Hcz5_7
      iexact Hcz6_7
    isplitl [Hcx5_0 Hcx6_0 Hcx5_1 Hcx6_1 Hcx5_2 Hcx6_2 Hcx5_3 Hcx6_3 Hcx5_4 Hcx6_4 Hcx5_5 Hcx6_5 Hcx5_6 Hcx6_6 Hcx5_7 Hcx6_7 Hgx5_0 Hgx6_0 Hgx5_1 Hgx6_1 Hgx5_2 Hgx6_2 Hgx5_3 Hgx6_3 Hgx5_4 Hgx6_4 Hgx5_5 Hgx6_5 Hgx5_6 Hgx6_6 Hgx5_7 Hgx6_7]
    · isplitl [Hcx5_0 Hcx6_0 Hcx5_1 Hcx6_1 Hcx5_2 Hcx6_2 Hcx5_3 Hcx6_3 Hcx5_4 Hcx6_4 Hcx5_5 Hcx6_5 Hcx5_6 Hcx6_6 Hcx5_7 Hcx6_7]
      · isplitl [Hcx5_0 Hcx6_0]
        · isplitl [Hcx5_0]; · iexact Hcx5_0
          iexact Hcx6_0
        isplitl [Hcx5_1 Hcx6_1]
        · isplitl [Hcx5_1]; · iexact Hcx5_1
          iexact Hcx6_1
        isplitl [Hcx5_2 Hcx6_2]
        · isplitl [Hcx5_2]; · iexact Hcx5_2
          iexact Hcx6_2
        isplitl [Hcx5_3 Hcx6_3]
        · isplitl [Hcx5_3]; · iexact Hcx5_3
          iexact Hcx6_3
        isplitl [Hcx5_4 Hcx6_4]
        · isplitl [Hcx5_4]; · iexact Hcx5_4
          iexact Hcx6_4
        isplitl [Hcx5_5 Hcx6_5]
        · isplitl [Hcx5_5]; · iexact Hcx5_5
          iexact Hcx6_5
        isplitl [Hcx5_6 Hcx6_6]
        · isplitl [Hcx5_6]; · iexact Hcx5_6
          iexact Hcx6_6
        isplitl [Hcx5_7]; · iexact Hcx5_7
        iexact Hcx6_7
      iexists landF c W1 W2 (Ring.sl 3 t.val) (Ring.bk 128 t.val)
      isplitl [Hgx5_0 Hgx6_0]
      · isplitl [Hgx5_0]; · iexact Hgx5_0
        iexact Hgx6_0
      isplitl [Hgx5_1 Hgx6_1]
      · isplitl [Hgx5_1]; · iexact Hgx5_1
        iexact Hgx6_1
      isplitl [Hgx5_2 Hgx6_2]
      · isplitl [Hgx5_2]; · iexact Hgx5_2
        iexact Hgx6_2
      isplitl [Hgx5_3 Hgx6_3]
      · isplitl [Hgx5_3]; · iexact Hgx5_3
        iexact Hgx6_3
      isplitl [Hgx5_4 Hgx6_4]
      · isplitl [Hgx5_4]; · iexact Hgx5_4
        iexact Hgx6_4
      isplitl [Hgx5_5 Hgx6_5]
      · isplitl [Hgx5_5]; · iexact Hgx5_5
        iexact Hgx6_5
      isplitl [Hgx5_6 Hgx6_6]
      · isplitl [Hgx5_6]; · iexact Hgx5_6
        iexact Hgx6_6
      isplitl [Hgx5_7]; · iexact Hgx5_7
      iexact Hgx6_7
    isplitl [Hhx5_0 Hhx6_0 Hhx5_1 Hhx6_1 Hhx5_2 Hhx6_2 Hhx5_3 Hhx6_3 Hhx5_4 Hhx6_4 Hhx5_5 Hhx6_5 Hhx5_6 Hhx6_6 Hhx5_7 Hhx6_7]
    · isplitl [Hhx5_0 Hhx6_0]
      · isplitl [Hhx5_0]; · iexact Hhx5_0
        iexact Hhx6_0
      isplitl [Hhx5_1 Hhx6_1]
      · isplitl [Hhx5_1]; · iexact Hhx5_1
        iexact Hhx6_1
      isplitl [Hhx5_2 Hhx6_2]
      · isplitl [Hhx5_2]; · iexact Hhx5_2
        iexact Hhx6_2
      isplitl [Hhx5_3 Hhx6_3]
      · isplitl [Hhx5_3]; · iexact Hhx5_3
        iexact Hhx6_3
      isplitl [Hhx5_4 Hhx6_4]
      · isplitl [Hhx5_4]; · iexact Hhx5_4
        iexact Hhx6_4
      isplitl [Hhx5_5 Hhx6_5]
      · isplitl [Hhx5_5]; · iexact Hhx5_5
        iexact Hhx6_5
      isplitl [Hhx5_6 Hhx6_6]
      · isplitl [Hhx5_6]; · iexact Hhx5_6
        iexact Hhx6_6
      isplitl [Hhx5_7]; · iexact Hhx5_7
      iexact Hhx6_7
    iexists _; iexact HW

end Cert.KernelIdeal.Gen

end
-- ==== Proof.KernelIdeal.RunB.lean ====
module

public import proofs.«01_k».proof.Proof.KernelIdeal.Fam

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

-- the run's proof term is large: checking it walks past the default budget
set_option maxHeartbeats 16000000 in
/-- What the body does at a point that starts a group and prepares no labels. -/
theorem runB (c : Dev nD) (t : Fin cfg0.N) (arg3 : Memref sig .tc .vmem S1x512x512 .i32) (harg3 : arg3.IsWhole) (arg4 : Memref sig .tc .vmem S1x1 .f32) (harg4 : arg4.IsWhole) (hc0 : ¬cond0 (grid0.coords t)) (hc1 : cond1 (grid0.coords t)) (hc2 : ¬cond2 (grid0.coords t)) (hc3 : ¬cond3 (grid0.coords t))
    (W1 : HbBuf (F := F) c hbM1) (W2 : HbBuf (F := F) c hbM2) (l8 : Vec F S128x128 .f32) (a9 a10 : Vec F S256x32 .f32) (a11 : Vec F S32x128 .f32) (f : SlotC (F := F) c) :
  ∀ (W : Waits sig Unit) (K : PUnit → sProp 𝕄),
    iprop(owns (c : Thread nD τ) scM8 fullShare l8
        ∗ owns (c : Thread nD τ) scM9 fullShare a9
        ∗ owns (c : Thread nD τ) scM10 fullShare a10
        ∗ owns (c : Thread nD τ) scM11 fullShare a11
        ∗ flightF c W1 W2 (Ring.sl 3 t.val) (Ring.bk 128 t.val) f
        ∗ Ring.free (cellF (F := F) c) (slotF c) (Ring.sl 3 (t.val + 2))
        ∗ homeF c W1 W2 (Ring.bk 128 (t.val + 2))
        ∗ owes (c : Thread nD τ) 0 W
        ∗ (iprop(owns (c : Thread nD τ) scM8 fullShare l8
        ∗ owns (c : Thread nD τ) scM9 fullShare (stepS (rowA c hbM1 t W1) (rowL t l8) a9)
        ∗ owns (c : Thread nD τ) scM10 fullShare (stepT (rowA c hbM2 t W2) (rowL t l8) a10)
        ∗ owns (c : Thread nD τ) scM11 fullShare (stepN (rowL t l8) a11)
        ∗ Ring.inflight (flightF c W1 W2) (Ring.sl 3 (t.val + 2)) (Ring.bk 128 (t.val + 2))
        ∗ Ring.free (cellF (F := F) c) (slotF c) (Ring.sl 3 t.val)
        ∗ homeF c W1 W2 (Ring.bk 128 t.val)
        ∗ (∃ W', owes (c : Thread nD τ) 0 W')) -∗ K ⟨⟩))
      ⊢ wp frame (wpE (defs₀ (F := F)) Variants.none c none) Set.univ (cc0__body (grid0.coords t) (Memref.whole main_arg0) (Memref.isWhole_whole _) (Memref.whole main_arg1) (Memref.isWhole_whole _) arg3 harg3 arg4 harg4 scM5 (Memref.isWhole_whole _) scM6 (Memref.isWhole_whole _) cc0_scratch2 scM8 (Memref.isWhole_whole _) scM9 (Memref.isWhole_whole _) scM10 (Memref.isWhole_whole _) scM11 (Memref.isWhole_whole _)) K := by
    intro W K
    haveI : Fact (¬cond0 (grid0.coords t)) := ⟨hc0⟩
    haveI : Fact (cond1 (grid0.coords t)) := ⟨hc1⟩
    haveI : Fact (¬cond2 (grid0.coords t)) := ⟨hc2⟩
    haveI : Fact (¬cond3 (grid0.coords t)) := ⟨hc3⟩
    simp only [cc0__body_eq_skeleton]; unfold cc0__body_skel
    unfold owns Ring.free Ring.inflight cellF slotF homeF flightF pair8
    iintro ⟨⟨%d8, %hd8, H8⟩, ⟨%d9, %hd9, H9⟩, ⟨%d10, %hd10, H10⟩, ⟨%d11, %hd11, H11⟩, ⟨⟨Hf5_0, Hf6_0⟩, ⟨Hf5_1, Hf6_1⟩, ⟨Hf5_2, Hf6_2⟩, ⟨Hf5_3, Hf6_3⟩, ⟨Hf5_4, Hf6_4⟩, ⟨Hf5_5, Hf6_5⟩, ⟨Hf5_6, Hf6_6⟩, ⟨Hf5_7, Hf6_7⟩⟩, ⟨⟨⟨Hcz5_0, Hcz6_0⟩, ⟨Hcz5_1, Hcz6_1⟩, ⟨Hcz5_2, Hcz6_2⟩, ⟨Hcz5_3, Hcz6_3⟩, ⟨Hcz5_4, Hcz6_4⟩, ⟨Hcz5_5, Hcz6_5⟩, ⟨Hcz5_6, Hcz6_6⟩, ⟨Hcz5_7, Hcz6_7⟩⟩, %gz, ⟨⟨Hgz5_0, Hgz6_0⟩, ⟨Hgz5_1, Hgz6_1⟩, ⟨Hgz5_2, Hgz6_2⟩, ⟨Hgz5_3, Hgz6_3⟩, ⟨Hgz5_4, Hgz6_4⟩, ⟨Hgz5_5, Hgz6_5⟩, ⟨Hgz5_6, Hgz6_6⟩, ⟨Hgz5_7, Hgz6_7⟩⟩⟩, ⟨⟨Hhz5_0, Hhz6_0⟩, ⟨Hhz5_1, Hhz6_1⟩, ⟨Hhz5_2, Hhz6_2⟩, ⟨Hhz5_3, Hhz6_3⟩, ⟨Hhz5_4, Hhz6_4⟩, ⟨Hhz5_5, Hhz6_5⟩, ⟨Hhz5_6, Hhz6_6⟩, ⟨Hhz5_7, Hhz6_7⟩⟩, HW, Hk⟩
    obtain rfl := (Memref.isWhole_whole _).eq_unread hd8
    obtain rfl := (Memref.isWhole_whole _).eq_unread hd9
    obtain rfl := (Memref.isWhole_whole _).eq_unread hd10
    obtain rfl := (Memref.isWhole_whole _).eq_unread hd11
    sl_exec_parts (disch := first | sl_exact hc0 | sl_exact hc1 | sl_exact hc2 | sl_exact hc3)
    sl_step
    iapply Hk
    have ea9 : scM9.view.readAt (Elt F) (Rect.unit (s := S256x32) ![0, 0] S256x32.size inb_S256x32_S256x32_0_0).toLoadRect ((Memref.isWhole_whole cc0_scratch4).unread a9) = a9 := readAt_full_unread scM9 (Memref.isWhole_whole _) _ a9
    have ea10 : scM10.view.readAt (Elt F) (Rect.unit (s := S256x32) ![0, 0] S256x32.size inb_S256x32_S256x32_0_0).toLoadRect ((Memref.isWhole_whole cc0_scratch5).unread a10) = a10 := readAt_full_unread scM10 (Memref.isWhole_whole _) _ a10
    have ea11 : scM11.view.readAt (Elt F) (Rect.unit (s := S32x128) ![0, 0] S32x128.size inb_S32x128_S32x128_0_0).toLoadRect ((Memref.isWhole_whole cc0_scratch6).unread a11) = a11 := readAt_full_unread scM11 (Memref.isWhole_whole _) _ a11
    isplitl [H8]
    · iexists _; isplitr; · ipureintro; exact (Memref.isWhole_whole _).read_unread _
      iexact H8
    isplitl [H9]
    · iexists _; isplitr; swap; · iexact H9
      ipureintro; rw [View.read_writes_full]
      unfold stepS
      conv_rhs => rw [← load_row1_0 c t W1, ← load_row1_1 c t W1, ← load_row1_2 c t W1, ← load_row1_3 c t W1, ← load_row1_4 c t W1, ← load_row1_5 c t W1, ← load_row1_6 c t W1, ← load_row1_7 c t W1, ← load_lab_0 t l8, ← load_lab_1 t l8, ← load_lab_2 t l8, ← load_lab_3 t l8, ← load_lab_4 t l8, ← load_lab_5 t l8, ← load_lab_6 t l8, ← load_lab_7 t l8, ← ea9]
      rfl
    isplitl [H10]
    · iexists _; isplitr; swap; · iexact H10
      ipureintro; rw [View.read_writes_full]
      unfold stepT
      conv_rhs => rw [← load_row2_0 c t W2, ← load_row2_1 c t W2, ← load_row2_2 c t W2, ← load_row2_3 c t W2, ← load_row2_4 c t W2, ← load_row2_5 c t W2, ← load_row2_6 c t W2, ← load_row2_7 c t W2, ← load_lab_0 t l8, ← load_lab_1 t l8, ← load_lab_2 t l8, ← load_lab_3 t l8, ← load_lab_4 t l8, ← load_lab_5 t l8, ← load_lab_6 t l8, ← load_lab_7 t l8, ← ea10]
      rfl
    isplitl [H11]
    · iexists _; isplitr; swap; · iexact H11
      ipureintro; rw [View.read_writes_full]
      unfold stepN
      conv_rhs => rw [← load_lab_0 t l8, ← load_lab_1 t l8, ← load_lab_2 t l8, ← load_lab_3 t l8, ← load_lab_4 t l8, ← load_lab_5 t l8, ← load_lab_6 t l8, ← load_lab_7 t l8, ← ea11]
      rfl
    isplitl [Hcz5_0 Hcz6_0 Hcz5_1 Hcz6_1 Hcz5_2 Hcz6_2 Hcz5_3 Hcz6_3 Hcz5_4 Hcz6_4 Hcz5_5 Hcz6_5 Hcz5_6 Hcz6_6 Hcz5_7 Hcz6_7]
    · iexists gz
      isplitl [Hcz5_0 Hcz6_0]
      · isplitl [Hcz5_0]; · iexact Hcz5_0
        iexact Hcz6_0
      isplitl [Hcz5_1 Hcz6_1]
      · isplitl [Hcz5_1]; · iexact Hcz5_1
        iexact Hcz6_1
      isplitl [Hcz5_2 Hcz6_2]
      · isplitl [Hcz5_2]; · iexact Hcz5_2
        iexact Hcz6_2
      isplitl [Hcz5_3 Hcz6_3]
      · isplitl [Hcz5_3]; · iexact Hcz5_3
        iexact Hcz6_3
      isplitl [Hcz5_4 Hcz6_4]
      · isplitl [Hcz5_4]; · iexact Hcz5_4
        iexact Hcz6_4
      isplitl [Hcz5_5 Hcz6_5]
      · isplitl [Hcz5_5]; · iexact Hcz5_5
        iexact Hcz6_5
      isplitl [Hcz5_6 Hcz6_6]
      · isplitl [Hcz5_6]; · iexact Hcz5_6
        iexact Hcz6_6
      isplitl [Hcz5_7]; · iexact Hcz5_7
      iexact Hcz6_7
    isplitl [Hf5_0 Hf6_0 Hf5_1 Hf6_1 Hf5_2 Hf6_2 Hf5_3 Hf6_3 Hf5_4 Hf6_4 Hf5_5 Hf6_5 Hf5_6 Hf6_6 Hf5_7 Hf6_7 Hf5_0_dst Hf6_0_dst Hf5_1_dst Hf6_1_dst Hf5_2_dst Hf6_2_dst Hf5_3_dst Hf6_3_dst Hf5_4_dst Hf6_4_dst Hf5_5_dst Hf6_5_dst Hf5_6_dst Hf6_6_dst Hf5_7_dst Hf6_7_dst]
    · isplitl [Hf5_0 Hf6_0 Hf5_1 Hf6_1 Hf5_2 Hf6_2 Hf5_3 Hf6_3 Hf5_4 Hf6_4 Hf5_5 Hf6_5 Hf5_6 Hf6_6 Hf5_7 Hf6_7]
      · isplitl [Hf5_0 Hf6_0]
        · isplitl [Hf5_0]; · iexact Hf5_0
          iexact Hf6_0
        isplitl [Hf5_1 Hf6_1]
        · isplitl [Hf5_1]; · iexact Hf5_1
          iexact Hf6_1
        isplitl [Hf5_2 Hf6_2]
        · isplitl [Hf5_2]; · iexact Hf5_2
          iexact Hf6_2
        isplitl [Hf5_3 Hf6_3]
        · isplitl [Hf5_3]; · iexact Hf5_3
          iexact Hf6_3
        isplitl [Hf5_4 Hf6_4]
        · isplitl [Hf5_4]; · iexact Hf5_4
          iexact Hf6_4
        isplitl [Hf5_5 Hf6_5]
        · isplitl [Hf5_5]; · iexact Hf5_5
          iexact Hf6_5
        isplitl [Hf5_6 Hf6_6]
        · isplitl [Hf5_6]; · iexact Hf5_6
          iexact Hf6_6
        isplitl [Hf5_7]; · iexact Hf5_7
        iexact Hf6_7
      iexists landF c W1 W2 (Ring.sl 3 t.val) (Ring.bk 128 t.val)
      isplitl [Hf5_0_dst Hf6_0_dst]
      · isplitl [Hf5_0_dst]; · iexact Hf5_0_dst
        iexact Hf6_0_dst
      isplitl [Hf5_1_dst Hf6_1_dst]
      · isplitl [Hf5_1_dst]; · iexact Hf5_1_dst
        iexact Hf6_1_dst
      isplitl [Hf5_2_dst Hf6_2_dst]
      · isplitl [Hf5_2_dst]; · iexact Hf5_2_dst
        iexact Hf6_2_dst
      isplitl [Hf5_3_dst Hf6_3_dst]
      · isplitl [Hf5_3_dst]; · iexact Hf5_3_dst
        iexact Hf6_3_dst
      isplitl [Hf5_4_dst Hf6_4_dst]
      · isplitl [Hf5_4_dst]; · iexact Hf5_4_dst
        iexact Hf6_4_dst
      isplitl [Hf5_5_dst Hf6_5_dst]
      · isplitl [Hf5_5_dst]; · iexact Hf5_5_dst
        iexact Hf6_5_dst
      isplitl [Hf5_6_dst Hf6_6_dst]
      · isplitl [Hf5_6_dst]; · iexact Hf5_6_dst
        iexact Hf6_6_dst
      isplitl [Hf5_7_dst]; · iexact Hf5_7_dst
      iexact Hf6_7_dst
    isplitl [Hf5_0_src Hf6_0_src Hf5_1_src Hf6_1_src Hf5_2_src Hf6_2_src Hf5_3_src Hf6_3_src Hf5_4_src Hf6_4_src Hf5_5_src Hf6_5_src Hf5_6_src Hf6_6_src Hf5_7_src Hf6_7_src]
    · isplitl [Hf5_0_src Hf6_0_src]
      · isplitl [Hf5_0_src]; · iexact Hf5_0_src
        iexact Hf6_0_src
      isplitl [Hf5_1_src Hf6_1_src]
      · isplitl [Hf5_1_src]; · iexact Hf5_1_src
        iexact Hf6_1_src
      isplitl [Hf5_2_src Hf6_2_src]
      · isplitl [Hf5_2_src]; · iexact Hf5_2_src
        iexact Hf6_2_src
      isplitl [Hf5_3_src Hf6_3_src]
      · isplitl [Hf5_3_src]; · iexact Hf5_3_src
        iexact Hf6_3_src
      isplitl [Hf5_4_src Hf6_4_src]
      · isplitl [Hf5_4_src]; · iexact Hf5_4_src
        iexact Hf6_4_src
      isplitl [Hf5_5_src Hf6_5_src]
      · isplitl [Hf5_5_src]; · iexact Hf5_5_src
        iexact Hf6_5_src
      isplitl [Hf5_6_src Hf6_6_src]
      · isplitl [Hf5_6_src]; · iexact Hf5_6_src
        iexact Hf6_6_src
      isplitl [Hf5_7_src]; · iexact Hf5_7_src
      iexact Hf6_7_src
    iexists _; iexact HW

end Cert.KernelIdeal.Gen

end
-- ==== Proof.KernelIdeal.RunC.lean ====
module

public import proofs.«01_k».proof.Proof.KernelIdeal.Fam

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

-- the run's proof term is large: checking it walks past the default budget
set_option maxHeartbeats 16000000 in
/-- What the body does at a later point that prepares the labels of a new image and starts a group. -/
theorem runC (c : Dev nD) (t : Fin cfg0.N) (arg3 : Memref sig .tc .vmem S1x512x512 .i32) (harg3 : arg3.IsWhole) (arg4 : Memref sig .tc .vmem S1x1 .f32) (harg4 : arg4.IsWhole) (hc0 : ¬cond0 (grid0.coords t)) (hc1 : cond1 (grid0.coords t)) (hc2 : cond2 (grid0.coords t)) (hc3 : ¬cond3 (grid0.coords t))
    (W1 : HbBuf (F := F) c hbM1) (W2 : HbBuf (F := F) c hbM2) (x0 : Vec F S1x512x512 .i32) (a9 a10 : Vec F S256x32 .f32) (a11 : Vec F S32x128 .f32) (f : SlotC (F := F) c) :
  ∀ (W : Waits sig Unit) (K : PUnit → sProp 𝕄),
    iprop(owns (c : Thread nD τ) arg3 fullShare x0
        ∗ (∃ d, owns (c : Thread nD τ) scM8 fullShare d)
        ∗ owns (c : Thread nD τ) scM9 fullShare a9
        ∗ owns (c : Thread nD τ) scM10 fullShare a10
        ∗ owns (c : Thread nD τ) scM11 fullShare a11
        ∗ flightF c W1 W2 (Ring.sl 3 t.val) (Ring.bk 128 t.val) f
        ∗ Ring.free (cellF (F := F) c) (slotF c) (Ring.sl 3 (t.val + 2))
        ∗ homeF c W1 W2 (Ring.bk 128 (t.val + 2))
        ∗ owes (c : Thread nD τ) 0 W
        ∗ (iprop(owns (c : Thread nD τ) arg3 fullShare x0
        ∗ owns (c : Thread nD τ) scM8 fullShare (k0_pay10 x0)
        ∗ owns (c : Thread nD τ) scM9 fullShare (stepS (rowA c hbM1 t W1) (rowL t (k0_pay10 x0)) a9)
        ∗ owns (c : Thread nD τ) scM10 fullShare (stepT (rowA c hbM2 t W2) (rowL t (k0_pay10 x0)) a10)
        ∗ owns (c : Thread nD τ) scM11 fullShare (stepN (rowL t (k0_pay10 x0)) a11)
        ∗ Ring.inflight (flightF c W1 W2) (Ring.sl 3 (t.val + 2)) (Ring.bk 128 (t.val + 2))
        ∗ Ring.free (cellF (F := F) c) (slotF c) (Ring.sl 3 t.val)
        ∗ homeF c W1 W2 (Ring.bk 128 t.val)
        ∗ (∃ W', owes (c : Thread nD τ) 0 W')) -∗ K ⟨⟩))
      ⊢ wp frame (wpE (defs₀ (F := F)) Variants.none c none) Set.univ (cc0__body (grid0.coords t) (Memref.whole main_arg0) (Memref.isWhole_whole _) (Memref.whole main_arg1) (Memref.isWhole_whole _) arg3 harg3 arg4 harg4 scM5 (Memref.isWhole_whole _) scM6 (Memref.isWhole_whole _) cc0_scratch2 scM8 (Memref.isWhole_whole _) scM9 (Memref.isWhole_whole _) scM10 (Memref.isWhole_whole _) scM11 (Memref.isWhole_whole _)) K := by
    intro W K
    haveI : Fact (¬cond0 (grid0.coords t)) := ⟨hc0⟩
    haveI : Fact (cond1 (grid0.coords t)) := ⟨hc1⟩
    haveI : Fact (cond2 (grid0.coords t)) := ⟨hc2⟩
    haveI : Fact (¬cond3 (grid0.coords t)) := ⟨hc3⟩
    simp only [cc0__body_eq_skeleton]; unfold cc0__body_skel
    unfold owns Ring.free Ring.inflight cellF slotF homeF flightF pair8
    iintro ⟨⟨%d3, %hd3, H3⟩, ⟨%ds8, %d8, -, H8⟩, ⟨%d9, %hd9, H9⟩, ⟨%d10, %hd10, H10⟩, ⟨%d11, %hd11, H11⟩, ⟨⟨Hf5_0, Hf6_0⟩, ⟨Hf5_1, Hf6_1⟩, ⟨Hf5_2, Hf6_2⟩, ⟨Hf5_3, Hf6_3⟩, ⟨Hf5_4, Hf6_4⟩, ⟨Hf5_5, Hf6_5⟩, ⟨Hf5_6, Hf6_6⟩, ⟨Hf5_7, Hf6_7⟩⟩, ⟨⟨⟨Hcz5_0, Hcz6_0⟩, ⟨Hcz5_1, Hcz6_1⟩, ⟨Hcz5_2, Hcz6_2⟩, ⟨Hcz5_3, Hcz6_3⟩, ⟨Hcz5_4, Hcz6_4⟩, ⟨Hcz5_5, Hcz6_5⟩, ⟨Hcz5_6, Hcz6_6⟩, ⟨Hcz5_7, Hcz6_7⟩⟩, %gz, ⟨⟨Hgz5_0, Hgz6_0⟩, ⟨Hgz5_1, Hgz6_1⟩, ⟨Hgz5_2, Hgz6_2⟩, ⟨Hgz5_3, Hgz6_3⟩, ⟨Hgz5_4, Hgz6_4⟩, ⟨Hgz5_5, Hgz6_5⟩, ⟨Hgz5_6, Hgz6_6⟩, ⟨Hgz5_7, Hgz6_7⟩⟩⟩, ⟨⟨Hhz5_0, Hhz6_0⟩, ⟨Hhz5_1, Hhz6_1⟩, ⟨Hhz5_2, Hhz6_2⟩, ⟨Hhz5_3, Hhz6_3⟩, ⟨Hhz5_4, Hhz6_4⟩, ⟨Hhz5_5, Hhz6_5⟩, ⟨Hhz5_6, Hhz6_6⟩, ⟨Hhz5_7, Hhz6_7⟩⟩, HW, Hk⟩
    obtain rfl := harg3.eq_unread hd3
    obtain rfl := (Memref.isWhole_whole _).eq_unread hd9
    obtain rfl := (Memref.isWhole_whole _).eq_unread hd10
    obtain rfl := (Memref.isWhole_whole _).eq_unread hd11
    sl_exec_parts (disch := first | sl_exact hc0 | sl_exact hc1 | sl_exact hc2 | sl_exact hc3)
    sl_step
    iapply Hk
    have e8 : scM8.view.writes (Elt F) scM8.view.junk [⟨Rect.unit (s := S128x128) ![0, 0] S128x128.size inb_S128x128_S128x128_0_0, k0_pay10 (arg3.view.readAt (Elt F) (Rect.unit (s := S1x512x512) ![0, 0, 0] S1x512x512.size inb_S1x512x512_S1x512x512_0_0_0).toLoadRect (harg3.unread x0))⟩] = (Memref.isWhole_whole cc0_scratch3).unread (k0_pay10 x0) := by
      rw [readAt_full_unread arg3 harg3]; exact writes_full_eq scM8 (Memref.isWhole_whole _) _ _ _ []
    have ea9 : scM9.view.readAt (Elt F) (Rect.unit (s := S256x32) ![0, 0] S256x32.size inb_S256x32_S256x32_0_0).toLoadRect ((Memref.isWhole_whole cc0_scratch4).unread a9) = a9 := readAt_full_unread scM9 (Memref.isWhole_whole _) _ a9
    have ea10 : scM10.view.readAt (Elt F) (Rect.unit (s := S256x32) ![0, 0] S256x32.size inb_S256x32_S256x32_0_0).toLoadRect ((Memref.isWhole_whole cc0_scratch5).unread a10) = a10 := readAt_full_unread scM10 (Memref.isWhole_whole _) _ a10
    have ea11 : scM11.view.readAt (Elt F) (Rect.unit (s := S32x128) ![0, 0] S32x128.size inb_S32x128_S32x128_0_0).toLoadRect ((Memref.isWhole_whole cc0_scratch6).unread a11) = a11 := readAt_full_unread scM11 (Memref.isWhole_whole _) _ a11
    isplitl [H3]
    · iexists _; isplitr; · ipureintro; exact harg3.read_unread _
      iexact H3
    isplitl [H8]
    · iexists _; isplitr; swap; · iexact H8
      ipureintro; exact (congrArg (View.read (Elt F) scM8.view) e8).trans ((Memref.isWhole_whole _).read_unread _)
    isplitl [H9]
    · iexists _; isplitr; swap; · iexact H9
      ipureintro; rw [View.read_writes_full]
      unfold stepS
      conv_rhs => rw [← load_row1_0 c t W1, ← load_row1_1 c t W1, ← load_row1_2 c t W1, ← load_row1_3 c t W1, ← load_row1_4 c t W1, ← load_row1_5 c t W1, ← load_row1_6 c t W1, ← load_row1_7 c t W1, ← load_lab_0 t (k0_pay10 x0), ← load_lab_1 t (k0_pay10 x0), ← load_lab_2 t (k0_pay10 x0), ← load_lab_3 t (k0_pay10 x0), ← load_lab_4 t (k0_pay10 x0), ← load_lab_5 t (k0_pay10 x0), ← load_lab_6 t (k0_pay10 x0), ← load_lab_7 t (k0_pay10 x0), ← e8, ← ea9]
      rfl
    isplitl [H10]
    · iexists _; isplitr; swap; · iexact H10
      ipureintro; rw [View.read_writes_full]
      unfold stepT
      conv_rhs => rw [← load_row2_0 c t W2, ← load_row2_1 c t W2, ← load_row2_2 c t W2, ← load_row2_3 c t W2, ← load_row2_4 c t W2, ← load_row2_5 c t W2, ← load_row2_6 c t W2, ← load_row2_7 c t W2, ← load_lab_0 t (k0_pay10 x0), ← load_lab_1 t (k0_pay10 x0), ← load_lab_2 t (k0_pay10 x0), ← load_lab_3 t (k0_pay10 x0), ← load_lab_4 t (k0_pay10 x0), ← load_lab_5 t (k0_pay10 x0), ← load_lab_6 t (k0_pay10 x0), ← load_lab_7 t (k0_pay10 x0), ← e8, ← ea10]
      rfl
    isplitl [H11]
    · iexists _; isplitr; swap; · iexact H11
      ipureintro; rw [View.read_writes_full]
      unfold stepN
      conv_rhs => rw [← load_lab_0 t (k0_pay10 x0), ← load_lab_1 t (k0_pay10 x0), ← load_lab_2 t (k0_pay10 x0), ← load_lab_3 t (k0_pay10 x0), ← load_lab_4 t (k0_pay10 x0), ← load_lab_5 t (k0_pay10 x0), ← load_lab_6 t (k0_pay10 x0), ← load_lab_7 t (k0_pay10 x0), ← e8, ← ea11]
      rfl
    isplitl [Hcz5_0 Hcz6_0 Hcz5_1 Hcz6_1 Hcz5_2 Hcz6_2 Hcz5_3 Hcz6_3 Hcz5_4 Hcz6_4 Hcz5_5 Hcz6_5 Hcz5_6 Hcz6_6 Hcz5_7 Hcz6_7]
    · iexists gz
      isplitl [Hcz5_0 Hcz6_0]
      · isplitl [Hcz5_0]; · iexact Hcz5_0
        iexact Hcz6_0
      isplitl [Hcz5_1 Hcz6_1]
      · isplitl [Hcz5_1]; · iexact Hcz5_1
        iexact Hcz6_1
      isplitl [Hcz5_2 Hcz6_2]
      · isplitl [Hcz5_2]; · iexact Hcz5_2
        iexact Hcz6_2
      isplitl [Hcz5_3 Hcz6_3]
      · isplitl [Hcz5_3]; · iexact Hcz5_3
        iexact Hcz6_3
      isplitl [Hcz5_4 Hcz6_4]
      · isplitl [Hcz5_4]; · iexact Hcz5_4
        iexact Hcz6_4
      isplitl [Hcz5_5 Hcz6_5]
      · isplitl [Hcz5_5]; · iexact Hcz5_5
        iexact Hcz6_5
      isplitl [Hcz5_6 Hcz6_6]
      · isplitl [Hcz5_6]; · iexact Hcz5_6
        iexact Hcz6_6
      isplitl [Hcz5_7]; · iexact Hcz5_7
      iexact Hcz6_7
    isplitl [Hf5_0 Hf6_0 Hf5_1 Hf6_1 Hf5_2 Hf6_2 Hf5_3 Hf6_3 Hf5_4 Hf6_4 Hf5_5 Hf6_5 Hf5_6 Hf6_6 Hf5_7 Hf6_7 Hf5_0_dst Hf6_0_dst Hf5_1_dst Hf6_1_dst Hf5_2_dst Hf6_2_dst Hf5_3_dst Hf6_3_dst Hf5_4_dst Hf6_4_dst Hf5_5_dst Hf6_5_dst Hf5_6_dst Hf6_6_dst Hf5_7_dst Hf6_7_dst]
    · isplitl [Hf5_0 Hf6_0 Hf5_1 Hf6_1 Hf5_2 Hf6_2 Hf5_3 Hf6_3 Hf5_4 Hf6_4 Hf5_5 Hf6_5 Hf5_6 Hf6_6 Hf5_7 Hf6_7]
      · isplitl [Hf5_0 Hf6_0]
        · isplitl [Hf5_0]; · iexact Hf5_0
          iexact Hf6_0
        isplitl [Hf5_1 Hf6_1]
        · isplitl [Hf5_1]; · iexact Hf5_1
          iexact Hf6_1
        isplitl [Hf5_2 Hf6_2]
        · isplitl [Hf5_2]; · iexact Hf5_2
          iexact Hf6_2
        isplitl [Hf5_3 Hf6_3]
        · isplitl [Hf5_3]; · iexact Hf5_3
          iexact Hf6_3
        isplitl [Hf5_4 Hf6_4]
        · isplitl [Hf5_4]; · iexact Hf5_4
          iexact Hf6_4
        isplitl [Hf5_5 Hf6_5]
        · isplitl [Hf5_5]; · iexact Hf5_5
          iexact Hf6_5
        isplitl [Hf5_6 Hf6_6]
        · isplitl [Hf5_6]; · iexact Hf5_6
          iexact Hf6_6
        isplitl [Hf5_7]; · iexact Hf5_7
        iexact Hf6_7
      iexists landF c W1 W2 (Ring.sl 3 t.val) (Ring.bk 128 t.val)
      isplitl [Hf5_0_dst Hf6_0_dst]
      · isplitl [Hf5_0_dst]; · iexact Hf5_0_dst
        iexact Hf6_0_dst
      isplitl [Hf5_1_dst Hf6_1_dst]
      · isplitl [Hf5_1_dst]; · iexact Hf5_1_dst
        iexact Hf6_1_dst
      isplitl [Hf5_2_dst Hf6_2_dst]
      · isplitl [Hf5_2_dst]; · iexact Hf5_2_dst
        iexact Hf6_2_dst
      isplitl [Hf5_3_dst Hf6_3_dst]
      · isplitl [Hf5_3_dst]; · iexact Hf5_3_dst
        iexact Hf6_3_dst
      isplitl [Hf5_4_dst Hf6_4_dst]
      · isplitl [Hf5_4_dst]; · iexact Hf5_4_dst
        iexact Hf6_4_dst
      isplitl [Hf5_5_dst Hf6_5_dst]
      · isplitl [Hf5_5_dst]; · iexact Hf5_5_dst
        iexact Hf6_5_dst
      isplitl [Hf5_6_dst Hf6_6_dst]
      · isplitl [Hf5_6_dst]; · iexact Hf5_6_dst
        iexact Hf6_6_dst
      isplitl [Hf5_7_dst]; · iexact Hf5_7_dst
      iexact Hf6_7_dst
    isplitl [Hf5_0_src Hf6_0_src Hf5_1_src Hf6_1_src Hf5_2_src Hf6_2_src Hf5_3_src Hf6_3_src Hf5_4_src Hf6_4_src Hf5_5_src Hf6_5_src Hf5_6_src Hf6_6_src Hf5_7_src Hf6_7_src]
    · isplitl [Hf5_0_src Hf6_0_src]
      · isplitl [Hf5_0_src]; · iexact Hf5_0_src
        iexact Hf6_0_src
      isplitl [Hf5_1_src Hf6_1_src]
      · isplitl [Hf5_1_src]; · iexact Hf5_1_src
        iexact Hf6_1_src
      isplitl [Hf5_2_src Hf6_2_src]
      · isplitl [Hf5_2_src]; · iexact Hf5_2_src
        iexact Hf6_2_src
      isplitl [Hf5_3_src Hf6_3_src]
      · isplitl [Hf5_3_src]; · iexact Hf5_3_src
        iexact Hf6_3_src
      isplitl [Hf5_4_src Hf6_4_src]
      · isplitl [Hf5_4_src]; · iexact Hf5_4_src
        iexact Hf6_4_src
      isplitl [Hf5_5_src Hf6_5_src]
      · isplitl [Hf5_5_src]; · iexact Hf5_5_src
        iexact Hf6_5_src
      isplitl [Hf5_6_src Hf6_6_src]
      · isplitl [Hf5_6_src]; · iexact Hf5_6_src
        iexact Hf6_6_src
      isplitl [Hf5_7_src]; · iexact Hf5_7_src
      iexact Hf6_7_src
    iexists _; iexact HW

end Cert.KernelIdeal.Gen

end
-- ==== Proof.KernelIdeal.RunD.lean ====
module

public import proofs.«01_k».proof.Proof.KernelIdeal.Fam

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

-- the run's proof term is large: checking it walks past the default budget
set_option maxHeartbeats 16000000 in
/-- What the body does at the last point but one: nothing is started. -/
theorem runD (c : Dev nD) (t : Fin cfg0.N) (arg3 : Memref sig .tc .vmem S1x512x512 .i32) (harg3 : arg3.IsWhole) (arg4 : Memref sig .tc .vmem S1x1 .f32) (harg4 : arg4.IsWhole) (hc0 : ¬cond0 (grid0.coords t)) (hc1 : ¬cond1 (grid0.coords t)) (hc2 : ¬cond2 (grid0.coords t)) (hc3 : ¬cond3 (grid0.coords t))
    (W1 : HbBuf (F := F) c hbM1) (W2 : HbBuf (F := F) c hbM2) (l8 : Vec F S128x128 .f32) (a9 a10 : Vec F S256x32 .f32) (a11 : Vec F S32x128 .f32) (f : SlotC (F := F) c) :
  ∀ (W : Waits sig Unit) (K : PUnit → sProp 𝕄),
    iprop(owns (c : Thread nD τ) scM8 fullShare l8
        ∗ owns (c : Thread nD τ) scM9 fullShare a9
        ∗ owns (c : Thread nD τ) scM10 fullShare a10
        ∗ owns (c : Thread nD τ) scM11 fullShare a11
        ∗ flightF c W1 W2 (Ring.sl 3 t.val) (Ring.bk 128 t.val) f
        ∗ owes (c : Thread nD τ) 0 W
        ∗ (iprop(owns (c : Thread nD τ) scM8 fullShare l8
        ∗ owns (c : Thread nD τ) scM9 fullShare (stepS (rowA c hbM1 t W1) (rowL t l8) a9)
        ∗ owns (c : Thread nD τ) scM10 fullShare (stepT (rowA c hbM2 t W2) (rowL t l8) a10)
        ∗ owns (c : Thread nD τ) scM11 fullShare (stepN (rowL t l8) a11)
        ∗ Ring.free (cellF (F := F) c) (slotF c) (Ring.sl 3 t.val)
        ∗ homeF c W1 W2 (Ring.bk 128 t.val)
        ∗ (∃ W', owes (c : Thread nD τ) 0 W')) -∗ K ⟨⟩))
      ⊢ wp frame (wpE (defs₀ (F := F)) Variants.none c none) Set.univ (cc0__body (grid0.coords t) (Memref.whole main_arg0) (Memref.isWhole_whole _) (Memref.whole main_arg1) (Memref.isWhole_whole _) arg3 harg3 arg4 harg4 scM5 (Memref.isWhole_whole _) scM6 (Memref.isWhole_whole _) cc0_scratch2 scM8 (Memref.isWhole_whole _) scM9 (Memref.isWhole_whole _) scM10 (Memref.isWhole_whole _) scM11 (Memref.isWhole_whole _)) K := by
    intro W K
    haveI : Fact (¬cond0 (grid0.coords t)) := ⟨hc0⟩
    haveI : Fact (¬cond1 (grid0.coords t)) := ⟨hc1⟩
    haveI : Fact (¬cond2 (grid0.coords t)) := ⟨hc2⟩
    haveI : Fact (¬cond3 (grid0.coords t)) := ⟨hc3⟩
    simp only [cc0__body_eq_skeleton]; unfold cc0__body_skel
    unfold owns Ring.free cellF slotF homeF flightF pair8
    iintro ⟨⟨%d8, %hd8, H8⟩, ⟨%d9, %hd9, H9⟩, ⟨%d10, %hd10, H10⟩, ⟨%d11, %hd11, H11⟩, ⟨⟨Hf5_0, Hf6_0⟩, ⟨Hf5_1, Hf6_1⟩, ⟨Hf5_2, Hf6_2⟩, ⟨Hf5_3, Hf6_3⟩, ⟨Hf5_4, Hf6_4⟩, ⟨Hf5_5, Hf6_5⟩, ⟨Hf5_6, Hf6_6⟩, ⟨Hf5_7, Hf6_7⟩⟩, HW, Hk⟩
    obtain rfl := (Memref.isWhole_whole _).eq_unread hd8
    obtain rfl := (Memref.isWhole_whole _).eq_unread hd9
    obtain rfl := (Memref.isWhole_whole _).eq_unread hd10
    obtain rfl := (Memref.isWhole_whole _).eq_unread hd11
    sl_exec_parts (disch := first | sl_exact hc0 | sl_exact hc1 | sl_exact hc2 | sl_exact hc3)
    sl_step
    iapply Hk
    have ea9 : scM9.view.readAt (Elt F) (Rect.unit (s := S256x32) ![0, 0] S256x32.size inb_S256x32_S256x32_0_0).toLoadRect ((Memref.isWhole_whole cc0_scratch4).unread a9) = a9 := readAt_full_unread scM9 (Memref.isWhole_whole _) _ a9
    have ea10 : scM10.view.readAt (Elt F) (Rect.unit (s := S256x32) ![0, 0] S256x32.size inb_S256x32_S256x32_0_0).toLoadRect ((Memref.isWhole_whole cc0_scratch5).unread a10) = a10 := readAt_full_unread scM10 (Memref.isWhole_whole _) _ a10
    have ea11 : scM11.view.readAt (Elt F) (Rect.unit (s := S32x128) ![0, 0] S32x128.size inb_S32x128_S32x128_0_0).toLoadRect ((Memref.isWhole_whole cc0_scratch6).unread a11) = a11 := readAt_full_unread scM11 (Memref.isWhole_whole _) _ a11
    isplitl [H8]
    · iexists _; isplitr; · ipureintro; exact (Memref.isWhole_whole _).read_unread _
      iexact H8
    isplitl [H9]
    · iexists _; isplitr; swap; · iexact H9
      ipureintro; rw [View.read_writes_full]
      unfold stepS
      conv_rhs => rw [← load_row1_0 c t W1, ← load_row1_1 c t W1, ← load_row1_2 c t W1, ← load_row1_3 c t W1, ← load_row1_4 c t W1, ← load_row1_5 c t W1, ← load_row1_6 c t W1, ← load_row1_7 c t W1, ← load_lab_0 t l8, ← load_lab_1 t l8, ← load_lab_2 t l8, ← load_lab_3 t l8, ← load_lab_4 t l8, ← load_lab_5 t l8, ← load_lab_6 t l8, ← load_lab_7 t l8, ← ea9]
      rfl
    isplitl [H10]
    · iexists _; isplitr; swap; · iexact H10
      ipureintro; rw [View.read_writes_full]
      unfold stepT
      conv_rhs => rw [← load_row2_0 c t W2, ← load_row2_1 c t W2, ← load_row2_2 c t W2, ← load_row2_3 c t W2, ← load_row2_4 c t W2, ← load_row2_5 c t W2, ← load_row2_6 c t W2, ← load_row2_7 c t W2, ← load_lab_0 t l8, ← load_lab_1 t l8, ← load_lab_2 t l8, ← load_lab_3 t l8, ← load_lab_4 t l8, ← load_lab_5 t l8, ← load_lab_6 t l8, ← load_lab_7 t l8, ← ea10]
      rfl
    isplitl [H11]
    · iexists _; isplitr; swap; · iexact H11
      ipureintro; rw [View.read_writes_full]
      unfold stepN
      conv_rhs => rw [← load_lab_0 t l8, ← load_lab_1 t l8, ← load_lab_2 t l8, ← load_lab_3 t l8, ← load_lab_4 t l8, ← load_lab_5 t l8, ← load_lab_6 t l8, ← load_lab_7 t l8, ← ea11]
      rfl
    isplitl [Hf5_0 Hf6_0 Hf5_1 Hf6_1 Hf5_2 Hf6_2 Hf5_3 Hf6_3 Hf5_4 Hf6_4 Hf5_5 Hf6_5 Hf5_6 Hf6_6 Hf5_7 Hf6_7 Hf5_0_dst Hf6_0_dst Hf5_1_dst Hf6_1_dst Hf5_2_dst Hf6_2_dst Hf5_3_dst Hf6_3_dst Hf5_4_dst Hf6_4_dst Hf5_5_dst Hf6_5_dst Hf5_6_dst Hf6_6_dst Hf5_7_dst Hf6_7_dst]
    · isplitl [Hf5_0 Hf6_0 Hf5_1 Hf6_1 Hf5_2 Hf6_2 Hf5_3 Hf6_3 Hf5_4 Hf6_4 Hf5_5 Hf6_5 Hf5_6 Hf6_6 Hf5_7 Hf6_7]
      · isplitl [Hf5_0 Hf6_0]
        · isplitl [Hf5_0]; · iexact Hf5_0
          iexact Hf6_0
        isplitl [Hf5_1 Hf6_1]
        · isplitl [Hf5_1]; · iexact Hf5_1
          iexact Hf6_1
        isplitl [Hf5_2 Hf6_2]
        · isplitl [Hf5_2]; · iexact Hf5_2
          iexact Hf6_2
        isplitl [Hf5_3 Hf6_3]
        · isplitl [Hf5_3]; · iexact Hf5_3
          iexact Hf6_3
        isplitl [Hf5_4 Hf6_4]
        · isplitl [Hf5_4]; · iexact Hf5_4
          iexact Hf6_4
        isplitl [Hf5_5 Hf6_5]
        · isplitl [Hf5_5]; · iexact Hf5_5
          iexact Hf6_5
        isplitl [Hf5_6 Hf6_6]
        · isplitl [Hf5_6]; · iexact Hf5_6
          iexact Hf6_6
        isplitl [Hf5_7]; · iexact Hf5_7
        iexact Hf6_7
      iexists landF c W1 W2 (Ring.sl 3 t.val) (Ring.bk 128 t.val)
      isplitl [Hf5_0_dst Hf6_0_dst]
      · isplitl [Hf5_0_dst]; · iexact Hf5_0_dst
        iexact Hf6_0_dst
      isplitl [Hf5_1_dst Hf6_1_dst]
      · isplitl [Hf5_1_dst]; · iexact Hf5_1_dst
        iexact Hf6_1_dst
      isplitl [Hf5_2_dst Hf6_2_dst]
      · isplitl [Hf5_2_dst]; · iexact Hf5_2_dst
        iexact Hf6_2_dst
      isplitl [Hf5_3_dst Hf6_3_dst]
      · isplitl [Hf5_3_dst]; · iexact Hf5_3_dst
        iexact Hf6_3_dst
      isplitl [Hf5_4_dst Hf6_4_dst]
      · isplitl [Hf5_4_dst]; · iexact Hf5_4_dst
        iexact Hf6_4_dst
      isplitl [Hf5_5_dst Hf6_5_dst]
      · isplitl [Hf5_5_dst]; · iexact Hf5_5_dst
        iexact Hf6_5_dst
      isplitl [Hf5_6_dst Hf6_6_dst]
      · isplitl [Hf5_6_dst]; · iexact Hf5_6_dst
        iexact Hf6_6_dst
      isplitl [Hf5_7_dst]; · iexact Hf5_7_dst
      iexact Hf6_7_dst
    isplitl [Hf5_0_src Hf6_0_src Hf5_1_src Hf6_1_src Hf5_2_src Hf6_2_src Hf5_3_src Hf6_3_src Hf5_4_src Hf6_4_src Hf5_5_src Hf6_5_src Hf5_6_src Hf6_6_src Hf5_7_src Hf6_7_src]
    · isplitl [Hf5_0_src Hf6_0_src]
      · isplitl [Hf5_0_src]; · iexact Hf5_0_src
        iexact Hf6_0_src
      isplitl [Hf5_1_src Hf6_1_src]
      · isplitl [Hf5_1_src]; · iexact Hf5_1_src
        iexact Hf6_1_src
      isplitl [Hf5_2_src Hf6_2_src]
      · isplitl [Hf5_2_src]; · iexact Hf5_2_src
        iexact Hf6_2_src
      isplitl [Hf5_3_src Hf6_3_src]
      · isplitl [Hf5_3_src]; · iexact Hf5_3_src
        iexact Hf6_3_src
      isplitl [Hf5_4_src Hf6_4_src]
      · isplitl [Hf5_4_src]; · iexact Hf5_4_src
        iexact Hf6_4_src
      isplitl [Hf5_5_src Hf6_5_src]
      · isplitl [Hf5_5_src]; · iexact Hf5_5_src
        iexact Hf6_5_src
      isplitl [Hf5_6_src Hf6_6_src]
      · isplitl [Hf5_6_src]; · iexact Hf5_6_src
        iexact Hf6_6_src
      isplitl [Hf5_7_src]; · iexact Hf5_7_src
      iexact Hf6_7_src
    iexists _; iexact HW

end Cert.KernelIdeal.Gen

end
-- ==== Proof.KernelIdeal.RunE.lean ====
module

public import proofs.«01_k».proof.Proof.KernelIdeal.Fam

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

-- the run's proof term is large: checking it walks past the default budget
set_option maxHeartbeats 16000000 in
/-- What the body does at the last point: nothing is started, and the loss is stored. -/
theorem runE (c : Dev nD) (t : Fin cfg0.N) (arg3 : Memref sig .tc .vmem S1x512x512 .i32) (harg3 : arg3.IsWhole) (arg4 : Memref sig .tc .vmem S1x1 .f32) (harg4 : arg4.IsWhole) (hc0 : ¬cond0 (grid0.coords t)) (hc1 : ¬cond1 (grid0.coords t)) (hc2 : ¬cond2 (grid0.coords t)) (hc3 : cond3 (grid0.coords t))
    (W1 : HbBuf (F := F) c hbM1) (W2 : HbBuf (F := F) c hbM2) (l8 : Vec F S128x128 .f32) (a9 a10 : Vec F S256x32 .f32) (a11 : Vec F S32x128 .f32) (f : SlotC (F := F) c) :
  ∀ (W : Waits sig Unit) (K : PUnit → sProp 𝕄),
    iprop(owns (c : Thread nD τ) scM8 fullShare l8
        ∗ owns (c : Thread nD τ) scM9 fullShare a9
        ∗ owns (c : Thread nD τ) scM10 fullShare a10
        ∗ owns (c : Thread nD τ) scM11 fullShare a11
        ∗ (∃ d, owns (c : Thread nD τ) arg4 fullShare d)
        ∗ flightF c W1 W2 (Ring.sl 3 t.val) (Ring.bk 128 t.val) f
        ∗ owes (c : Thread nD τ) 0 W
        ∗ (iprop(owns (c : Thread nD τ) scM8 fullShare l8
        ∗ owns (c : Thread nD τ) scM9 fullShare (stepS (rowA c hbM1 t W1) (rowL t l8) a9)
        ∗ owns (c : Thread nD τ) scM10 fullShare (stepT (rowA c hbM2 t W2) (rowL t l8) a10)
        ∗ owns (c : Thread nD τ) scM11 fullShare (stepN (rowL t l8) a11)
        ∗ owns (c : Thread nD τ) arg4 fullShare (lossOf (stepS (rowA c hbM1 t W1) (rowL t l8) a9) (stepT (rowA c hbM2 t W2) (rowL t l8) a10) (stepN (rowL t l8) a11))
        ∗ Ring.free (cellF (F := F) c) (slotF c) (Ring.sl 3 t.val)
        ∗ homeF c W1 W2 (Ring.bk 128 t.val)
        ∗ (∃ W', owes (c : Thread nD τ) 0 W')) -∗ K ⟨⟩))
      ⊢ wp frame (wpE (defs₀ (F := F)) Variants.none c none) Set.univ (cc0__body (grid0.coords t) (Memref.whole main_arg0) (Memref.isWhole_whole _) (Memref.whole main_arg1) (Memref.isWhole_whole _) arg3 harg3 arg4 harg4 scM5 (Memref.isWhole_whole _) scM6 (Memref.isWhole_whole _) cc0_scratch2 scM8 (Memref.isWhole_whole _) scM9 (Memref.isWhole_whole _) scM10 (Memref.isWhole_whole _) scM11 (Memref.isWhole_whole _)) K := by
    intro W K
    haveI : Fact (¬cond0 (grid0.coords t)) := ⟨hc0⟩
    haveI : Fact (¬cond1 (grid0.coords t)) := ⟨hc1⟩
    haveI : Fact (¬cond2 (grid0.coords t)) := ⟨hc2⟩
    haveI : Fact (cond3 (grid0.coords t)) := ⟨hc3⟩
    simp only [cc0__body_eq_skeleton]; unfold cc0__body_skel
    unfold owns Ring.free cellF slotF homeF flightF pair8
    iintro ⟨⟨%d8, %hd8, H8⟩, ⟨%d9, %hd9, H9⟩, ⟨%d10, %hd10, H10⟩, ⟨%d11, %hd11, H11⟩, ⟨%ds4, %d4, -, H4⟩, ⟨⟨Hf5_0, Hf6_0⟩, ⟨Hf5_1, Hf6_1⟩, ⟨Hf5_2, Hf6_2⟩, ⟨Hf5_3, Hf6_3⟩, ⟨Hf5_4, Hf6_4⟩, ⟨Hf5_5, Hf6_5⟩, ⟨Hf5_6, Hf6_6⟩, ⟨Hf5_7, Hf6_7⟩⟩, HW, Hk⟩
    obtain rfl := (Memref.isWhole_whole _).eq_unread hd8
    obtain rfl := (Memref.isWhole_whole _).eq_unread hd9
    obtain rfl := (Memref.isWhole_whole _).eq_unread hd10
    obtain rfl := (Memref.isWhole_whole _).eq_unread hd11
    sl_exec_parts (disch := first | sl_exact hc0 | sl_exact hc1 | sl_exact hc2 | sl_exact hc3)
    sl_step
    iapply Hk
    have ea9 : scM9.view.readAt (Elt F) (Rect.unit (s := S256x32) ![0, 0] S256x32.size inb_S256x32_S256x32_0_0).toLoadRect ((Memref.isWhole_whole cc0_scratch4).unread a9) = a9 := readAt_full_unread scM9 (Memref.isWhole_whole _) _ a9
    have eo9 : scM9.view.readCov [⟨(Rect.unit (s := S256x32) ![0, 0] S256x32.size inb_S256x32_S256x32_0_0), (stepS (rowA c hbM1 t W1) (rowL t l8) a9)⟩] (Rect.unit (s := S256x32) ![0, 0] S256x32.size inb_S256x32_S256x32_0_0).toLoadRect = (stepS (rowA c hbM1 t W1) (rowL t l8) a9) := View.readCov_full _ _ _ _ _
    have ea10 : scM10.view.readAt (Elt F) (Rect.unit (s := S256x32) ![0, 0] S256x32.size inb_S256x32_S256x32_0_0).toLoadRect ((Memref.isWhole_whole cc0_scratch5).unread a10) = a10 := readAt_full_unread scM10 (Memref.isWhole_whole _) _ a10
    have eo10 : scM10.view.readCov [⟨(Rect.unit (s := S256x32) ![0, 0] S256x32.size inb_S256x32_S256x32_0_0), (stepT (rowA c hbM2 t W2) (rowL t l8) a10)⟩] (Rect.unit (s := S256x32) ![0, 0] S256x32.size inb_S256x32_S256x32_0_0).toLoadRect = (stepT (rowA c hbM2 t W2) (rowL t l8) a10) := View.readCov_full _ _ _ _ _
    have ea11 : scM11.view.readAt (Elt F) (Rect.unit (s := S32x128) ![0, 0] S32x128.size inb_S32x128_S32x128_0_0).toLoadRect ((Memref.isWhole_whole cc0_scratch6).unread a11) = a11 := readAt_full_unread scM11 (Memref.isWhole_whole _) _ a11
    have eo11 : scM11.view.readCov [⟨(Rect.unit (s := S32x128) ![0, 0] S32x128.size inb_S32x128_S32x128_0_0), (stepN (rowL t l8) a11)⟩] (Rect.unit (s := S32x128) ![0, 0] S32x128.size inb_S32x128_S32x128_0_0).toLoadRect = (stepN (rowL t l8) a11) := View.readCov_full _ _ _ _ _
    isplitl [H8]
    · iexists _; isplitr; · ipureintro; exact (Memref.isWhole_whole _).read_unread _
      iexact H8
    isplitl [H9]
    · iexists _; isplitr; swap; · iexact H9
      ipureintro; unfold runE.sl.H9_1
      rw [View.read_writes_full]
      unfold stepS
      conv_rhs => rw [← load_row1_0 c t W1, ← load_row1_1 c t W1, ← load_row1_2 c t W1, ← load_row1_3 c t W1, ← load_row1_4 c t W1, ← load_row1_5 c t W1, ← load_row1_6 c t W1, ← load_row1_7 c t W1, ← load_lab_0 t l8, ← load_lab_1 t l8, ← load_lab_2 t l8, ← load_lab_3 t l8, ← load_lab_4 t l8, ← load_lab_5 t l8, ← load_lab_6 t l8, ← load_lab_7 t l8, ← ea9]
      rfl
    isplitl [H10]
    · iexists _; isplitr; swap; · iexact H10
      ipureintro; unfold runE.sl.H10_1
      rw [View.read_writes_full]
      unfold stepT
      conv_rhs => rw [← load_row2_0 c t W2, ← load_row2_1 c t W2, ← load_row2_2 c t W2, ← load_row2_3 c t W2, ← load_row2_4 c t W2, ← load_row2_5 c t W2, ← load_row2_6 c t W2, ← load_row2_7 c t W2, ← load_lab_0 t l8, ← load_lab_1 t l8, ← load_lab_2 t l8, ← load_lab_3 t l8, ← load_lab_4 t l8, ← load_lab_5 t l8, ← load_lab_6 t l8, ← load_lab_7 t l8, ← ea10]
      rfl
    isplitl [H11]
    · iexists _; isplitr; swap; · iexact H11
      ipureintro; unfold runE.sl.H11_1
      rw [View.read_writes_full]
      unfold stepN
      conv_rhs => rw [← load_lab_0 t l8, ← load_lab_1 t l8, ← load_lab_2 t l8, ← load_lab_3 t l8, ← load_lab_4 t l8, ← load_lab_5 t l8, ← load_lab_6 t l8, ← load_lab_7 t l8, ← ea11]
      rfl
    isplitl [H4]
    · iexists _; isplitr; swap; · iexact H4
      ipureintro; rw [View.read_writes_full]
      unfold lossOf
      conv_rhs => rw [← eo9, ← eo10, ← eo11]
      unfold stepS stepT stepN
      conv_rhs => rw [← load_row1_0 c t W1, ← load_row1_1 c t W1, ← load_row1_2 c t W1, ← load_row1_3 c t W1, ← load_row1_4 c t W1, ← load_row1_5 c t W1, ← load_row1_6 c t W1, ← load_row1_7 c t W1, ← load_row2_0 c t W2, ← load_row2_1 c t W2, ← load_row2_2 c t W2, ← load_row2_3 c t W2, ← load_row2_4 c t W2, ← load_row2_5 c t W2, ← load_row2_6 c t W2, ← load_row2_7 c t W2, ← load_lab_0 t l8, ← load_lab_1 t l8, ← load_lab_2 t l8, ← load_lab_3 t l8, ← load_lab_4 t l8, ← load_lab_5 t l8, ← load_lab_6 t l8, ← load_lab_7 t l8, ← ea9, ← ea10, ← ea11]
      rfl
    isplitl [Hf5_0 Hf6_0 Hf5_1 Hf6_1 Hf5_2 Hf6_2 Hf5_3 Hf6_3 Hf5_4 Hf6_4 Hf5_5 Hf6_5 Hf5_6 Hf6_6 Hf5_7 Hf6_7 Hf5_0_dst Hf6_0_dst Hf5_1_dst Hf6_1_dst Hf5_2_dst Hf6_2_dst Hf5_3_dst Hf6_3_dst Hf5_4_dst Hf6_4_dst Hf5_5_dst Hf6_5_dst Hf5_6_dst Hf6_6_dst Hf5_7_dst Hf6_7_dst]
    · isplitl [Hf5_0 Hf6_0 Hf5_1 Hf6_1 Hf5_2 Hf6_2 Hf5_3 Hf6_3 Hf5_4 Hf6_4 Hf5_5 Hf6_5 Hf5_6 Hf6_6 Hf5_7 Hf6_7]
      · isplitl [Hf5_0 Hf6_0]
        · isplitl [Hf5_0]; · iexact Hf5_0
          iexact Hf6_0
        isplitl [Hf5_1 Hf6_1]
        · isplitl [Hf5_1]; · iexact Hf5_1
          iexact Hf6_1
        isplitl [Hf5_2 Hf6_2]
        · isplitl [Hf5_2]; · iexact Hf5_2
          iexact Hf6_2
        isplitl [Hf5_3 Hf6_3]
        · isplitl [Hf5_3]; · iexact Hf5_3
          iexact Hf6_3
        isplitl [Hf5_4 Hf6_4]
        · isplitl [Hf5_4]; · iexact Hf5_4
          iexact Hf6_4
        isplitl [Hf5_5 Hf6_5]
        · isplitl [Hf5_5]; · iexact Hf5_5
          iexact Hf6_5
        isplitl [Hf5_6 Hf6_6]
        · isplitl [Hf5_6]; · iexact Hf5_6
          iexact Hf6_6
        isplitl [Hf5_7]; · iexact Hf5_7
        iexact Hf6_7
      iexists landF c W1 W2 (Ring.sl 3 t.val) (Ring.bk 128 t.val)
      isplitl [Hf5_0_dst Hf6_0_dst]
      · isplitl [Hf5_0_dst]; · iexact Hf5_0_dst
        iexact Hf6_0_dst
      isplitl [Hf5_1_dst Hf6_1_dst]
      · isplitl [Hf5_1_dst]; · iexact Hf5_1_dst
        iexact Hf6_1_dst
      isplitl [Hf5_2_dst Hf6_2_dst]
      · isplitl [Hf5_2_dst]; · iexact Hf5_2_dst
        iexact Hf6_2_dst
      isplitl [Hf5_3_dst Hf6_3_dst]
      · isplitl [Hf5_3_dst]; · iexact Hf5_3_dst
        iexact Hf6_3_dst
      isplitl [Hf5_4_dst Hf6_4_dst]
      · isplitl [Hf5_4_dst]; · iexact Hf5_4_dst
        iexact Hf6_4_dst
      isplitl [Hf5_5_dst Hf6_5_dst]
      · isplitl [Hf5_5_dst]; · iexact Hf5_5_dst
        iexact Hf6_5_dst
      isplitl [Hf5_6_dst Hf6_6_dst]
      · isplitl [Hf5_6_dst]; · iexact Hf5_6_dst
        iexact Hf6_6_dst
      isplitl [Hf5_7_dst]; · iexact Hf5_7_dst
      iexact Hf6_7_dst
    isplitl [Hf5_0_src Hf6_0_src Hf5_1_src Hf6_1_src Hf5_2_src Hf6_2_src Hf5_3_src Hf6_3_src Hf5_4_src Hf6_4_src Hf5_5_src Hf6_5_src Hf5_6_src Hf6_6_src Hf5_7_src Hf6_7_src]
    · isplitl [Hf5_0_src Hf6_0_src]
      · isplitl [Hf5_0_src]; · iexact Hf5_0_src
        iexact Hf6_0_src
      isplitl [Hf5_1_src Hf6_1_src]
      · isplitl [Hf5_1_src]; · iexact Hf5_1_src
        iexact Hf6_1_src
      isplitl [Hf5_2_src Hf6_2_src]
      · isplitl [Hf5_2_src]; · iexact Hf5_2_src
        iexact Hf6_2_src
      isplitl [Hf5_3_src Hf6_3_src]
      · isplitl [Hf5_3_src]; · iexact Hf5_3_src
        iexact Hf6_3_src
      isplitl [Hf5_4_src Hf6_4_src]
      · isplitl [Hf5_4_src]; · iexact Hf5_4_src
        iexact Hf6_4_src
      isplitl [Hf5_5_src Hf6_5_src]
      · isplitl [Hf5_5_src]; · iexact Hf5_5_src
        iexact Hf6_5_src
      isplitl [Hf5_6_src Hf6_6_src]
      · isplitl [Hf5_6_src]; · iexact Hf5_6_src
        iexact Hf6_6_src
      isplitl [Hf5_7_src]; · iexact Hf5_7_src
      iexact Hf6_7_src
    iexists _; iexact HW

end Cert.KernelIdeal.Gen

end
-- ==== Proof.KernelIdeal.Launch.lean ====
module

public import proofs.«01_k».proof.Proof.KernelIdeal.Ends
public import Idealize.ShloMosaic.Lib.Pipeline.DatRel
public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.KernelIdeal.RunE

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel holds before each point -/

/-- The grid's point number `k`. -/
def pt (k : ℕ) : Fin cfg0.N := ⟨k % 128, lt_of_lt_of_eq (Nat.mod_lt _ (by decide)) (show (128 : ℕ) = cfg0.N from N_0.symm)⟩
omit [FloatOps F] in
theorem pt_val (t : Fin cfg0.N) : pt t.val = t :=
  Fin.ext (Nat.mod_eq_of_lt (lt_of_lt_of_eq t.isLt (show cfg0.N = 128 from N_0)))

/-- The labels of the image point `k` works on, one in sixteen of them. -/
def labS (c : Dev nD) (k : ℕ) : Vec F S128x128 .f32 := k0_pay10 (iblk m c 0 (pt (k / 16 * 16)))
/-- The class sums of the first features before point `k`, those of the second features, and the class counts. -/
def accS (c : Dev nD) : ℕ → Vec F S256x32 .f32
  | 0 => k0_pay4
  | k + 1 => stepS (rowA c hbM1 (pt k) (V m c main_arg0)) (rowL (pt k) (labS m c k)) (accS c k)
def accT (c : Dev nD) : ℕ → Vec F S256x32 .f32
  | 0 => k0_pay5
  | k + 1 => stepT (rowA c hbM2 (pt k) (V m c main_arg1)) (rowL (pt k) (labS m c k)) (accT c k)
def cntN (c : Dev nD) : ℕ → Vec F S32x128 .f32
  | 0 => k0_pay6
  | k + 1 => stepN (rowL (pt k) (labS m c k)) (cntN c k)
/-- The loss after the last point. -/
def lossK (c : Dev nD) : Vec F S1x1 .f32 := lossOf (accS m c 128) (accT m c 128) (cntN m c 128)

theorem labS_new (c : Dev nD) (t : Fin cfg0.N) (h : t.val % 16 = 0) : labS m c t.val = k0_pay10 (iblk m c 0 t) := by
  unfold labS; rw [show t.val / 16 * 16 = t.val by omega, pt_val]
theorem labS_prev (c : Dev nD) (k : ℕ) (h : ¬k % 16 = 0) : labS m c (k - 1) = labS m c k := by
  unfold labS; rw [show (k - 1) / 16 = k / 16 by omega]
theorem accS_next (c : Dev nD) (t : Fin cfg0.N) :
    accS m c (t.val + 1) = stepS (rowA c hbM1 t (V m c main_arg0)) (rowL t (labS m c t.val)) (accS m c t.val) := by
  rw [accS, pt_val]
theorem accT_next (c : Dev nD) (t : Fin cfg0.N) :
    accT m c (t.val + 1) = stepT (rowA c hbM2 t (V m c main_arg1)) (rowL t (labS m c t.val)) (accT m c t.val) := by
  rw [accT, pt_val]
theorem cntN_next (c : Dev nD) (t : Fin cfg0.N) : cntN m c (t.val + 1) = stepN (rowL t (labS m c t.val)) (cntN m c t.val) := by
  rw [cntN, pt_val]

/-- The labels and the sums before point `k`: anything before the first. -/
def scr (c : Dev nD) (k : ℕ) : sProp 𝕄 :=
  if k = 0 then iprop((∃ d, owns (c : Thread nD τ) scM8 fullShare d) ∗ (∃ d, owns (c : Thread nD τ) scM9 fullShare d)
    ∗ (∃ d, owns (c : Thread nD τ) scM10 fullShare d) ∗ (∃ d, owns (c : Thread nD τ) scM11 fullShare d))
  else iprop(owns (c : Thread nD τ) scM8 fullShare (labS m c (k - 1)) ∗ owns (c : Thread nD τ) scM9 fullShare (accS m c k)
    ∗ owns (c : Thread nD τ) scM10 fullShare (accT m c k) ∗ owns (c : Thread nD τ) scM11 fullShare (cntN m c k))
theorem scr_zero (c : Dev nD) (k : ℕ) (h : k = 0) : scr m c k = iprop((∃ d, owns (c : Thread nD τ) scM8 fullShare d) ∗ (∃ d, owns (c : Thread nD τ) scM9 fullShare d)
    ∗ (∃ d, owns (c : Thread nD τ) scM10 fullShare d) ∗ (∃ d, owns (c : Thread nD τ) scM11 fullShare d)) := if_pos h
theorem scr_pos (c : Dev nD) (k : ℕ) (h : ¬k = 0) : scr m c k = iprop(owns (c : Thread nD τ) scM8 fullShare (labS m c (k - 1)) ∗ owns (c : Thread nD τ) scM9 fullShare (accS m c k)
    ∗ owns (c : Thread nD τ) scM10 fullShare (accT m c k) ∗ owns (c : Thread nD τ) scM11 fullShare (cntN m c k)) := if_neg h
theorem scr_next (c : Dev nD) (t : Fin cfg0.N) : scr m c (t.val + 1) = iprop(owns (c : Thread nD τ) scM8 fullShare (labS m c t.val)
    ∗ owns (c : Thread nD τ) scM9 fullShare (stepS (rowA c hbM1 t (V m c main_arg0)) (rowL t (labS m c t.val)) (accS m c t.val))
    ∗ owns (c : Thread nD τ) scM10 fullShare (stepT (rowA c hbM2 t (V m c main_arg1)) (rowL t (labS m c t.val)) (accT m c t.val))
    ∗ owns (c : Thread nD τ) scM11 fullShare (stepN (rowL t (labS m c t.val)) (cntN m c t.val))) := by
  rw [scr_pos m c _ (Nat.succ_ne_zero _), accS_next, accT_next, cntN_next]; rfl

/-- The region's invariant before point `k`. -/
def PhiK (c : Dev nD) (k : ℕ) : sProp 𝕄 := iprop(scr m c k ∗ (∃ r, prngReg c r) ∗ ringAt c (V m c main_arg0) (V m c main_arg1) k)

/-! ## The proof data -/

/-- The window the result leaves by is held to a relation; -/
def forgets0 : Fin 2 → Bool := fun w => w.val == 1
/-- the relation: after the last point it holds the loss. -/
def rel0 (c : Dev nD) (w : Fin cfg0.W) (t : Fin cfg0.N) (X : (cfg0.win w).block.Idx → Elt F (cfg0.win w).elt) : Prop :=
  match w, X with
  | ⟨0, _⟩, _ => True
  | ⟨1, _⟩, X => t.val = 127 → (show Vec F S1x1 .f32 from X) = lossK m c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ t := PhiK m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiK m c t.val := by
  dsimp only [dats]; simp only [Fin.val_castSucc]
theorem Phi_succ (c : Dev nD) (t : Fin cfg0.N) : (dats m 0 c).Φ t.succ = PhiK m c (t.val + 1) := by
  dsimp only [dats]; simp only [Fin.val_succ]
theorem after0_0 (c : Dev nD) (t : Fin cfg0.N) : (dats m 0 c).after 0 t = iblk m c 0 t := by dsimp only [dats]
/-- The labels' staging buffer holds the point's image at every point. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## The body at a point -/

abbrev ms0_0 (t : Fin cfg0.N) : Memref sig .tc .vmem S1x512x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)

/-- What the body is handed at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ Y, ⌜((dats m 0 c).toRRel forgets0 (rel0 m c)).Finds 1 t Y⌝ ∗ owns (c : Thread nD τ) (ms0_1 t) fullShare Y))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ X, ⌜rel0 m c 1 t X⌝ ∗ owns (c : Thread nD τ) (ms0_1 t) fullShare X))

set_option maxHeartbeats 4000000 in
theorem sound_A (c : Dev nD) (t : Fin cfg0.N) (h0 : t.val = 0) :
    bodyPre m c t ⊢ wp frame (wpE (defs₀ (F := F)) Variants.none c none) Set.univ (bodyAt0 t) (fun _ => bodyPost m c t) := by
  have hc0 := hcond0 t; have hc1 := hcond1 t; have hc2 := hcond2 t; have hc3 := hcond3 t
  have g0 : cond0 (grid0.coords t) := hc0.mpr (by omega)
  have g1 : cond1 (grid0.coords t) := hc1.mpr (by omega)
  have g2 : cond2 (grid0.coords t) := hc2.mpr (by omega)
  have g3 : ¬cond3 (grid0.coords t) := fun h => absurd (hc3.mp h) (by omega)
  unfold bodyPre bodyPost bodyAt0
  simp only [before0_0]
  rw [after0_0, Phi_castSucc m c t, Phi_succ m c t]
  unfold Dat.owesAt Pipeline.owesWithin
  rw [show (dats m 0 c).owed t.castSucc = 0 from rfl, show (dats m 0 c).owed t.succ = 0 from rfl]
  unfold PhiK ringAt
  rw [if_neg (Nat.succ_ne_zero t.val), scr_next]
  rw [if_pos h0, scr_zero m c _ h0, labS_new m c t (by omega)]
  have e9 : accS m c t.val = (@k0_pay4 F _ : Vec F S256x32 .f32) := by rw [h0]; rfl
  have e10 : accT m c t.val = (@k0_pay5 F _ : Vec F S256x32 .f32) := by rw [h0]; rfl
  have e11 : cntN m c t.val = (@k0_pay6 F _ : Vec F S32x128 .f32) := by rw [h0]; rfl
  rw [e9, e10, e11]
  rw [Ring.At₀_eq3' _ _ _ t.val h0 (by decide : 3 ≤ 128), Ring.At3_one' _ _ _ _ t.val h0 (by decide : 3 ≤ 128)]
  iintro ⟨⟨⟨H8, H9, H10, H11⟩, Hg, ⟨Hh0, Hh1, Hh2, Hrest⟩, Hf0, Hf1, Hf2⟩, ⟨%W, -, HW⟩, ⟨%d0, H3⟩, ⟨%d1, -, H4⟩⟩
  iapply ((runA c t (ms0_0 t) (hs0_0 t) (ms0_1 t) (hs0_1 t) g0 g1 g2 g3 (V m c main_arg0) (V m c main_arg1) (iblk m c 0 t)) W _)
  isplitl [H3]; · iexact H3
  isplitl [H8]; · iexact H8
  isplitl [H9]; · iexact H9
  isplitl [H10]; · iexact H10
  isplitl [H11]; · iexact H11
  isplitl [Hf0]; · iexact Hf0
  isplitl [Hh0]; · iexact Hh0
  isplitl [Hf1]; · iexact Hf1
  isplitl [Hh1]; · iexact Hh1
  isplitl [Hf2]; · iexact Hf2
  isplitl [Hh2]; · iexact Hh2
  isplitl [HW]; · iexact HW
  iintro ⟨H3, H8, H9, H10, H11, Hi1, Hi2, Hf, Hh, ⟨%W', HW'⟩⟩
  isplitl [H8 H9 H10 H11 Hg Hh Hrest Hi1 Hi2 Hf]
  · isplitl [H8 H9 H10 H11]
    · isplitl [H8]; · iexact H8
      isplitl [H9]; · iexact H9
      isplitl [H10]; · iexact H10
      iexact H11
    isplitl [Hg]; · iexact Hg
    isplitl [Hh Hrest]
    · isplitl [Hh]; · iexact Hh
      iexact Hrest
    isplitl [Hi1]; · iexact Hi1
    isplitl [Hi2]; · iexact Hi2
    iexact Hf
  isplitl [HW']
  · iexists W'; isplitr; · ipureintro; exact fun _ _ => Or.inl trivial
    iexact HW'
  isplitl [H3]; · iexact H3
  iexists _; isplitr; swap; · iexact H4
  ipureintro
  exact fun h => absurd h (by omega)

set_option maxHeartbeats 4000000 in
theorem sound_B (c : Dev nD) (t : Fin cfg0.N) (h0 : ¬t.val = 0) (h1 : t.val < 126) (h2 : ¬t.val % 16 = 0) :
    bodyPre m c t ⊢ wp frame (wpE (defs₀ (F := F)) Variants.none c none) Set.univ (bodyAt0 t) (fun _ => bodyPost m c t) := by
  have hc0 := hcond0 t; have hc1 := hcond1 t; have hc2 := hcond2 t; have hc3 := hcond3 t
  have g0 : ¬cond0 (grid0.coords t) := fun h => absurd (hc0.mp h) (by omega)
  have g1 : cond1 (grid0.coords t) := hc1.mpr (by omega)
  have g2 : ¬cond2 (grid0.coords t) := fun h => absurd (hc2.mp h) (by omega)
  have g3 : ¬cond3 (grid0.coords t) := fun h => absurd (hc3.mp h) (by omega)
  unfold bodyPre bodyPost bodyAt0
  simp only [before0_0]
  rw [after0_0, Phi_castSucc m c t, Phi_succ m c t]
  unfold Dat.owesAt Pipeline.owesWithin
  rw [show (dats m 0 c).owed t.castSucc = 0 from rfl, show (dats m 0 c).owed t.succ = 0 from rfl]
  unfold PhiK ringAt
  rw [if_neg (Nat.succ_ne_zero t.val), scr_next]
  rw [if_neg h0, scr_pos m c _ h0, labS_prev m c _ h2]
  rw [Ring.At3_here _ _ _ _ t.val (by omega), Ring.At3_next _ _ _ _ t.val (by omega), Ring.slotAt3_next0 _ _ _ t.val (by omega), Ring.slotAt3_next1 _ _ _ t.val (by omega)]
  iintro ⟨⟨⟨H8, H9, H10, H11⟩, Hg, ⟨Hh2, Hrest⟩, ⟨%f, Hi0⟩, Hi1, Hf2⟩, ⟨%W, -, HW⟩, ⟨%d0, H3⟩, ⟨%d1, -, H4⟩⟩
  iapply ((runB c t (ms0_0 t) (hs0_0 t) (ms0_1 t) (hs0_1 t) g0 g1 g2 g3 (V m c main_arg0) (V m c main_arg1) (labS m c t.val) (accS m c t.val) (accT m c t.val) (cntN m c t.val) f) W _)
  isplitl [H8]; · iexact H8
  isplitl [H9]; · iexact H9
  isplitl [H10]; · iexact H10
  isplitl [H11]; · iexact H11
  isplitl [Hi0]; · iexact Hi0
  isplitl [Hf2]; · iexact Hf2
  isplitl [Hh2]; · iexact Hh2
  isplitl [HW]; · iexact HW
  iintro ⟨H8, H9, H10, H11, Hi2, Hf, Hh, ⟨%W', HW'⟩⟩
  isplitl [H8 H9 H10 H11 Hg Hh Hrest Hi1 Hi2 Hf]
  · isplitl [H8 H9 H10 H11]
    · isplitl [H8]; · iexact H8
      isplitl [H9]; · iexact H9
      isplitl [H10]; · iexact H10
      iexact H11
    isplitl [Hg]; · iexact Hg
    isplitl [Hh Hrest]
    · isplitl [Hh]; · iexact Hh
      iexact Hrest
    isplitl [Hi1]; · iexact Hi1
    isplitl [Hi2]; · iexact Hi2
    iexact Hf
  isplitl [HW']
  · iexists W'; isplitr; · ipureintro; exact fun _ _ => Or.inl trivial
    iexact HW'
  isplitl [H3]; · iexact H3
  iexists _; isplitr; swap; · iexact H4
  ipureintro
  exact fun h => absurd h (by omega)

set_option maxHeartbeats 4000000 in
theorem sound_C (c : Dev nD) (t : Fin cfg0.N) (h0 : ¬t.val = 0) (h1 : t.val < 126) (h2 : t.val % 16 = 0) :
    bodyPre m c t ⊢ wp frame (wpE (defs₀ (F := F)) Variants.none c none) Set.univ (bodyAt0 t) (fun _ => bodyPost m c t) := by
  have hc0 := hcond0 t; have hc1 := hcond1 t; have hc2 := hcond2 t; have hc3 := hcond3 t
  have g0 : ¬cond0 (grid0.coords t) := fun h => absurd (hc0.mp h) (by omega)
  have g1 : cond1 (grid0.coords t) := hc1.mpr (by omega)
  have g2 : cond2 (grid0.coords t) := hc2.mpr (by omega)
  have g3 : ¬cond3 (grid0.coords t) := fun h => absurd (hc3.mp h) (by omega)
  unfold bodyPre bodyPost bodyAt0
  simp only [before0_0]
  rw [after0_0, Phi_castSucc m c t, Phi_succ m c t]
  unfold Dat.owesAt Pipeline.owesWithin
  rw [show (dats m 0 c).owed t.castSucc = 0 from rfl, show (dats m 0 c).owed t.succ = 0 from rfl]
  unfold PhiK ringAt
  rw [if_neg (Nat.succ_ne_zero t.val), scr_next]
  rw [if_neg h0, scr_pos m c _ h0, labS_new m c t h2]
  rw [Ring.At3_here _ _ _ _ t.val (by omega), Ring.At3_next _ _ _ _ t.val (by omega), Ring.slotAt3_next0 _ _ _ t.val (by omega), Ring.slotAt3_next1 _ _ _ t.val (by omega)]
  iintro ⟨⟨⟨H8, H9, H10, H11⟩, Hg, ⟨Hh2, Hrest⟩, ⟨%f, Hi0⟩, Hi1, Hf2⟩, ⟨%W, -, HW⟩, ⟨%d0, H3⟩, ⟨%d1, -, H4⟩⟩
  iapply ((runC c t (ms0_0 t) (hs0_0 t) (ms0_1 t) (hs0_1 t) g0 g1 g2 g3 (V m c main_arg0) (V m c main_arg1) (iblk m c 0 t) (accS m c t.val) (accT m c t.val) (cntN m c t.val) f) W _)
  isplitl [H3]; · iexact H3
  isplitl [H8]; · iexists _; iexact H8
  isplitl [H9]; · iexact H9
  isplitl [H10]; · iexact H10
  isplitl [H11]; · iexact H11
  isplitl [Hi0]; · iexact Hi0
  isplitl [Hf2]; · iexact Hf2
  isplitl [Hh2]; · iexact Hh2
  isplitl [HW]; · iexact HW
  iintro ⟨H3, H8, H9, H10, H11, Hi2, Hf, Hh, ⟨%W', HW'⟩⟩
  isplitl [H8 H9 H10 H11 Hg Hh Hrest Hi1 Hi2 Hf]
  · isplitl [H8 H9 H10 H11]
    · isplitl [H8]; · iexact H8
      isplitl [H9]; · iexact H9
      isplitl [H10]; · iexact H10
      iexact H11
    isplitl [Hg]; · iexact Hg
    isplitl [Hh Hrest]
    · isplitl [Hh]; · iexact Hh
      iexact Hrest
    isplitl [Hi1]; · iexact Hi1
    isplitl [Hi2]; · iexact Hi2
    iexact Hf
  isplitl [HW']
  · iexists W'; isplitr; · ipureintro; exact fun _ _ => Or.inl trivial
    iexact HW'
  isplitl [H3]; · iexact H3
  iexists _; isplitr; swap; · iexact H4
  ipureintro
  exact fun h => absurd h (by omega)

set_option maxHeartbeats 4000000 in
theorem sound_D (c : Dev nD) (t : Fin cfg0.N) (h1 : t.val = 126) :
    bodyPre m c t ⊢ wp frame (wpE (defs₀ (F := F)) Variants.none c none) Set.univ (bodyAt0 t) (fun _ => bodyPost m c t) := by
  have hc0 := hcond0 t; have hc1 := hcond1 t; have hc2 := hcond2 t; have hc3 := hcond3 t
  have g0 : ¬cond0 (grid0.coords t) := fun h => absurd (hc0.mp h) (by omega)
  have g1 : ¬cond1 (grid0.coords t) := fun h => absurd (hc1.mp h) (by omega)
  have g2 : ¬cond2 (grid0.coords t) := fun h => absurd (hc2.mp h) (by omega)
  have g3 : ¬cond3 (grid0.coords t) := fun h => absurd (hc3.mp h) (by omega)
  unfold bodyPre bodyPost bodyAt0
  simp only [before0_0]
  rw [after0_0, Phi_castSucc m c t, Phi_succ m c t]
  unfold Dat.owesAt Pipeline.owesWithin
  rw [show (dats m 0 c).owed t.castSucc = 0 from rfl, show (dats m 0 c).owed t.succ = 0 from rfl]
  unfold PhiK ringAt
  rw [if_neg (Nat.succ_ne_zero t.val), scr_next]
  rw [if_neg (show ¬t.val = 0 by omega), scr_pos m c _ (show ¬t.val = 0 by omega), labS_prev m c _ (by omega)]
  rw [Ring.At3_here_tail _ _ _ _ t.val (by omega), Ring.At3_next_tail _ _ _ _ t.val (by omega) (by omega), Ring.slotAt3_tail_role _ _ _ t.val]
  iintro ⟨⟨⟨H8, H9, H10, H11⟩, Hg, Hrest, ⟨%f, Hi0⟩, Hi1, Hf2⟩, ⟨%W, -, HW⟩, ⟨%d0, H3⟩, ⟨%d1, -, H4⟩⟩
  iapply ((runD c t (ms0_0 t) (hs0_0 t) (ms0_1 t) (hs0_1 t) g0 g1 g2 g3 (V m c main_arg0) (V m c main_arg1) (labS m c t.val) (accS m c t.val) (accT m c t.val) (cntN m c t.val) f) W _)
  isplitl [H8]; · iexact H8
  isplitl [H9]; · iexact H9
  isplitl [H10]; · iexact H10
  isplitl [H11]; · iexact H11
  isplitl [Hi0]; · iexact Hi0
  isplitl [HW]; · iexact HW
  iintro ⟨H8, H9, H10, H11, Hf, Hh, ⟨%W', HW'⟩⟩
  isplitl [H8 H9 H10 H11 Hg Hh Hrest Hi1 Hf2 Hf]
  · isplitl [H8 H9 H10 H11]
    · isplitl [H8]; · iexact H8
      isplitl [H9]; · iexact H9
      isplitl [H10]; · iexact H10
      iexact H11
    isplitl [Hg]; · iexact Hg
    isplitl [Hh Hrest]
    · isplitl [Hh]; · iexact Hh
      iexact Hrest
    isplitl [Hi1]; · iexact Hi1
    isplitl [Hf2]; · iexact Hf2
    iexact Hf
  isplitl [HW']
  · iexists W'; isplitr; · ipureintro; exact fun _ _ => Or.inl trivial
    iexact HW'
  isplitl [H3]; · iexact H3
  iexists _; isplitr; swap; · iexact H4
  ipureintro
  exact fun h => absurd h (by omega)

set_option maxHeartbeats 4000000 in
theorem sound_E (c : Dev nD) (t : Fin cfg0.N) (h1 : t.val = 127) :
    bodyPre m c t ⊢ wp frame (wpE (defs₀ (F := F)) Variants.none c none) Set.univ (bodyAt0 t) (fun _ => bodyPost m c t) := by
  have hc0 := hcond0 t; have hc1 := hcond1 t; have hc2 := hcond2 t; have hc3 := hcond3 t
  have g0 : ¬cond0 (grid0.coords t) := fun h => absurd (hc0.mp h) (by omega)
  have g1 : ¬cond1 (grid0.coords t) := fun h => absurd (hc1.mp h) (by omega)
  have g2 : ¬cond2 (grid0.coords t) := fun h => absurd (hc2.mp h) (by omega)
  have g3 : cond3 (grid0.coords t) := hc3.mpr (by omega)
  unfold bodyPre bodyPost bodyAt0
  simp only [before0_0]
  rw [after0_0, Phi_castSucc m c t, Phi_succ m c t]
  unfold Dat.owesAt Pipeline.owesWithin
  rw [show (dats m 0 c).owed t.castSucc = 0 from rfl, show (dats m 0 c).owed t.succ = 0 from rfl]
  unfold PhiK ringAt
  rw [if_neg (Nat.succ_ne_zero t.val), scr_next]
  rw [if_neg (show ¬t.val = 0 by omega), scr_pos m c _ (show ¬t.val = 0 by omega), labS_prev m c _ (by omega)]
  rw [Ring.At3_here_tail _ _ _ _ t.val (by omega), Ring.At3_next_tail _ _ _ _ t.val (by omega) (by omega), Ring.slotAt3_tail_role _ _ _ t.val]
  iintro ⟨⟨⟨H8, H9, H10, H11⟩, Hg, Hrest, ⟨%f, Hi0⟩, Hi1, Hf2⟩, ⟨%W, -, HW⟩, ⟨%d0, H3⟩, ⟨%d1, -, H4⟩⟩
  iapply ((runE c t (ms0_0 t) (hs0_0 t) (ms0_1 t) (hs0_1 t) g0 g1 g2 g3 (V m c main_arg0) (V m c main_arg1) (labS m c t.val) (accS m c t.val) (accT m c t.val) (cntN m c t.val) f) W _)
  isplitl [H8]; · iexact H8
  isplitl [H9]; · iexact H9
  isplitl [H10]; · iexact H10
  isplitl [H11]; · iexact H11
  isplitl [H4]; · iexists _; iexact H4
  isplitl [Hi0]; · iexact Hi0
  isplitl [HW]; · iexact HW
  iintro ⟨H8, H9, H10, H11, H4, Hf, Hh, ⟨%W', HW'⟩⟩
  isplitl [H8 H9 H10 H11 Hg Hh Hrest Hi1 Hf2 Hf]
  · isplitl [H8 H9 H10 H11]
    · isplitl [H8]; · iexact H8
      isplitl [H9]; · iexact H9
      isplitl [H10]; · iexact H10
      iexact H11
    isplitl [Hg]; · iexact Hg
    isplitl [Hh Hrest]
    · isplitl [Hh]; · iexact Hh
      iexact Hrest
    isplitl [Hi1]; · iexact Hi1
    isplitl [Hf2]; · iexact Hf2
    iexact Hf
  isplitl [HW']
  · iexists W'; isplitr; · ipureintro; exact fun _ _ => Or.inl trivial
    iexact HW'
  isplitl [H3]; · iexact H3
  iexists _; isplitr; swap; · iexact H4
  ipureintro
  intro _
  unfold lossK
  have e : t.val + 1 = 128 := by omega
  rw [← e, accS_next, accT_next, cntN_next]

theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  by_cases h0 : t.val = 0
  · exact sound_A m c t h0
  by_cases h1 : t.val < 126
  · by_cases h2 : t.val % 16 = 0
    · exact sound_C m c t h0 h1 h2
    · exact sound_B m c t h0 h1 h2
  by_cases h3 : t.val = 126
  · exact sound_D m c t h3
  · exact sound_E m c t (by omega)

theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) :
    Pipeline.BodyObligationRel (dats (F := F) m 0 c) (defs₀ (F := F)) Variants.none () Set.univ forgets0 (rel0 m c) := fun t => by
  rw [bigSep_W0, bigSep_W0, defs₀_row]
  exact triple_restated (sound_body m c t) rfl .rfl fun _ => .rfl

/-! ## The launch -/

/-- The buffers the body reads by its own copies. -/
abbrev H0 : Finset (Ref sig .tc) := {main_arg0, main_arg1}
theorem H0_sub : H0 ⊆ Pipeline.restRefs sig spec0 := by decide
theorem hbmPts0_eq (c : Dev nD) : (bigSep H0 fun b => ((c : Thread nD τ).loc b) ↦{fullShare} V m c b : sProp 𝕄)
    = iprop(hbPt c hbM1 (V m c main_arg0) ∗ hbPt c hbM2 (V m c main_arg1)) := by
  rw [BI.bigSep_eq_bigSepL_of_eq [main_arg0, main_arg1] (by decide) (by decide)]; rfl

theorem PhiD_eq (c : Dev nD) : (Pipeline.ΦD osem0 spec0 H0 (V m) c : sProp 𝕄)
    = iprop(iprop((∃ d, owns (c : Thread nD τ) scM5 fullShare d) ∗ (∃ d, owns (c : Thread nD τ) scM6 fullShare d) ∗ (∃ d, owns (c : Thread nD τ) scM8 fullShare d)
        ∗ (∃ d, owns (c : Thread nD τ) scM9 fullShare d) ∗ (∃ d, owns (c : Thread nD τ) scM10 fullShare d) ∗ (∃ d, owns (c : Thread nD τ) scM11 fullShare d))
      ∗ (∃ r, prngReg c r) ∗ bigSep Finset.univ (cellF (F := F) c) ∗ iprop(hbPt c hbM1 (V m c main_arg0) ∗ hbPt c hbM2 (V m c main_arg1))) := by
  rw [Pipeline.ΦD_eq, scopedRest0_eq, cells_eq, hbmPts0_eq]; simp only [scM5, scM6, scM8, scM9, scM10, scM11, owns_whole]; try rfl

theorem hin (c : Dev nD) : Pipeline.ΦD osem0 spec0 H0 (V m) c ⊢ (dats m 0 c).Φ 0 := by
  rw [PhiD_eq, show (dats m 0 c).Φ 0 = PhiK m c 0 from rfl]
  unfold PhiK
  rw [scr_zero m c 0 rfl]
  iintro ⟨⟨H5, H6, H8, H9, H10, H11⟩, Hg, Hq, Hh⟩
  isplitl [H8 H9 H10 H11]
  · isplitl [H8]; · iexact H8
    isplitl [H9]; · iexact H9
    isplitl [H10]; · iexact H10
    iexact H11
  isplitl [Hg]; · iexact Hg
  iapply (ring_in (F := F) c (V m c main_arg0) (V m c main_arg1))
  isplitl [H5 H6]
  · isplitl [H5]; · iexact H5
    iexact H6
  isplitl [Hq]; · iexact Hq
  iexact Hh

theorem hout (c : Dev nD) : (dats m 0 c).Φ (Fin.last cfg0.N) ⊢ Pipeline.ΦD osem0 spec0 H0 (V m) c := by
  rw [PhiD_eq, show (dats m 0 c).Φ (Fin.last cfg0.N) = PhiK m c grid0.N from rfl, show grid0.N = 128 from N_0]
  unfold PhiK
  rw [scr_pos m c 128 (by decide)]
  iintro ⟨⟨H8, H9, H10, H11⟩, Hg, HR⟩
  ihave HR' := (ring_out (F := F) c (V m c main_arg0) (V m c main_arg1)) $$ HR
  icases HR' with ⟨⟨H5, H6⟩, Hq, Hh⟩
  isplitl [H5 H6 H8 H9 H10 H11]
  · isplitl [H5]; · iexact H5
    isplitl [H6]; · iexact H6
    isplitl [H8]; · iexists _; iexact H8
    isplitl [H9]; · iexists _; iexact H9
    isplitl [H10]; · iexists _; iexact H10
    iexists _; iexact H11
  isplitl [Hg]; · iexact Hg
  isplitl [Hq]; · iexact Hq
  iexact Hh

/-- The proof data, read relationally: the result window held to `rel0`. -/
abbrev rdats (c : Dev nD) : RDat τ (Elt F) Unit ℕ (Pipeline.UD sig nD τ) ℕ cfg0 c := (dats m 0 c).toRRel forgets0 (rel0 m c)

set_option maxHeartbeats 800000 in
theorem hmainD : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The run of the whole program: what the arrays hold at the end, and every semaphore at zero. -/
theorem run_main_quiescent : θ_run defs (onTc (τ := τ) (main (F := F))) (s₀ m ρ) (fun r => (Pipeline.RDat.FramePost (cfgs 0) (fun c => rdats m c) (V m)) r ∧ r.2.sem = fun _ => 0) :=
  Pipeline.RDat.θ_run_frame_dma (Q' := _) cfgs (0 : Fin 1) launch0 osem0 defs₀ Variants.none (fun c => rdats m c) ownSemFacts0 H0 H0_sub m ρ main
    (hbody := fun c => (body_obligation m c).toRRel) (hshare := fun c => (dats m 0 c).share_full fun _ => rfl)
    (howed := fun _ _ => rfl) (V := V m) (hmain := hmainD m) (hA := A_eq m) (hin := hin m) (hout := hout m)

/-- Every argument array ends as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 0 rfl).trans ((A_eq m c 0).trans (V_main_arg2 m c))⟩, h.2⟩) (run_main_quiescent m ρ)

end Cert.KernelIdeal.Gen

end
-- ==== Proof.Value.Math.lean ====
module

public import Idealize.ShloMosaic.PureOps.Ideal

@[expose] public section

/-! The mathematics of the loss over the extended reals, apart from any program: a mean divided by its length, the scaled
    products of two such vectors, and the loss over classes in the two forms in which the kernel and the reference write it. -/

noncomputable section

namespace Cert.LossMath

open Idealize.ShloMosaic
open scoped BigOperators

/-- `x` and `y` are equal, or both are infinite (the square of each is `⊤`). -/
def Alike (x y : EReal) : Prop := x = y ∨ (x * x = ⊤ ∧ y * y = ⊤)

theorem Alike.refl (x : EReal) : Alike x x := Or.inl rfl

theorem Alike.sq {x y : EReal} (h : Alike x y) : x * x = y * y := by
  rcases h with h | ⟨h1, h2⟩
  · rw [h]
  · rw [h1, h2]

theorem sq_nonneg (x : EReal) : 0 ≤ x * x := by
  induction x with
  | bot => simp
  | top => simp
  | coe r => exact_mod_cast mul_self_nonneg r

theorem alike_of_top {x y : EReal} (hx : x = ⊥ ∨ x = ⊤) (hy : y = ⊥ ∨ y = ⊤) : Alike x y := by
  right
  rcases hx with rfl | rfl <;> rcases hy with rfl | rfl <;> simp

theorem infinite_of_sq {x : EReal} (h : x * x = ⊤) : x = ⊥ ∨ x = ⊤ := by
  induction x with
  | bot => exact Or.inl rfl
  | top => exact Or.inr rfl
  | coe r => exact absurd h (by rw [← EReal.coe_mul]; exact EReal.coe_ne_top _)

theorem div_real (x : EReal) {d : ℝ} (hd : d ≠ 0) : Ideal.div x d = x * ((d⁻¹ : ℝ) : EReal) := by
  unfold Ideal.div
  rw [if_neg (by exact_mod_cast hd), EReal.coe_inv]

/-- Division by a positive real keeps two values alike. -/
theorem Alike.div {x y : EReal} (h : Alike x y) {d : ℝ} (hd : 0 < d) : Alike (Ideal.div x d) (Ideal.div y d) := by
  rcases h with h | ⟨h1, h2⟩
  · exact Or.inl (by rw [h])
  · have hi : (0 : ℝ) < d⁻¹ := inv_pos.mpr hd
    rw [div_real x hd.ne', div_real y hd.ne']
    refine alike_of_top ?_ ?_
    · rcases infinite_of_sq h1 with rfl | rfl
      · exact Or.inl (EReal.bot_mul_coe_of_pos hi)
      · exact Or.inr (EReal.top_mul_coe_of_pos hi)
    · rcases infinite_of_sq h2 with rfl | rfl
      · exact Or.inl (EReal.bot_mul_coe_of_pos hi)
      · exact Or.inr (EReal.top_mul_coe_of_pos hi)

/-- A vector divided by its length, which is kept from below by `e`. -/
def unit (e : EReal) (v : Fin 256 → EReal) (ch : Fin 256) : EReal :=
  Ideal.div (v ch) (max (Ideal.sqrt (∑ c, v c * v c)) e)

theorem sum_sq_top {v : Fin 256 → EReal} {ch : Fin 256} (h : v ch * v ch = ⊤) : ∑ c, v c * v c = ⊤ := by
  have := Finset.single_le_sum (f := fun c => v c * v c) (fun c _ => sq_nonneg (v c)) (Finset.mem_univ ch)
  exact top_le_iff.mp (le_trans (le_of_eq h.symm) this)

theorem div_top (x : EReal) : Ideal.div x ⊤ = 0 := by
  unfold Ideal.div
  rw [if_neg EReal.top_ne_zero, EReal.inv_top, mul_zero]

theorem unit_congr (e : EReal) {v u : Fin 256 → EReal} (h : ∀ ch, Alike (v ch) (u ch)) : unit e v = unit e u := by
  funext ch
  have hs : ∑ c, v c * v c = ∑ c, u c * u c := Finset.sum_congr rfl fun c _ => (h c).sq
  unfold unit
  rcases h ch with h1 | ⟨h1, h2⟩
  · rw [h1, hs]
  · rw [sum_sq_top h1, sum_sq_top h2, Ideal.sqrt_top, max_eq_left le_top, div_top, div_top]

/-- The normalised vector is real, whatever the vector is. -/
theorem unit_real {e : ℝ} (he : 0 < e) (v : Fin 256 → EReal) (ch : Fin 256) : ∃ r : ℝ, unit e v ch = r := by
  unfold unit
  by_cases h : ∑ c, v c * v c = ⊤
  · exact ⟨0, by rw [h, Ideal.sqrt_top, max_eq_left le_top, div_top]; rfl⟩
  · have h0 : 0 ≤ ∑ c, v c * v c := Finset.sum_nonneg fun c _ => sq_nonneg (v c)
    have hv : v ch ≠ ⊤ ∧ v ch ≠ ⊥ :=
      ⟨fun q => h (sum_sq_top (ch := ch) (by rw [q]; simp)), fun q => h (sum_sq_top (ch := ch) (by rw [q]; simp))⟩
    obtain ⟨r, hr⟩ : ∃ r : ℝ, v ch = r := ⟨(v ch).toReal, (EReal.coe_toReal hv.1 hv.2).symm⟩
    obtain ⟨q, hq⟩ : ∃ q : ℝ, ∑ c, v c * v c = q :=
      ⟨_, (EReal.coe_toReal h fun q => by rw [q] at h0; exact absurd h0 (by simp)).symm⟩
    rw [hq] at h0
    have hq0 : ¬ q < 0 := not_lt.mpr (by exact_mod_cast h0)
    have hm : (max ((Real.sqrt q : ℝ) : EReal) (e : EReal)) = ((max (Real.sqrt q) e : ℝ) : EReal) := by
      rcases le_total (Real.sqrt q) e with hl | hl
      · rw [max_eq_right hl, max_eq_right (by exact_mod_cast hl)]
      · rw [max_eq_left hl, max_eq_left (by exact_mod_cast hl)]
    rw [hr, hq, Ideal.sqrt_coe, if_neg hq0, hm, div_real _ (lt_of_lt_of_le he (le_max_right _ _)).ne', ← EReal.coe_mul]
    exact ⟨_, rfl⟩

/-- The number of pixels of a class, or one where there are none. -/
def denom (n : EReal) : EReal := if 0 < n then n else 1

theorem denom_real {n : EReal} (h : ∃ r : ℝ, n = r) : ∃ d : ℝ, 0 < d ∧ denom n = d := by
  obtain ⟨r, rfl⟩ := h
  unfold denom
  split
  · next h => exact ⟨r, by exact_mod_cast h, rfl⟩
  · exact ⟨1, one_pos, rfl⟩

/-- The normalised mean of a class from its sums `v` and its count `n`; zero where the class is absent. -/
def nvec (e n : EReal) (v : Fin 256 → EReal) (ch : Fin 256) : EReal :=
  if 0 < n then unit e (fun c => Ideal.div (v c) (denom n)) ch else 0

theorem nvec_congr (e : EReal) {n : EReal} (hn : ∃ r : ℝ, n = r) {v u : Fin 256 → EReal} (h : ∀ ch, Alike (v ch) (u ch)) :
    nvec e n v = nvec e n u := by
  obtain ⟨d, hd, hnd⟩ := denom_real hn
  funext ch
  unfold nvec
  rw [hnd, unit_congr e fun c => (h c).div hd]

theorem nvec_real {e : ℝ} (he : 0 < e) (n : EReal) (v : Fin 256 → EReal) (ch : Fin 256) : ∃ r : ℝ, nvec e n v ch = r := by
  unfold nvec
  split
  · exact unit_real he _ ch
  · exact ⟨0, rfl⟩

theorem coe_sum {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

theorem sum_real {ι : Type} [Fintype ι] {f : ι → EReal} (h : ∀ i, ∃ r : ℝ, f i = r) : ∃ r : ℝ, ∑ i, f i = r := by
  choose g hg using h
  exact ⟨∑ i, g i, by rw [coe_sum]; exact Finset.sum_congr rfl fun i _ => hg i⟩

/-- One entry of the logits: the product of two normalised means over the temperature `τ`. -/
def logit (e τ n n' : EReal) (v v' : Fin 256 → EReal) : EReal := Ideal.div (∑ ch, nvec e n v ch * nvec e n' v' ch) τ

theorem logit_real {e τ : ℝ} (he : 0 < e) (hτ : τ ≠ 0) (n n' : EReal) (v v' : Fin 256 → EReal) : ∃ r : ℝ, logit e τ n n' v v' = r := by
  obtain ⟨r, hr⟩ := sum_real (f := fun ch => nvec e n v ch * nvec e n' v' ch) fun ch => by
    obtain ⟨a, ha⟩ := nvec_real he n v ch
    obtain ⟨b, hb⟩ := nvec_real he n' v' ch
    exact ⟨a * b, by rw [ha, hb, EReal.coe_mul]⟩
  exact ⟨r * τ⁻¹, by unfold logit; rw [hr, div_real _ hτ, EReal.coe_mul]⟩

/-- The loss as the kernel writes it, over 32 classes of which the last 13 are padding. -/
def padded (e τ : EReal) (n : Fin 32 → EReal) (s u : Fin 32 → Fin 256 → EReal) : EReal :=
  Ideal.div
    (∑ x, if 0 < n x then
        Ideal.log (∑ y : Fin 32, if y.val < 19 then Ideal.exp (logit e τ (n x) (n y) (s x) (u y)) else 0)
          - ∑ y, if x = y then logit e τ (n x) (n y) (s x) (u y) else 0
      else 0)
    (max (∑ x, if 0 < n x then 1 else 0) 1)

/-- The loss as the reference writes it, over the 19 classes. -/
def plain (e τ : EReal) (n : Fin 19 → EReal) (s u : Fin 19 → Fin 256 → EReal) : EReal :=
  Ideal.div
    (∑ x, if 0 < n x then
        - Ideal.log (Ideal.div (Ideal.exp (logit e τ (n x) (n x) (s x) (u x))) (∑ y, Ideal.exp (logit e τ (n x) (n y) (s x) (u y))))
      else 0)
    (max (∑ x, if 0 < n x then 1 else 0) 1)

theorem log_ratio (a : ℝ) {ι : Type} [Fintype ι] [Nonempty ι] (g : ι → ℝ) :
    Ideal.log (∑ y, Ideal.exp (g y : EReal)) - (a : EReal) = - Ideal.log (Ideal.div (Ideal.exp (a : EReal)) (∑ y, Ideal.exp (g y : EReal))) := by
  have hs : ∑ y, Ideal.exp (g y : EReal) = ((∑ y, Real.exp (g y) : ℝ) : EReal) := by
    rw [coe_sum]; rfl
  have hp : 0 < ∑ y, Real.exp (g y) := Finset.sum_pos (fun y _ => Real.exp_pos _) Finset.univ_nonempty
  rw [hs, Ideal.exp_coe, div_real _ hp.ne', ← EReal.coe_mul, Ideal.log_coe, Ideal.log_coe, if_neg (not_le.mpr hp),
    if_neg (not_le.mpr (mul_pos (Real.exp_pos _) (inv_pos.mpr hp))), ← EReal.coe_sub, ← EReal.coe_neg,
    Real.log_mul (Real.exp_pos _).ne' (inv_pos.mpr hp).ne', Real.log_exp, Real.log_inv]
  congr 1
  ring

theorem sum_pad {f : Fin 32 → EReal} (h : ∀ x : Fin 32, 19 ≤ x.val → f x = 0) :
    ∑ x, f x = ∑ x : Fin 19, f (Fin.castLE (by decide) x) := by
  have := Fin.sum_univ_add (a := 19) (b := 13) f
  refine this.trans ?_
  rw [Finset.sum_eq_zero (s := Finset.univ (α := Fin 13)) fun x _ => h _ (by simp), add_zero]
  rfl

/-- The two forms of the loss agree, where the padding classes are empty, the counts agree and the sums are alike. -/
theorem padded_eq_plain {e τ : ℝ} (he : 0 < e) (hτ : τ ≠ 0) (n : Fin 32 → EReal) (s u : Fin 32 → Fin 256 → EReal)
    (n' : Fin 19 → EReal) (s' u' : Fin 19 → Fin 256 → EReal)
    (hpad : ∀ x : Fin 32, 19 ≤ x.val → n x = 0) (hn : ∀ x : Fin 19, n (Fin.castLE (by decide) x) = n' x) (hr : ∀ x, ∃ r : ℝ, n' x = r)
    (hs : ∀ x ch, Alike (s (Fin.castLE (by decide) x) ch) (s' x ch)) (hu : ∀ x ch, Alike (u (Fin.castLE (by decide) x) ch) (u' x ch)) :
    padded e τ n s u = plain e τ n' s' u' := by
  have hl : ∀ x y : Fin 19, logit e τ (n (Fin.castLE (by decide) x)) (n (Fin.castLE (by decide) y)) (s (Fin.castLE (by decide) x)) (u (Fin.castLE (by decide) y))
      = logit e τ (n' x) (n' y) (s' x) (u' y) := fun x y => by
    unfold logit
    rw [hn x, hn y, nvec_congr e (hr x) (hs x), nvec_congr e (hr y) (hu y)]
  unfold padded plain
  congr 1
  · rw [sum_pad fun x hx => by rw [hpad x hx, if_neg (lt_irrefl _)]]
    refine Finset.sum_congr rfl fun x _ => ?_
    rw [hn x]
    split
    · rw [sum_pad fun y hy => if_neg (by omega), Finset.sum_ite_eq, if_pos (Finset.mem_univ _)]
      have h1 : ∀ y : Fin 19, (if (Fin.castLE (by decide : 19 ≤ 32) y).val < 19 then Ideal.exp (logit e τ (n' x) (n (Fin.castLE (by decide) y)) (s (Fin.castLE (by decide) x)) (u (Fin.castLE (by decide) y))) else 0)
          = Ideal.exp (logit e τ (n' x) (n' y) (s' x) (u' y)) := fun y => by
        rw [if_pos (by simp), ← hn x, hl x y, hn x]
      have h2 : logit e τ (n' x) (n (Fin.castLE (by decide) x)) (s (Fin.castLE (by decide) x)) (u (Fin.castLE (by decide) x)) = logit e τ (n' x) (n' x) (s' x) (u' x) := by
        conv_lhs => rw [← hn x]
        exact hl x x
      rw [Finset.sum_congr rfl fun y _ => h1 y, h2]
      choose g hg using fun y => logit_real he hτ (n' x) (n' y) (s' x) (u' y)
      simp only [hg]
      exact log_ratio (g x) g
    · rfl
  · rw [sum_pad fun x hx => by rw [hpad x hx, if_neg (lt_irrefl _)]]
    simp only [hn]

/-! ## One class's sums -/

/-- The part of `x` that its bfloat16 part leaves: zero for a real, `⊥` for an infinity. -/
theorem sub_self_real {x : EReal} (h : x ≠ ⊥ ∧ x ≠ ⊤) : x - x = 0 := by
  induction x with
  | bot => exact absurd rfl h.1
  | top => exact absurd rfl h.2
  | coe r => rw [← EReal.coe_sub, sub_self]; rfl

theorem sub_self_infinite {x : EReal} (h : x = ⊥ ∨ x = ⊤) : x - x = ⊥ := by
  rcases h with rfl | rfl
  · exact EReal.bot_sub _
  · exact EReal.sub_top _

theorem sum_bot {ι : Type} {S : Finset ι} {f : ι → EReal} {i : ι} (hi : i ∈ S) (h : f i = ⊥) : ∑ j ∈ S, f j = ⊥ := by
  classical
  rw [← Finset.add_sum_erase S f hi, h, EReal.bot_add]

theorem sum_infinite {ι : Type} {S : Finset ι} {f : ι → EReal} {i : ι} (hi : i ∈ S) (h : f i = ⊥ ∨ f i = ⊤) :
    ∑ j ∈ S, f j = ⊥ ∨ ∑ j ∈ S, f j = ⊤ := by
  classical
  rcases h with h | h
  · exact Or.inl (sum_bot hi h)
  · rw [← Finset.add_sum_erase S f hi, h]
    by_cases hb : ∑ j ∈ S.erase i, f j = ⊥
    · rw [hb]; exact Or.inl (EReal.add_bot _)
    · exact Or.inr (EReal.top_add_of_ne_bot hb)

/-- A class's sum with each feature in two parts is alike the plain sum. -/
theorem split_alike {ι : Type} (S : Finset ι) (x : ι → EReal) : Alike (∑ i ∈ S, (x i + (x i - x i))) (∑ i ∈ S, x i) := by
  by_cases h : ∃ i ∈ S, x i = ⊥ ∨ x i = ⊤
  · obtain ⟨i, hi, hx⟩ := h
    exact alike_of_top (Or.inl (sum_bot hi (by rw [sub_self_infinite hx, EReal.add_bot]))) (sum_infinite hi hx)
  · left
    refine Finset.sum_congr rfl fun i hi => ?_
    rw [sub_self_real ⟨fun q => h ⟨i, hi, Or.inl q⟩, fun q => h ⟨i, hi, Or.inr q⟩⟩, add_zero]

end Cert.LossMath

end
-- ==== Proof.Value.KerRead.lean ====
module

public import proofs.«01_k».proof.Proof.KernelIdeal.Launch
public import proofs.«01_k».proof.Proof.Value.Math
public import Idealize.ShloMosaic.Lib.Pointwise
public import Idealize.ShloMosaic.Lib.Tactic.CleanTypes

@[expose] public section

set_option maxRecDepth 16384

/-! What the kernel's point computes, read at an index. -/

noncomputable section

namespace Cert.KernelIdeal.Gen

open Idealize.ShloMosaic Idealize.ShloMosaic.TcCoe
open scoped BigOperators

theorem hit_eq (p : Prop) [Decidable p] : @Eq EReal (FloatOps.sitofp (F := Ideal) FTy.f32 (BitVec.setWidth 32 (BitVec.ofBool (decide p)))) (if p then 1 else 0) := by
  show ((((BitVec.ofBool (decide p)).setWidth 32).toInt : ℝ) : EReal) = _
  by_cases h : p <;> simp [h]

theorem class_eq (k : Fin 32) : @Eq EReal (FloatOps.sitofp (F := Ideal) FTy.f32 (BitVec.ofNat 32 k.val)) ((k.val : ℝ) : EReal) := by
  show (((BitVec.ofNat 32 k.val).toInt : ℝ) : EReal) = _
  rw [BitVec.toInt_eq_toNat_of_lt (by rw [BitVec.toNat_ofNat]; omega), BitVec.toNat_ofNat, Nat.mod_eq_of_lt (by omega), Int.cast_natCast]

/-- One where a label is class `k`, else zero. -/
def hit (l : EReal) (k : Fin 32) : EReal := if l = ((k.val : ℝ) : EReal) then 1 else 0

/-- A point adds to a class's count, in each column, the rows whose label there is the class. -/
theorem stepN_apply (L : Fin 8 → Vec Ideal S1x128 .f32) (a : Vec Ideal S32x128 .f32) (k : Fin 32) (w : Fin 128) :
    @Eq EReal (stepN L a (ix2 k w)) (a (ix2 k w) + ∑ r : Fin 8, hit (L r (ix2 0 w)) k) := by
  unfold stepN
  unfold_payloads
  pointwise [Fin.sum_univ_eight]
  simp only [hit_eq, class_eq, hit]

/-- A point adds to a class's sum the features of the pixels whose label is the class, each in two parts. -/
theorem stepS_apply (A : Fin 8 → Vec Ideal S1x1x256x128 .f32) (L : Fin 8 → Vec Ideal S1x128 .f32) (a : Vec Ideal S256x32 .f32) (ch : Fin 256) (k : Fin 32) :
    @Eq EReal (stepS A L a (ix2 ch k)) (a (ix2 ch k) + ∑ r : Fin 8, (∑ x, A r (ix4 0 0 ch x) * hit (L r (ix2 0 x)) k
      + ∑ x, (A r (ix4 0 0 ch x) - A r (ix4 0 0 ch x)) * hit (L r (ix2 0 x)) k)) := by
  unfold stepS
  unfold_payloads
  pointwise [Fin.sum_univ_eight]
  simp only [hit_eq, class_eq, hit]

theorem stepT_apply (A : Fin 8 → Vec Ideal S1x1x256x128 .f32) (L : Fin 8 → Vec Ideal S1x128 .f32) (a : Vec Ideal S256x32 .f32) (ch : Fin 256) (k : Fin 32) :
    @Eq EReal (stepT A L a (ix2 ch k)) (a (ix2 ch k) + ∑ r : Fin 8, (∑ x, A r (ix4 0 0 ch x) * hit (L r (ix2 0 x)) k
      + ∑ x, (A r (ix4 0 0 ch x) - A r (ix4 0 0 ch x)) * hit (L r (ix2 0 x)) k)) := by
  unfold stepT
  unfold_payloads
  pointwise [Fin.sum_univ_eight]
  simp only [hit_eq, class_eq, hit]

theorem zeroS (j : S256x32.Idx) : @Eq EReal ((k0_pay4 (F := Ideal) : Vec Ideal S256x32 .f32) j) 0 := by
  unfold_payloads
  pointwise
theorem zeroT (j : S256x32.Idx) : @Eq EReal ((k0_pay5 (F := Ideal) : Vec Ideal S256x32 .f32) j) 0 := by
  unfold_payloads
  pointwise
theorem zeroN (j : S32x128.Idx) : @Eq EReal ((k0_pay6 (F := Ideal) : Vec Ideal S32x128 .f32) j) 0 := by
  unfold_payloads
  pointwise

theorem sel_eq : ∀ (n : Fin 512) (i : Fin 128),
    IntOp.cmpi CmpIPredicate.eq (BitVec.ofNat 32 n.val) (IntOp.muli (4#32) (BitVec.ofNat 32 i.val)) = BitVec.ofBool (decide (n = ⟨4 * i.val, by omega⟩)) := by
  intro n i
  have : IntOp.muli (4#32) (BitVec.ofNat 32 i.val) = BitVec.ofNat 32 (4 * i.val) := (BitVec.ofNat_mul 4 i.val).symm
  rw [this]
  show BitVec.ofBool (BitVec.ofNat 32 n.val == BitVec.ofNat 32 (4 * i.val)) = _
  congr 1
  rw [beq_eq_decide]
  apply decide_eq_decide.mpr
  constructor
  · intro h
    have := congrArg BitVec.toNat h
    rw [BitVec.toNat_ofNat, BitVec.toNat_ofNat] at this
    exact Fin.ext (by show n.val = 4 * i.val; omega)
  · intro h; rw [h]

/-- The labels the kernel keeps are one in four each way of the image. -/
theorem lab_apply (l : Vec Ideal S1x512x512 .i32) (i j : Fin 128) :
    @Eq EReal (k0_pay10 (F := Ideal) l (ix2 i j)) ((((l (ix3 0 ⟨4 * i.val, by omega⟩ ⟨4 * j.val, by omega⟩) : BitVec 32).toInt : ℝ)) : EReal) := by
  unfold_payloads
  pointwise
  simp only [sel_eq, hit_eq, mul_ite, ite_mul, mul_one, mul_zero, one_mul, zero_mul, Finset.sum_ite_eq', Finset.mem_univ, if_true]
  rfl

/-- Row `r` of a point's group, of the first features: image row `8 (t mod 16) + r` of image `t / 16`. -/
theorem row_read1 (c : Dev nD) (t : Fin cfg0.N) (W : S8x256x128x128.Idx → EReal) (r : Fin 8) (ch : Fin 256) (x : Fin 128)
    (h1 : t.val / 16 < 8) (h2 : t.val % 16 * 8 + r.val < 128) :
    @Eq EReal (rowA (F := Ideal) c hbM1 t W r (ix4 0 0 ch x)) (W (ix4 ⟨t.val / 16, h1⟩ ch ⟨t.val % 16 * 8 + r.val, h2⟩ x)) := by
  have ht : t.val < 128 := lt_of_lt_of_eq t.isLt N_0
  unfold rowA
  have e1 : (Shape.reshapeEquiv (Shape.Squeezes.numel_eq squeezes_S1x1x256x128_S256x128)).symm (ix4 0 0 ch x) = ix2 ch x :=
    (Equiv.symm_apply_eq _).mpr (Shape.reshapeEquiv_eq_of_rowMajor _ (by
      rw [Shape.rowMajor_val_four, Shape.rowMajor_val_two]
      show ((0 * 1 + 0) * 256 + ch.val) * 128 + x.val = ch.val * 128 + x.val
      omega)).symm
  have e2 : Shape.reshapeEquiv (Shape.Squeezes.numel_eq squeezes_S1x256x1x128_S256x128) (ix2 ch x) = ix4 0 ch 0 x :=
    Shape.reshapeEquiv_eq_of_rowMajor _ (by
      rw [Shape.rowMajor_val_four, Shape.rowMajor_val_two]
      show ((0 * 256 + ch.val) * 1 + 0) * 128 + x.val = ch.val * 128 + x.val
      omega)
  have hb : (Ring.bk 128 t.val).val = t.val := Nat.mod_eq_of_lt ht
  rw [e1]
  show W ((Rect.unit (s := S8x256x128x128) ![(Ring.bk 128 t.val).val / 16, 0, (Ring.bk 128 t.val).val % 16 * 8 + r.val, 0] S1x256x1x128.size (inb_src (Ring.bk 128 t.val) r)).emb (Shape.reshapeEquiv (Shape.Squeezes.numel_eq squeezes_S1x256x1x128_S256x128) (ix2 ch x))) = _
  rw [e2]
  refine congrArg W (funext fun a => Fin.ext ?_)
  fin_cases a
  · show (Ring.bk 128 t.val).val / 16 + 1 * 0 = t.val / 16
    rw [hb]; rfl
  · show 0 + 1 * ch.val = ch.val
    omega
  · show (Ring.bk 128 t.val).val % 16 * 8 + r.val + 1 * 0 = t.val % 16 * 8 + r.val
    rw [hb]; rfl
  · show 0 + 1 * x.val = x.val
    omega

theorem row_read2 (c : Dev nD) (t : Fin cfg0.N) (W : S8x256x128x128.Idx → EReal) (r : Fin 8) (ch : Fin 256) (x : Fin 128)
    (h1 : t.val / 16 < 8) (h2 : t.val % 16 * 8 + r.val < 128) :
    @Eq EReal (rowA (F := Ideal) c hbM2 t W r (ix4 0 0 ch x)) (W (ix4 ⟨t.val / 16, h1⟩ ch ⟨t.val % 16 * 8 + r.val, h2⟩ x)) :=
  row_read1 c t W r ch x h1 h2

/-- Where the eight label rows of a point start. -/
theorem lab_off (t : Fin cfg0.N) : ∀ r : Fin 8, k0_off31 (grid0.coords t) (BitVec.ofNat 32 r.val) = ![t.val % 16 * 8 + r.val, 0]
  | ⟨0, _⟩ => clab0 t | ⟨1, _⟩ => clab1 t | ⟨2, _⟩ => clab2 t | ⟨3, _⟩ => clab3 t
  | ⟨4, _⟩ => clab4 t | ⟨5, _⟩ => clab5 t | ⟨6, _⟩ => clab6 t | ⟨7, _⟩ => clab7 t

theorem rowL_read (t : Fin cfg0.N) (l : Vec Ideal S128x128 .f32) (r : Fin 8) (w : Fin 128) (h2 : t.val % 16 * 8 + r.val < 128) :
    @Eq EReal (rowL t l r (ix2 0 w)) (l (ix2 ⟨t.val % 16 * 8 + r.val, h2⟩ w)) := by
  unfold rowL
  refine congrArg l (funext fun a => Fin.ext ?_)
  fin_cases a
  · show k0_off31 (grid0.coords t) (BitVec.ofNat 32 r.val) 0 + 1 * 0 = t.val % 16 * 8 + r.val
    rw [lab_off]; rfl
  · show k0_off31 (grid0.coords t) (BitVec.ofNat 32 r.val) 1 + 1 * w.val = w.val
    rw [lab_off]
    show 0 + 1 * w.val = w.val
    omega

variable (m : (ℓ : Loc nD τ sig) → Buf (Elt Ideal) ℓ)

/-- The block of labels a point works on is image `t / 16`. -/
theorem lab_block : ∀ t : Fin grid0.N, cc0_transform_2 (grid0.coords t) = ![t.val / 16, 0, 0] := by decide +kernel

theorem iblk_read (c : Dev nD) (t : Fin cfg0.N) (i j : Fin 512) (h1 : t.val / 16 < 8) :
    @Eq (BitVec 32) (iblk m c 0 t (ix3 0 i j)) ((V m c main_arg2 : S8x512x512.Idx → BitVec 32) (ix3 ⟨t.val / 16, h1⟩ i j)) := by
  unfold iblk
  refine congrArg (V m c main_arg2 : S8x512x512.Idx → BitVec 32) (funext fun a => Fin.ext ?_)
  fin_cases a
  · show cc0_transform_2 (grid0.coords t) 0 * 1 + 1 * 0 = t.val / 16
    rw [lab_block]
    show t.val / 16 * 1 + 1 * 0 = t.val / 16
    omega
  · show cc0_transform_2 (grid0.coords t) 1 * 512 + 1 * i.val = i.val
    rw [lab_block]
    show 0 * 512 + 1 * i.val = i.val
    omega
  · show cc0_transform_2 (grid0.coords t) 2 * 512 + 1 * j.val = j.val
    rw [lab_block]
    show 0 * 512 + 1 * j.val = j.val
    omega

end Cert.KernelIdeal.Gen

end
-- ==== Proof.Value.RefRead.lean ====
module

public import proofs.«01_k».proof.Proof.Gen.ReferenceIdeal.Run
public import proofs.«01_k».proof.Proof.Value.Math
public import Idealize.ShloMosaic.Lib.Pointwise
public import Idealize.ShloMosaic.Lib.Tactic.CleanTypes
public import Idealize.ShloMosaic.Lib.Tactic.WordOmega
public import Idealize.ShloMosaic.Lib.Routing.OpsPair

@[expose] public section

set_option maxRecDepth 16384

/-! What the reference computes, read at an index: the label of a pixel, the pixels of a class counted and their features
    summed, and the loss of these. -/

noncomputable section

namespace Cert.ReferenceIdeal

open Cert.ReferenceIdeal.Value
open Idealize.ShloMosaic Idealize.ShloMosaic.TcCoe
open scoped BigOperators

/-- The label image, and the two feature arrays. -/
abbrev Labels := (⟨3, ![8, 512, 512]⟩ : Shape).Idx → BitVec 32
abbrev Features := (⟨4, ![8, 256, 128, 128]⟩ : Shape).Idx → EReal

/-- The label of pixel `p`, counted through the batch row by row: one label in four each way. -/
def labAt (L : Labels) (p : Fin 131072) : BitVec 32 :=
  L (ix3 ⟨p.val / 16384, by omega⟩ ⟨4 * (p.val / 128 % 128), by omega⟩ ⟨4 * (p.val % 128), by omega⟩)
/-- Channel `ch` of pixel `p`. -/
def featAt (X : Features) (ch : Fin 256) (p : Fin 131072) : EReal :=
  X (ix4 ⟨p.val / 16384, by omega⟩ ch ⟨p.val / 128 % 128, by omega⟩ ⟨p.val % 128, by omega⟩)
/-- The pixels of class `k`. -/
def pixels (L : Labels) (k : ℕ) : Finset (Fin 131072) := Finset.univ.filter fun p => (labAt L p).toNat = k

theorem v8_apply (V0 : Valuation τ sig (Elt Ideal)) (i : Fin 128) :
    @Eq (BitVec 32) ((res_main_v8 (F := Ideal) V0 : S128x1.Idx → BitVec 32) (ix2 i 0)) (BitVec.ofNat 32 (4 * i.val)) := by
  unfold res_main_v8 res_main_call0_v2 res_main_v2 res_main_call0_v0
  clean_types
  pointwise
  revert i
  decide +kernel

theorem v9_apply (V0 : Valuation τ sig (Elt Ideal)) (i : Fin 128) :
    @Eq (BitVec 32) ((res_main_v9 (F := Ideal) V0 : S1x128.Idx → BitVec 32) (ix2 0 i)) (BitVec.ofNat 32 (4 * i.val)) := by
  unfold res_main_v9 res_main_call1_v2 res_main_v6 res_main_call1_v0
  clean_types
  pointwise
  revert i
  decide +kernel

/-- The gather of the label image, read at an index. -/
theorem gather_lab (L : Labels) (idx : IVec S128x128x2 32) (b : Fin 8) (i j : Fin 128)
    (h0 : idx (ix3 i j 0) = BitVec.ofNat 32 (4 * i.val)) (h1 : idx (ix3 i j 1) = BitVec.ofNat 32 (4 * j.val)) :
    Host.gather gather_S8x512x512_S128x128x2_S8x128x128_0_12_n_n_12_2_811 L idx (ix3 b i j)
      = L (ix3 b ⟨4 * i.val, by omega⟩ ⟨4 * j.val, by omega⟩) := by
  have e : ∀ n : ℕ, n < 128 → (BitVec.ofNat 32 (4 * n)).toInt.toNat = 4 * n := fun n hn => by
    rw [BitVec.toInt_eq_toNat_of_lt (by rw [BitVec.toNat_ofNat]; omega), BitVec.toNat_ofNat]; omega
  unfold Host.gather
  congr 1
  funext a
  refine Fin.ext ?_
  show GatherDims.start _ (ix3 b i j) idx a + GatherDims.batchCoord _ (ix3 b i j) a + GatherDims.offCoord _ (ix3 b i j) a = _
  have hs : ∀ c : Fin 2, GatherDims.siIdx gather_S8x512x512_S128x128x2_S8x128x128_0_12_n_n_12_2_811 (ix3 b i j) c = ix3 i j c := fun c => by
    funext x; refine Fin.ext ?_
    match x with
    | ⟨0, _⟩ => rfl
    | ⟨1, _⟩ => rfl
    | ⟨2, _⟩ => rfl
  match a with
  | ⟨0, _⟩ => exact Nat.zero_add b.val
  | ⟨1, _⟩ =>
    have : min (idx (GatherDims.siIdx gather_S8x512x512_S128x128x2_S8x128x128_0_12_n_n_12_2_811 (ix3 b i j) (0 : Fin 2))).toInt.toNat 511 = 4 * i.val := by
      rw [hs 0, h0, e _ i.isLt]; omega
    exact this
  | ⟨2, _⟩ =>
    have : min (idx (GatherDims.siIdx gather_S8x512x512_S128x128x2_S8x128x128_0_12_n_n_12_2_811 (ix3 b i j) (1 : Fin 2))).toInt.toNat 511 = 4 * j.val := by
      rw [hs 1, h1, e _ j.isLt]; omega
    exact this

theorem wrap_small (n : ℕ) (hn : n < 128) (a : BitVec 32) :
    Scalar.select (IntOp.cmpi .slt (BitVec.ofNat 32 (4 * n)) 0#32) a (BitVec.ofNat 32 (4 * n)) = BitVec.ofNat 32 (4 * n) :=
  Routing.wrap_of_lt _ _ (by rw [BitVec.toNat_ofNat]; omega)

theorem v26_apply (V0 : Valuation τ sig (Elt Ideal)) (p : Fin 131072) :
    @Eq (BitVec 32) ((res_main_v26 (F := Ideal) V0 : S131072.Idx → BitVec 32) (ix1 p)) (labAt (V0 (Proc.devRef .tc main_arg2)) p) := by
  unfold res_main_v26
  clean_types
  pointwise
  refine gather_lab _ _ _ _ _ ?_ ?_
  · pointwise
    rw [v8_apply, wrap_small _ (by omega)]
  · pointwise
    rw [v9_apply, wrap_small _ (by omega)]

/-! ## Where the updates land -/

/-- Update `p` of the count lands at the class that its index word names. -/
theorem lands_count (idx : IVec S131072x1 32) (p : Fin 131072) (k : Fin 19) :
    scatter_S19_S131072x1_S131072_n_0_0_1.resultIdx? (ix1 p) idx = some (ix1 k) ↔ (idx (ix2 p 0)).toInt = k.val := by
  have hs : ScatterDims.siIdx scatter_S19_S131072x1_S131072_n_0_0_1 (ix1 p) (0 : Fin 1) = ix2 p 0 := by
    funext x; refine Fin.ext ?_
    match x with
    | ⟨0, _⟩ => rfl
    | ⟨1, _⟩ => rfl
  rw [Routing.resultIdx?_eq_some]
  have h0 : ScatterDims.start scatter_S19_S131072x1_S131072_n_0_0_1 (ix1 p) idx 0 + (ScatterDims.window scatter_S19_S131072x1_S131072_n_0_0_1 (ix1 p) 0 : Int)
      = (idx (ix2 p 0)).toInt := by
    rw [← hs]; exact Int.add_zero _
  constructor
  · intro h; exact h0.symm.trans (h 0)
  · intro h a
    match a with
    | ⟨0, _⟩ => exact h0.trans h

/-- Update `(p, c)` of the class sums lands in row `k` and column `ch` when its index word names `k` and `c` is `ch`. -/
theorem lands_sum (idx : IVec S131072x1 32) (p : Fin 131072) (c : Fin 256) (k : Fin 19) (ch : Fin 256) :
    scatter_S19x256_S131072x1_S131072x256_1_0_0_1.resultIdx? (ix2 p c) idx = some (ix2 k ch) ↔ (idx (ix2 p 0)).toInt = k.val ∧ c = ch := by
  have hs : ScatterDims.siIdx scatter_S19x256_S131072x1_S131072x256_1_0_0_1 (ix2 p c) (0 : Fin 1) = ix2 p 0 := by
    funext x; refine Fin.ext ?_
    match x with
    | ⟨0, _⟩ => rfl
    | ⟨1, _⟩ => rfl
  rw [Routing.resultIdx?_eq_some]
  have h0 : ScatterDims.start scatter_S19x256_S131072x1_S131072x256_1_0_0_1 (ix2 p c) idx 0 + (ScatterDims.window scatter_S19x256_S131072x1_S131072x256_1_0_0_1 (ix2 p c) 0 : Int)
      = (idx (ix2 p 0)).toInt := by
    rw [← hs]; exact Int.add_zero _
  have h1 : ScatterDims.start scatter_S19x256_S131072x1_S131072x256_1_0_0_1 (ix2 p c) idx 1 + (ScatterDims.window scatter_S19x256_S131072x1_S131072x256_1_0_0_1 (ix2 p c) 1 : Int)
      = (c.val : Int) := Int.zero_add _
  constructor
  · intro h
    exact ⟨h0.symm.trans (h 0), Fin.ext (by exact_mod_cast h1.symm.trans (h 1))⟩
  · intro h a
    match a with
    | ⟨0, _⟩ => exact h0.trans h.1
    | ⟨1, _⟩ => exact h1.trans (by rw [h.2]; rfl)

/-! ## The class counts -/

theorem fold_count {α : Type} (P : α → Prop) [DecidablePred P] (l : List α) (c : ℕ) :
    l.foldl (fun (a : BitVec 32) n => if P n then IntOp.addi a 1#32 else a) (BitVec.ofNat 32 c) = BitVec.ofNat 32 (c + l.countP P) := by
  induction l generalizing c with
  | nil => simp
  | cons x l ih =>
    rw [List.foldl_cons, List.countP_cons]
    by_cases h : P x
    · rw [if_pos h, show IntOp.addi (BitVec.ofNat 32 c) 1#32 = BitVec.ofNat 32 (c + 1) from (BitVec.ofNat_add c 1).symm, ih]
      simp only [h, decide_true, if_true]
      congr 1; omega
    · rw [if_neg h, ih]
      simp [h]

theorem count_range {n : ℕ} (P : Fin n → Prop) [DecidablePred P] : (List.finRange n).countP P = (Finset.univ.filter P).card := by
  rw [List.countP_eq_length_filter, Finset.card_def, Finset.filter_val]
  rfl

/-- Ones scattered over a zero count the updates that land there. -/
theorem scatter_ones {s si u : Shape} {w : Nat} (d : ScatterDims s si u) (x : IVec s 32) (idx : IVec si w) (upd : IVec u 32) (ι : s.Idx)
    (hx : x ι = 0#32) (hu : ∀ j, upd j = 1#32) :
    Host.scatter d IntOp.addi x idx upd ι = BitVec.ofNat 32 (Finset.univ.filter fun j : u.Idx => d.resultIdx? j idx = some ι).card := by
  rw [Routing.scatter_at, hx]
  simp only [hu]
  refine (fold_count (fun n => d.resultIdx? (u.rowMajor.symm n) idx = some ι) (List.finRange u.numel) 0).trans ?_
  rw [count_range, Nat.zero_add, Finset.card_filter, Finset.card_filter,
    Equiv.sum_comp u.rowMajor.symm (fun j => if d.resultIdx? j idx = some ι then 1 else 0)]

/-- A label in range, read through the reference's clip below and its wrap of a negative index, is itself. -/
theorem clip_label (w : BitVec 32) (h : w.toNat < 19) (z : BitVec 32) (hz : z = 0#32) :
    Scalar.select (IntOp.cmpi .slt (IntOp.maxsi z w) 0#32) (IntOp.addi (IntOp.maxsi z w) 19#32) (IntOp.maxsi z w) = w := by
  subst hz
  obtain ⟨n, hn, rfl⟩ : ∃ n, n < 19 ∧ w = BitVec.ofNat 32 n := ⟨w.toNat, h, (by simp)⟩
  clear h
  revert n
  decide

theorem label_toInt (w : BitVec 32) (h : w.toNat < 19) (k : ℕ) : w.toInt = (k : Int) ↔ w.toNat = k := by
  rw [BitVec.toInt_eq_toNat_of_lt (by omega)]
  exact Nat.cast_inj

/-- Ones scattered over zeros at the labels count each class's pixels. -/
theorem scatter_count (L : Labels) (hL : ∀ j, (L j).toNat < 19) (idx : IVec S131072x1 32) (hi : ∀ p, idx (ix2 p 0) = labAt L p) (k : Fin 19)
    (x : IVec S19 32) (hx : x (ix1 k) = 0#32) (u : IVec S131072 32) (hu : ∀ j, u j = 1#32) :
    Host.scatter scatter_S19_S131072x1_S131072_n_0_0_1 IntOp.addi x idx u (ix1 k) = BitVec.ofNat 32 (pixels L k.val).card := by
  have hP : ∀ p : Fin 131072, scatter_S19_S131072x1_S131072_n_0_0_1.resultIdx? (ix1 p) idx = some (ix1 k) ↔ (labAt L p).toNat = k.val := fun p =>
    (lands_count idx p k).trans (by rw [hi]; exact label_toInt _ (hL _) k.val)
  refine (scatter_ones _ x idx u _ hx hu).trans (congrArg (BitVec.ofNat 32) ?_)
  unfold pixels
  rw [Finset.card_filter, Finset.card_filter]
  refine (sum_idx1 _).trans (Finset.sum_congr rfl fun p _ => if_congr (hP p) rfl rfl)

/-- The reference's count of class `k` is the number of its pixels. -/
theorem v41_apply (V0 : Valuation τ sig (Elt Ideal)) (hL : ∀ j, ((V0 (Proc.devRef .tc main_arg2) : Labels) j).toNat < 19) (k : Fin 19) :
    @Eq EReal ((res_main_v41 (F := Ideal) V0 : S19.Idx → EReal) (ix1 k)) (((pixels (V0 (Proc.devRef .tc main_arg2)) k.val).card : ℝ) : EReal) := by
  unfold res_main_v41
  clean_types
  pointwise
  have hw : ∀ p : Fin 131072, (broadcastInDim S131072x1 ![0] Gen.bcast_S131072_S131072x1_0 (select (cmpi .slt (res_main_v32 (F := Ideal) V0) (broadcastInDim S131072 ![] Gen.bcast_S_S131072 (constantI S_ 32 0#32))) (addi (res_main_v32 (F := Ideal) V0) (broadcastInDim S131072 ![] Gen.bcast_S_S131072 (constantI S_ 32 19#32))) (res_main_v32 (F := Ideal) V0)) : IVec S131072x1 32) (ix2 p 0)
      = labAt (V0 (Proc.devRef .tc main_arg2)) p := fun p => by
    unfold res_main_v32
    clean_types
    pointwise
    rw [v26_apply]
    exact clip_label _ (hL _) _ rfl
  refine (congrArg (FloatOps.sitofp (F := Ideal) .f32) (scatter_count (V0 (Proc.devRef .tc main_arg2)) hL _ hw k _ rfl _ (fun _ => rfl))).trans ?_
  have hc : (pixels (V0 (Proc.devRef .tc main_arg2)) k.val).card ≤ 131072 := (Finset.card_filter_le _ _).trans (by simp)
  show (((BitVec.ofNat 32 (pixels (V0 (Proc.devRef .tc main_arg2)) k.val).card).toInt : ℝ) : EReal) = _
  rw [BitVec.toInt_eq_toNat_of_lt (by rw [BitVec.toNat_ofNat]; omega), BitVec.toNat_ofNat, Nat.mod_eq_of_lt (by omega)]
  rw [Int.cast_natCast]

/-- The features scattered over zeros at the labels are each class's sums. -/
theorem scatter_sum (L : Labels) (hL : ∀ j, (L j).toNat < 19) (X : Features) (idx : IVec S131072x1 32) (hi : ∀ p, idx (ix2 p 0) = labAt L p) (k : Fin 19) (ch : Fin 256)
    (x : S19x256.Idx → EReal) (hx : x (ix2 k ch) = 0) (u : S131072x256.Idx → EReal) (hu : ∀ p c, u (ix2 p c) = featAt X c p) :
    Ideal.hostScatterAdd scatter_S19x256_S131072x1_S131072x256_1_0_0_1 x idx u (ix2 k ch) = ∑ p ∈ pixels L k.val, featAt X ch p := by
  have hP : ∀ (p : Fin 131072) (c : Fin 256), scatter_S19x256_S131072x1_S131072x256_1_0_0_1.resultIdx? (ix2 p c) idx = some (ix2 k ch)
      ↔ ((labAt L p).toNat = k.val ∧ c = ch) := fun p c =>
    (lands_sum idx p c k ch).trans (and_congr_left' (by rw [hi]; exact label_toInt _ (hL _) k.val))
  unfold Ideal.hostScatterAdd
  rw [hx, zero_add]
  refine (Finset.sum_filter _ _).trans ((sum_idx2 _).trans ?_)
  unfold pixels
  refine Eq.trans ?_ (Finset.sum_filter _ _).symm
  refine Finset.sum_congr rfl fun p _ => ?_
  refine (Finset.sum_congr rfl fun c _ => if_congr (hP p c) (hu p c) rfl).trans ?_
  by_cases h : (labAt L p).toNat = k.val
  · simp only [h, true_and, if_true, Finset.sum_ite_eq', Finset.mem_univ]
  · simp only [h, false_and, if_false, Finset.sum_const_zero]

theorem v53_apply (V0 : Valuation τ sig (Elt Ideal)) (hL : ∀ j, ((V0 (Proc.devRef .tc main_arg2) : Labels) j).toNat < 19) (k : Fin 19) (ch : Fin 256) :
    @Eq EReal ((res_main_v53 (F := Ideal) V0 : S19x256.Idx → EReal) (ix2 k ch))
      (Ideal.div (∑ p ∈ pixels (V0 (Proc.devRef .tc main_arg2)) k.val, featAt (V0 (Proc.devRef .tc main_arg0)) ch p)
        (LossMath.denom (((pixels (V0 (Proc.devRef .tc main_arg2)) k.val).card : ℝ) : EReal))) := by
  unfold res_main_v53 res_main_v50 res_main_v43
  clean_types
  pointwise
  rw [v41_apply V0 hL]
  have hw : ∀ p : Fin 131072, (broadcastInDim S131072x1 ![0] Gen.bcast_S131072_S131072x1_0 (res_main_v26 (F := Ideal) V0) : IVec S131072x1 32) (ix2 p 0)
      = labAt (V0 (Proc.devRef .tc main_arg2)) p := fun p => by
    clean_types
    pointwise
    exact v26_apply V0 p
  have hd : (if (0 : EReal) < (((pixels (V0 (Proc.devRef .tc main_arg2)) k.val).card : ℝ) : EReal) then (((pixels (V0 (Proc.devRef .tc main_arg2)) k.val).card : ℝ) : EReal)
      else id (constant (F := Ideal) S_ FTy.f32 1065353216#32) ix0) = LossMath.denom (((pixels (V0 (Proc.devRef .tc main_arg2)) k.val).card : ℝ) : EReal) := by
    unfold LossMath.denom
    congr 1
    exact Ideal.ofBits_one_f32
  refine congrArg₂ Ideal.div (scatter_sum (V0 (Proc.devRef .tc main_arg2)) hL (V0 (Proc.devRef .tc main_arg0)) _ hw k ch _ ?_ _ ?_) hd
  · exact Ideal.ofBits_zero_f32
  · intro p c
    pointwise
    unfold featAt
    rfl

theorem v56_apply (V0 : Valuation τ sig (Elt Ideal)) (hL : ∀ j, ((V0 (Proc.devRef .tc main_arg2) : Labels) j).toNat < 19) (k : Fin 19) (ch : Fin 256) :
    @Eq EReal ((res_main_v56 (F := Ideal) V0 : S19x256.Idx → EReal) (ix2 k ch))
      (Ideal.div (∑ p ∈ pixels (V0 (Proc.devRef .tc main_arg2)) k.val, featAt (V0 (Proc.devRef .tc main_arg1)) ch p)
        (LossMath.denom (((pixels (V0 (Proc.devRef .tc main_arg2)) k.val).card : ℝ) : EReal))) := by
  unfold res_main_v56 res_main_v50 res_main_v43
  clean_types
  pointwise
  rw [v41_apply V0 hL]
  have hw : ∀ p : Fin 131072, (broadcastInDim S131072x1 ![0] Gen.bcast_S131072_S131072x1_0 (res_main_v26 (F := Ideal) V0) : IVec S131072x1 32) (ix2 p 0)
      = labAt (V0 (Proc.devRef .tc main_arg2)) p := fun p => by
    clean_types
    pointwise
    exact v26_apply V0 p
  have hd : (if (0 : EReal) < (((pixels (V0 (Proc.devRef .tc main_arg2)) k.val).card : ℝ) : EReal) then (((pixels (V0 (Proc.devRef .tc main_arg2)) k.val).card : ℝ) : EReal)
      else id (constant (F := Ideal) S_ FTy.f32 1065353216#32) ix0) = LossMath.denom (((pixels (V0 (Proc.devRef .tc main_arg2)) k.val).card : ℝ) : EReal) := by
    unfold LossMath.denom
    congr 1
    exact Ideal.ofBits_one_f32
  refine congrArg₂ Ideal.div (scatter_sum (V0 (Proc.devRef .tc main_arg2)) hL (V0 (Proc.devRef .tc main_arg1)) _ hw k ch _ ?_ _ ?_) hd
  · exact Ideal.ofBits_zero_f32
  · intro p c
    pointwise
    unfold featAt
    rfl

/-- The length below which a mean is not divided by its own, and the temperature, as the two programs spell them. -/
def eps : EReal := Ideal.ofBits FTy.f32 730643660#32
def temp : EReal := Ideal.ofBits FTy.f32 1036831949#32

/-- The count of class `k`, and its sums over the features `X`. -/
def cnt (L : Labels) (k : Fin 19) : EReal := (((pixels L k.val).card : ℝ) : EReal)
def sums (L : Labels) (X : Features) (k : Fin 19) (ch : Fin 256) : EReal := ∑ p ∈ pixels L k.val, featAt X ch p

/-- The reference's logits. -/
theorem v74_apply (V0 : Valuation τ sig (Elt Ideal)) (hL : ∀ j, ((V0 (Proc.devRef .tc main_arg2) : Labels) j).toNat < 19) (i j : Fin 19) :
    @Eq EReal ((res_main_v74 (F := Ideal) V0 : S19x19.Idx → EReal) (ix2 i j))
      (LossMath.logit eps temp (cnt (V0 (Proc.devRef .tc main_arg2)) i) (cnt (V0 (Proc.devRef .tc main_arg2)) j)
        (sums (V0 (Proc.devRef .tc main_arg2)) (V0 (Proc.devRef .tc main_arg0)) i) (sums (V0 (Proc.devRef .tc main_arg2)) (V0 (Proc.devRef .tc main_arg1)) j)) := by
  unfold res_main_v74 res_main_v43
  clean_types
  pointwise
  have h0 : @Eq EReal (id (constant (F := Ideal) S_ FTy.f32 0#32) ix0) 0 := Ideal.ofBits_zero_f32
  simp only [v41_apply V0 hL, v53_apply V0 hL, v56_apply V0 hL, h0]
  rfl

/-- The diagonal's gather, read at an index. -/
theorem gather_diag (X : S19x19.Idx → EReal) (idx : IVec S19x2 32) (i : Fin 19)
    (h0 : idx (ix2 i 0) = BitVec.ofNat 32 i.val) (h1 : idx (ix2 i 1) = BitVec.ofNat 32 i.val) :
    Host.gather gather_S19x19_S19x2_S19_n_01_n_n_01_1_11 X idx (ix1 i) = X (ix2 i i) := by
  have e : ∀ n : ℕ, n < 19 → (BitVec.ofNat 32 n).toInt.toNat = n := fun n hn => by
    rw [BitVec.toInt_eq_toNat_of_lt (by rw [BitVec.toNat_ofNat]; omega), BitVec.toNat_ofNat]; omega
  unfold Host.gather
  congr 1
  funext a
  refine Fin.ext ?_
  show GatherDims.start _ (ix1 i) idx a + GatherDims.batchCoord _ (ix1 i) a + GatherDims.offCoord _ (ix1 i) a = _
  have hs : ∀ c : Fin 2, GatherDims.siIdx gather_S19x19_S19x2_S19_n_01_n_n_01_1_11 (ix1 i) c = ix2 i c := fun c => by
    funext x; refine Fin.ext ?_
    match x with
    | ⟨0, _⟩ => rfl
    | ⟨1, _⟩ => rfl
  match a with
  | ⟨0, _⟩ =>
    have : min (idx (GatherDims.siIdx gather_S19x19_S19x2_S19_n_01_n_n_01_1_11 (ix1 i) (0 : Fin 2))).toInt.toNat 18 = i.val := by
      rw [hs 0, h0, e _ i.isLt]; omega
    exact this
  | ⟨1, _⟩ =>
    have : min (idx (GatherDims.siIdx gather_S19x19_S19x2_S19_n_01_n_n_01_1_11 (ix1 i) (1 : Fin 2))).toInt.toNat 18 = i.val := by
      rw [hs 1, h1, e _ i.isLt]; omega
    exact this

theorem wrap_class (i : Fin 19) (a : BitVec 32) :
    Scalar.select (IntOp.cmpi .slt (BitVec.ofNat 32 i.val) 0#32) a (BitVec.ofNat 32 i.val) = BitVec.ofNat 32 i.val :=
  Routing.wrap_of_lt _ _ (by rw [BitVec.toNat_ofNat]; omega)

/-- The index words of the diagonal. -/
def diagWords (V0 : Valuation τ sig (Elt Ideal)) : IVec S19 32 :=
  select (cmpi .slt (res_main_v75 (F := Ideal) V0) (broadcastInDim S19 ![] Gen.bcast_S_S19 (constantI S_ 32 0#32))) (addi (res_main_v75 (F := Ideal) V0) (broadcastInDim S19 ![] Gen.bcast_S_S19 (constantI S_ 32 19#32))) (res_main_v75 (F := Ideal) V0)

/-- The reference's result, as its run states it. -/
def result (V0 : Valuation τ sig (Elt Ideal)) : S1x1.Idx → EReal :=
  shapeCast _ (Host.divf (F := Ideal) (Host.reduceAdd (select (res_main_v43 V0) (Host.negf (Host.log (Host.divf (Host.exp (Host.gather gather_S19x19_S19x2_S19_n_01_n_n_01_1_11 (res_main_v74 V0) (concatenate S19x2 1 [⟨S19x1, (broadcastInDim S19x1 ![0] Gen.bcast_S19_S19x1_0 (diagWords V0))⟩, ⟨S19x1, (broadcastInDim S19x1 ![0] Gen.bcast_S19_S19x1_0 (diagWords V0))⟩] Gen.concatenates_S19x1_S19x1_S19x2_d1))) (Host.reduceAdd (Host.exp (res_main_v74 V0)) (constant S_ .f32 0x00000000#32) Gen.reducesTo_S19x19_S19_d1 Gen.h_S_)))) (broadcastInDim S19 ![] Gen.bcast_S_S19 (id (constant S_ .f32 0x00000000#32)))) (constant S_ .f32 0x00000000#32) Gen.reducesTo_S19_S_d0 Gen.h_S_) (maximumf (Host.reduceAdd (uitofp .f32 (res_main_v43 V0)) (constant S_ .f32 0x00000000#32) Gen.reducesTo_S19_S_d0 Gen.h_S_) (constant S_ .f32 0x3F800000#32))) Gen.shapeCasts_S_S1x1

/-- The reference's result is the loss over the 19 classes. -/
theorem result_apply (V0 : Valuation τ sig (Elt Ideal)) (hL : ∀ j, ((V0 (Proc.devRef .tc main_arg2) : Labels) j).toNat < 19) :
    result V0 (ix2 0 0) = LossMath.plain eps temp (cnt (V0 (Proc.devRef .tc main_arg2)))
      (sums (V0 (Proc.devRef .tc main_arg2)) (V0 (Proc.devRef .tc main_arg0))) (sums (V0 (Proc.devRef .tc main_arg2)) (V0 (Proc.devRef .tc main_arg1))) := by
  have hg : ∀ x : Fin 19, @Eq EReal (Host.gather gather_S19x19_S19x2_S19_n_01_n_n_01_1_11 (res_main_v74 (F := Ideal) V0)
      (concatenate S19x2 1 [⟨S19x1, broadcastInDim S19x1 ![0] Gen.bcast_S19_S19x1_0 (diagWords V0)⟩, ⟨S19x1, broadcastInDim S19x1 ![0] Gen.bcast_S19_S19x1_0 (diagWords V0)⟩]
        Gen.concatenates_S19x1_S19x1_S19x2_d1) (ix1 x)) (LossMath.logit eps temp (cnt (V0 (Proc.devRef .tc main_arg2)) x) (cnt (V0 (Proc.devRef .tc main_arg2)) x)
        (sums (V0 (Proc.devRef .tc main_arg2)) (V0 (Proc.devRef .tc main_arg0)) x) (sums (V0 (Proc.devRef .tc main_arg2)) (V0 (Proc.devRef .tc main_arg1)) x)) := fun x => by
    refine (gather_diag _ _ x ?_ ?_).trans (v74_apply V0 hL x x)
    · unfold diagWords res_main_v75
      clean_types
      pointwise
      exact wrap_class x _
    · unfold diagWords res_main_v75
      clean_types
      pointwise
      exact wrap_class x _
  have h0 : @Eq EReal (id (constant (F := Ideal) S_ FTy.f32 0#32) ix0) 0 := Ideal.ofBits_zero_f32
  have hu : ∀ p : Prop, ∀ [Decidable p], @Eq EReal (FloatOps.uitofp (F := Ideal) FTy.f32 (BitVec.ofBool (decide p))) (if p then 1 else 0) := fun p _ => by
    show (((BitVec.ofBool (decide p)).toNat : ℝ) : EReal) = _
    by_cases h : p <;> simp [h]
  unfold result res_main_v43
  clean_types
  pointwise
  simp only [hg, v41_apply V0 hL, v74_apply V0 hL, h0, hu]
  rfl

end Cert.ReferenceIdeal

end
-- ==== Proof.Value.Loss.lean ====
module

public import proofs.«01_k».proof.Proof.Value.KerRead
public import proofs.«01_k».proof.Proof.Value.RefRead

@[expose] public section

set_option maxRecDepth 16384

/-! What the kernel computes is what the reference computes. -/

noncomputable section

namespace Cert.KernelIdeal.Gen

open Idealize.ShloMosaic Idealize.ShloMosaic.TcCoe
open scoped BigOperators
open Cert.ReferenceIdeal (Labels Features labAt featAt pixels eps temp cnt sums)

/-! ## The last point -/

theorem below_eq : ∀ y : Fin 32, IntOp.cmpi CmpIPredicate.slt (BitVec.ofNat 32 y.val) 19#32 = BitVec.ofBool (decide (y.val < 19)) := by decide
theorem same_eq : ∀ x y : Fin 32, IntOp.cmpi CmpIPredicate.eq (BitVec.ofNat 32 x.val) (BitVec.ofNat 32 y.val) = BitVec.ofBool (decide (x = y)) := by decide
theorem select_eq (p : Prop) [Decidable p] (a b : EReal) : @Eq EReal (Scalar.select (BitVec.ofBool (decide p)) a b) (if p then a else b) := by
  by_cases h : p <;> simp [h, Scalar.select]

/-- The loss the last point forms from the counts and the sums. -/
theorem lossOf_apply (s u : Vec Ideal S256x32 .f32) (n : Vec Ideal S32x128 .f32) :
    @Eq EReal (lossOf s u n (ix2 0 0)) (LossMath.padded eps temp (fun x => ∑ w, (n (ix2 x w) : EReal)) (fun x ch => s (ix2 ch x)) (fun x ch => u (ix2 ch x))) := by
  unfold lossOf
  unfold_payloads
  pointwise
  simp only [below_eq, same_eq, select_eq]
  rfl

/-! ## The pixels, point by point -/

/-- Pixel `w` of row `r` of a point's group. -/
def pix (t : Fin 128) (r : Fin 8) (w : Fin 128) : Fin 131072 := ⟨(t.val * 8 + r.val) * 128 + w.val, by omega⟩

theorem sum_split {M : Type} [AddCommMonoid M] (a b c n : ℕ) (h : n = a * b * c) (f : Fin n → M)
    (hb : ∀ (t : Fin a) (r : Fin b) (w : Fin c), (t.val * b + r.val) * c + w.val < n) :
    ∑ p, f p = ∑ t : Fin a, ∑ r : Fin b, ∑ w : Fin c, f ⟨(t.val * b + r.val) * c + w.val, hb t r w⟩ := by
  subst h
  rw [← finProdFinEquiv.sum_comp, Fintype.sum_prod_type, ← finProdFinEquiv.sum_comp, Fintype.sum_prod_type]
  refine Finset.sum_congr rfl fun t _ => Finset.sum_congr rfl fun r _ => Finset.sum_congr rfl fun w _ => congrArg f (Fin.ext ?_)
  show w.val + c * (r.val + b * t.val) = (t.val * b + r.val) * c + w.val
  ring

theorem sum_pix (f : Fin 131072 → EReal) : ∑ p, f p = ∑ t : Fin 128, ∑ r : Fin 8, ∑ w : Fin 128, f (pix t r w) :=
  sum_split 128 8 128 131072 (by norm_num) f fun t r w => by omega

theorem fold_sum (f g : ℕ → EReal) (h0 : f 0 = 0) (hs : ∀ k, f (k + 1) = f k + g k) (n : ℕ) : f n = ∑ t : Fin n, g t.val := by
  rw [← Finset.sum_range]
  induction n with
  | zero => rw [h0, Finset.sum_range_zero]
  | succ n ih => rw [hs, ih, Finset.sum_range_succ]

theorem labAt_pix (L : Labels) (t : Fin 128) (r : Fin 8) (w : Fin 128) :
    labAt L (pix t r w) = L (ix3 ⟨t.val / 16, by omega⟩ ⟨4 * (t.val % 16 * 8 + r.val), by omega⟩ ⟨4 * w.val, by omega⟩) := by
  unfold labAt
  refine congrArg L ?_
  have e0 : (pix t r w).val = (t.val * 8 + r.val) * 128 + w.val := rfl
  congr 1 <;> refine Fin.ext ?_
  · show (pix t r w).val / 16384 = t.val / 16
    omega
  · show 4 * ((pix t r w).val / 128 % 128) = 4 * (t.val % 16 * 8 + r.val)
    omega
  · show 4 * ((pix t r w).val % 128) = 4 * w.val
    omega

theorem featAt_pix (X : Features) (ch : Fin 256) (t : Fin 128) (r : Fin 8) (w : Fin 128) :
    featAt X ch (pix t r w) = X (ix4 ⟨t.val / 16, by omega⟩ ch ⟨t.val % 16 * 8 + r.val, by omega⟩ w) := by
  unfold featAt
  refine congrArg X ?_
  have e0 : (pix t r w).val = (t.val * 8 + r.val) * 128 + w.val := rfl
  congr 1 <;> refine Fin.ext ?_
  · show (pix t r w).val / 16384 = t.val / 16
    omega
  · show (pix t r w).val / 128 % 128 = t.val % 16 * 8 + r.val
    omega
  · show (pix t r w).val % 128 = w.val
    omega

/-- A label's value is class `k` when its word is `k`. -/
theorem hit_word (b : BitVec 32) (k : Fin 32) : hit ((b.toInt : ℝ) : EReal) k = if b.toNat = k.val then 1 else 0 := by
  unfold hit
  refine if_congr ?_ rfl rfl
  rw [EReal.coe_eq_coe_iff]
  have e : ((b.toInt : ℝ) = (k.val : ℝ)) ↔ b.toInt = (k.val : ℤ) := by
    rw [← Int.cast_natCast (R := ℝ) k.val]; exact Int.cast_inj
  rw [e, BitVec.toInt_eq_toNat_cond]
  have := b.isLt
  have := k.isLt
  split <;> omega

variable (m : (ℓ : Loc nD τ sig) → Buf (Elt Ideal) ℓ)

/-- The label the kernel uses at a pixel is the one the reference uses. -/
theorem lab_pix (c : Dev nD) (t : Fin 128) (r : Fin 8) (w : Fin 128) :
    @Eq EReal (rowL (pt t.val) (labS m c t.val) r (ix2 0 w)) ((((labAt (V m c main_arg2 : Labels) (pix t r w)).toInt : ℝ)) : EReal) := by
  have hp : (pt t.val).val = t.val := Nat.mod_eq_of_lt t.isLt
  have hq : (pt (t.val / 16 * 16)).val = t.val / 16 * 16 := Nat.mod_eq_of_lt (by omega)
  rw [rowL_read (pt t.val) (labS m c t.val) r w (by rw [hp]; omega)]
  unfold labS
  rw [lab_apply, iblk_read m c _ _ _ (by rw [hq]; omega), labAt_pix]
  congr 4
  congr 1 <;> refine Fin.ext ?_
  · show (pt (t.val / 16 * 16)).val / 16 = t.val / 16
    omega
  · show 4 * ((pt t.val).val % 16 * 8 + r.val) = 4 * (t.val % 16 * 8 + r.val)
    rw [hp]

theorem feat_pix1 (c : Dev nD) (t : Fin 128) (r : Fin 8) (ch : Fin 256) (w : Fin 128) :
    @Eq EReal (rowA (F := Ideal) c hbM1 (pt t.val) (V m c main_arg0) r (ix4 0 0 ch w)) (featAt (V m c main_arg0 : Features) ch (pix t r w)) := by
  have hp : (pt t.val).val = t.val := Nat.mod_eq_of_lt t.isLt
  rw [row_read1 c (pt t.val) (V m c main_arg0) r ch w (by rw [hp]; omega) (by rw [hp]; omega), featAt_pix]
  congr 3 <;> rw [hp]

theorem feat_pix2 (c : Dev nD) (t : Fin 128) (r : Fin 8) (ch : Fin 256) (w : Fin 128) :
    @Eq EReal (rowA (F := Ideal) c hbM2 (pt t.val) (V m c main_arg1) r (ix4 0 0 ch w)) (featAt (V m c main_arg1 : Features) ch (pix t r w)) := by
  have hp : (pt t.val).val = t.val := Nat.mod_eq_of_lt t.isLt
  rw [row_read2 c (pt t.val) (V m c main_arg1) r ch w (by rw [hp]; omega) (by rw [hp]; omega), featAt_pix]
  congr 3 <;> rw [hp]

/-! ## The accumulators at the end -/

theorem two_parts (x : Fin 128 → EReal) (q : Fin 128 → Prop) [DecidablePred q] :
    ∑ w, x w * (if q w then (1 : EReal) else 0) + ∑ w, (x w - x w) * (if q w then (1 : EReal) else 0) = ∑ w, if q w then x w + (x w - x w) else 0 := by
  rw [← Finset.sum_add_distrib]
  refine Finset.sum_congr rfl fun w _ => ?_
  by_cases h : q w
  · rw [if_pos h, if_pos h, mul_one, mul_one]
  · rw [if_neg h, if_neg h, mul_zero, mul_zero, add_zero]

theorem accS_end (c : Dev nD) (ch : Fin 256) (k : Fin 32) :
    @Eq EReal (accS m c 128 (ix2 ch k)) (∑ p ∈ pixels (V m c main_arg2) k.val, (featAt (V m c main_arg0) ch p + (featAt (V m c main_arg0) ch p - featAt (V m c main_arg0) ch p))) := by
  unfold pixels
  rw [Finset.sum_filter, sum_pix]
  refine (fold_sum (fun n => (accS m c n (ix2 ch k) : EReal)) _ (zeroS _) (fun n => stepS_apply _ _ _ ch k) 128).trans ?_
  refine Finset.sum_congr rfl fun t _ => Finset.sum_congr rfl fun r _ => ?_
  simp only [feat_pix1, lab_pix, hit_word]
  exact two_parts _ _

theorem accT_end (c : Dev nD) (ch : Fin 256) (k : Fin 32) :
    @Eq EReal (accT m c 128 (ix2 ch k)) (∑ p ∈ pixels (V m c main_arg2) k.val, (featAt (V m c main_arg1) ch p + (featAt (V m c main_arg1) ch p - featAt (V m c main_arg1) ch p))) := by
  unfold pixels
  rw [Finset.sum_filter, sum_pix]
  refine (fold_sum (fun n => (accT m c n (ix2 ch k) : EReal)) _ (zeroT _) (fun n => stepT_apply _ _ _ ch k) 128).trans ?_
  refine Finset.sum_congr rfl fun t _ => Finset.sum_congr rfl fun r _ => ?_
  simp only [feat_pix2, lab_pix, hit_word]
  exact two_parts _ _

theorem cntN_end (c : Dev nD) (k : Fin 32) :
    @Eq EReal (∑ w, (cntN m c 128 (ix2 k w) : EReal)) (((pixels (V m c main_arg2) k.val).card : ℝ) : EReal) := by
  have e : ∀ w : Fin 128, @Eq EReal (cntN m c 128 (ix2 k w)) (∑ t : Fin 128, ∑ r : Fin 8, if (labAt (V m c main_arg2 : Labels) (pix t r w)).toNat = k.val then 1 else 0) := fun w => by
    refine (fold_sum (fun n => (cntN m c n (ix2 k w) : EReal)) _ (zeroN _) (fun n => stepN_apply _ _ k w) 128).trans ?_
    refine Finset.sum_congr rfl fun t _ => Finset.sum_congr rfl fun r _ => ?_
    rw [lab_pix, hit_word]
  rw [Finset.sum_congr rfl fun w _ => e w, Finset.sum_comm]
  rw [Finset.sum_congr rfl fun t _ => Finset.sum_comm]
  rw [← sum_pix fun p => if (labAt (V m c main_arg2 : Labels) p).toNat = k.val then 1 else 0]
  rw [Finset.sum_boole]
  rfl

/-! ## The two programs' results -/

/-- The small constant the norms are kept above is a positive real. -/
theorem eps_real : ∃ r : ℝ, 0 < r ∧ eps = (r : EReal) := by
  refine ⟨9223372 * (2 ^ 63)⁻¹, by norm_num, ?_⟩
  unfold eps
  simp [Ideal.ofBits, Ideal.ieee, -EReal.coe_mul]
  try norm_num

/-- The temperature is a real other than zero. -/
theorem temp_real : ∃ r : ℝ, r ≠ 0 ∧ temp = (r : EReal) := by
  refine ⟨13421773 * (2 ^ 27)⁻¹, by norm_num, ?_⟩
  unfold temp
  simp [Ideal.ofBits, Ideal.ieee, -EReal.coe_mul]
  try norm_num

/-- The kernel's loss is the reference's on any arrays whose labels name classes. -/
theorem lossK_eq (c : Dev nD) (hL : ∀ j, ((V m c main_arg2 : Labels) j).toNat < 19) :
    @Eq EReal (lossK m c (ix2 0 0)) (LossMath.plain eps temp (cnt (V m c main_arg2)) (sums (V m c main_arg2) (V m c main_arg0)) (sums (V m c main_arg2) (V m c main_arg1))) := by
  obtain ⟨e, he, hee⟩ := eps_real
  obtain ⟨τ', hτ, hττ⟩ := temp_real
  unfold lossK
  rw [lossOf_apply, hee, hττ]
  refine LossMath.padded_eq_plain he hτ _ _ _ _ _ _ (fun x hx => ?_) (fun x => ?_) (fun x => ⟨_, rfl⟩) (fun x ch => ?_) (fun x ch => ?_)
  · rw [cntN_end]
    have : pixels (V m c main_arg2) x.val = ∅ := Finset.filter_eq_empty_iff.mpr fun p _ h => by
      have := hL (ix3 ⟨p.val / 16384, by omega⟩ ⟨4 * (p.val / 128 % 128), by omega⟩ ⟨4 * (p.val % 128), by omega⟩)
      unfold labAt at h
      omega
    rw [this, Finset.card_empty, Nat.cast_zero]; rfl
  · rw [cntN_end]; rfl
  · rw [accS_end]; exact LossMath.split_alike _ _
  · rw [accT_end]; exact LossMath.split_alike _ _

end Cert.KernelIdeal.Gen

end
-- ==== Proof.Value.Run.lean ====
module

public import proofs.«01_k».proof.Proof.Value.Loss
public import Idealize.ShloMosaic.Lib.Pipeline.ArrRel
public import Idealize.ShloMosaic.Lib.Pipeline.ValueKit.Geometry

@[expose] public section

set_option maxRecDepth 16384

/-! The kernel's run, with what it leaves in its result. -/

noncomputable section

namespace Cert.KernelIdeal.Gen

open Idealize.ShloMosaic Idealize.ShloMosaic.TcCoe Idealize.SL.Sem
open Idealize.ShloMosaic.Pipeline (Dat RDat Cfg Window)

/-- The result is written back once, whole, after the last point. -/
theorem whole1 : (cfg0.win 1).WholeAt (pt 127) :=
  ⟨(flush0_1 _).mpr (by decide), fun t h => Fin.ext (by
      have h1 := (flush0_1 t).mp h
      have h2 : t.val < 128 := lt_of_lt_of_eq t.isLt N_0
      show t.val = 127
      omega), fun a => by fin_cases a <;> exact ⟨rfl, rfl⟩⟩

variable (m : (ℓ : Loc nD τ sig) → Buf (Elt Ideal) ℓ) (ρ : Dev nD → PrngReg)

/-- The kernel runs, leaves its loss in its result, and its arguments as launched. -/
theorem run_value : θ_run defs (onTc (τ := τ) (main (F := Ideal))) ⟨m, fun _ => 0, ρ⟩ (fun r => ∀ c : Dev nD,
      r.2.mem ((c.tc : Thread nD τ).loc main_v0) = (lossK m c : S1x1.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    refine ⟨?_, ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 0 rfl).trans ((A_eq m c 0).trans (V_main_arg2 m c))⟩
    obtain ⟨X, hX, hG⟩ := RDat.ArrAt.emb_eq_of_wholeAt ((h.1 c).1 1) whole1
    have e : (show S1x1.Idx → EReal from X) = lossK m c := Dat.toRRel_leaves (dats m 0 c) (fgt := forgets0) (Rl := rel0 m c) (w := 1) rfl hX (by decide)
    funext j
    exact (hG j).trans (congrFun e j)) (run_main_quiescent m ρ)

end Cert.KernelIdeal.Gen

end
-- ==== Proof.lean ====
module

public import proofs.«01_k».proof.Defs
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Run

@[expose] public section

noncomputable section

namespace Cert.Proof

open Idealize.ShloMosaic Idealize.SL.Sem

/-- The reference's run, read at its arguments. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's run, with its result named. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v102) = Cert.ReferenceIdeal.result (StableHlo.launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  Cert.ReferenceIdeal.Value.run (F := Ideal) m ρ

/-- The predicate's one shape fact. -/
theorem names_classes : Cert.Pre_labels_name_classes.Facts := ⟨by decide⟩

/-- A word at least zero and below nineteen, as the predicate compares them, is below nineteen. -/
theorem word_lt (b : BitVec 32) (h : IntOp.andi (IntOp.cmpi .sge b 0#32) (IntOp.cmpi .slt b 19#32) = 1#1) : b.toNat < 19 := by
  have h1 : BitVec.ofBool ((0#32).sle b) &&& BitVec.ofBool (b.slt 19#32) = 1#1 := h
  have h2 : (0#32).sle b = true ∧ b.slt 19#32 = true := by
    cases e1 : (0#32).sle b <;> cases e2 : b.slt 19#32 <;> rw [e1, e2] at h1 <;> revert h1 <;> decide
  have h3 : (0#32).toInt ≤ b.toInt := by simpa [BitVec.sle] using h2.1
  have h4 : b.toInt < (19#32).toInt := by simpa [BitVec.slt] using h2.2
  have e0 : (0#32).toInt = 0 := by decide
  have e19 : (19#32).toInt = 19 := by decide
  rw [e0] at h3
  rw [e19] at h4
  rw [BitVec.toInt_eq_toNat_cond] at h3 h4
  have := b.isLt
  split at h3 <;> split at h4 <;> omega

/-- The two programs' losses are equal when every label names a class. -/
theorem algebraic : Cert.algebraic_KernelIdeal_ReferenceIdeal_pre_labels_name_classes (hKernelIdeal := Cert.KernelIdeal.Gen.facts)
    (hReferenceIdeal := Cert.ReferenceIdeal.Gen.facts) (hPre_labels_name_classes := names_classes) := by
  intro m g m' g' hpre hargs
  refine ⟨fun c => Cert.KernelIdeal.Gen.lossK m c, Cert.KernelIdeal.Gen.run_value m g,
    (θ_run Cert.ReferenceIdeal.defs _ _).mono (fun r h c => ⟨(h c).1.trans ?_, (h c).2⟩) (run_reference m' g')⟩
  obtain ⟨h0, h1, h2⟩ := hargs c
  have hL : ∀ j, ((m ((c.tc : Thread Cert.KernelIdeal.nD Cert.KernelIdeal.τ).loc Cert.KernelIdeal.main_arg2) : Cert.ReferenceIdeal.Labels) j).toNat < 19 :=
    fun j => word_lt _ (congrFun (hpre c) j)
  have hK := Cert.KernelIdeal.Gen.lossK_eq m c hL
  have hR := Cert.ReferenceIdeal.result_apply (StableHlo.launchContents m' c) (fun j => by
    show ((m' ((c.tc : Thread Cert.ReferenceIdeal.nD Cert.ReferenceIdeal.τ).loc Cert.ReferenceIdeal.main_arg2) : Cert.ReferenceIdeal.Labels) j).toNat < 19
    rw [h2]; exact hL j)
  refine @funext Cert.ReferenceIdeal.S1x1.Idx (fun _ => EReal) _ _ fun j => ?_
  have hj : j = ix2 0 0 := funext fun a => by fin_cases a <;> exact @Subsingleton.elim (Fin 1) _ _ _
  rw [hj]
  refine hR.trans (Eq.trans ?_ hK.symm)
  show LossMath.plain _ _ (Cert.ReferenceIdeal.cnt (m' ((c.tc : Thread Cert.ReferenceIdeal.nD Cert.ReferenceIdeal.τ).loc Cert.ReferenceIdeal.main_arg2)))
    (Cert.ReferenceIdeal.sums (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg0)))
    (Cert.ReferenceIdeal.sums (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg1))) = _
  rw [h0, h1, h2]

theorem claim : Cert.Claim := ⟨Cert.Kernel.Gen.facts, Cert.KernelIdeal.Gen.facts, Cert.ReferenceIdeal.Gen.facts, names_classes,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
